-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1000000 : Shape := ⟨1, ![1000000]⟩
abbrev S10x20 : Shape := ⟨2, ![10, 20]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : IVec S1000000 32) (main_arg1 : FVec F S10x20 .f32) : IVec S_ 1 :=
  let main_c : IVec S_ 32 := constantI S_ 32 0#32
  let main_v0 : IVec S1000000 32 := broadcastInDim S1000000 ![] bcast_S_S1000000 main_c
  let main_v1 : IVec S1000000 1 := cmpi .sge main_arg0 main_v0
  let main_c_0 : IVec S_ 32 := constantI S_ 32 128#32
  let main_v2 : IVec S1000000 32 := broadcastInDim S1000000 ![] bcast_S_S1000000 main_c_0
  let main_v3 : IVec S1000000 1 := cmpi .slt main_arg0 main_v2
  let main_v4 : IVec S1000000 1 := andi main_v1 main_v3
  let main_c_1 : IVec S_ 1 := constantI S_ 1 1#1
  let main_v5 : IVec S_ 1 := (fun x v => Host.reduce IntOp.andi x v reducesTo_S1000000_S_d0 h_S_) main_v4 main_c_1
  main_v5
-- ==== Kernel.lean ====
abbrev S1000000 : Shape := ⟨1, ![1000000]⟩
abbrev S10x20 : Shape := ⟨2, ![10, 20]⟩
abbrev S200 : Shape := ⟨1, ![200]⟩
abbrev S20x1000000 : Shape := ⟨2, ![20, 1000000]⟩
abbrev S2560 : Shape := ⟨1, ![2560]⟩
abbrev S1024 : Shape := ⟨1, ![1024]⟩
abbrev S24x1024 : Shape := ⟨2, ![24, 1024]⟩
abbrev S20x576 : Shape := ⟨2, ![20, 576]⟩
abbrev S576 : Shape := ⟨1, ![576]⟩
abbrev S_ : Shape := ⟨0, ![]⟩
abbrev S16 : Shape := ⟨1, ![16]⟩
abbrev S20x1024 : Shape := ⟨2, ![20, 1024]⟩
abbrev S1x16 : Shape := ⟨2, ![1, 16]⟩
abbrev S1000000x20 : Shape := ⟨2, ![1000000, 20]⟩

abbrev nBuf : Table → Nat
  | .hbm => 5
  | .local .scVector .vmem => 8
  | _ => 0

abbrev bufTy : (tb : Table) → Fin (nBuf tb) → BufTy
  | .hbm, ⟨0, _⟩ => ⟨S1000000, .i32⟩
  | .hbm, ⟨1, _⟩ => ⟨S10x20, .f32⟩
  | .hbm, ⟨2, _⟩ => ⟨S200, .f32⟩
  | .hbm, ⟨3, _⟩ => ⟨S20x1000000, .f32⟩
  | .hbm, ⟨4, _⟩ => ⟨S1000000x20, .f32⟩
  | .local .scVector .vmem, ⟨0, _⟩ => ⟨S200, .f32⟩
  | .local .scVector .vmem, ⟨1, _⟩ => ⟨S2560, .f32⟩
  | .local .scVector .vmem, ⟨2, _⟩ => ⟨S1024, .i32⟩
  | .local .scVector .vmem, ⟨3, _⟩ => ⟨S1024, .i32⟩
  | .local .scVector .vmem, ⟨4, _⟩ => ⟨S24x1024, .f32⟩
  | .local .scVector .vmem, ⟨5, _⟩ => ⟨S24x1024, .f32⟩
  | .local .scVector .vmem, ⟨6, _⟩ => ⟨S20x576, .f32⟩
  | .local .scVector .vmem, ⟨7, _⟩ => ⟨S576, .i32⟩
  | _, _ => ⟨S1000000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v63 : IVec S16 32) : Prop :=
  (∀ a x, ((![v63] : Fin 1 → IVec S16 32) a x).toNat < S200.size a)
theorem k0_idx1_inb : ∀ (v63 : IVec S16 32) (k0_hw1 : k0_chk1 v63), ∀ a x, ((![v63] : Fin 1 → IVec S16 32) a x).toNat < S200.size a := fun v63 k0_hw1 => k0_hw1

def k0_chk2 (v66 : IVec S16 32) : Prop :=
  (∀ a x, ((![v66] : Fin 1 → IVec S16 32) a x).toNat < S2560.size a)
theorem k0_idx2_inb : ∀ (v66 : IVec S16 32) (k0_hw2 : k0_chk2 v66), ∀ a x, ((![v66] : Fin 1 → IVec S16 32) a x).toNat < S2560.size a := fun v66 k0_hw2 => k0_hw2

def k0_chk3 (v68 : IVec S16 32) : Prop :=
  (∀ a x, ((![v68] : Fin 1 → IVec S16 32) a x).toNat < S200.size a)
theorem k0_idx3_inb : ∀ (v68 : IVec S16 32) (k0_hw3 : k0_chk3 v68), ∀ a x, ((![v68] : Fin 1 → IVec S16 32) a x).toNat < S200.size a := fun v68 k0_hw3 => k0_hw3

def k0_chk4 (v71 : IVec S16 32) : Prop :=
  (∀ a x, ((![v71] : Fin 1 → IVec S16 32) a x).toNat < S2560.size a)
theorem k0_idx4_inb : ∀ (v71 : IVec S16 32) (k0_hw4 : k0_chk4 v71), ∀ a x, ((![v71] : Fin 1 → IVec S16 32) a x).toNat < S2560.size a := fun v71 k0_hw4 => k0_hw4

def k0_chk5 (v73 : IVec S16 32) : Prop :=
  (∀ a x, ((![v73] : Fin 1 → IVec S16 32) a x).toNat < S200.size a)
theorem k0_idx5_inb : ∀ (v73 : IVec S16 32) (k0_hw5 : k0_chk5 v73), ∀ a x, ((![v73] : Fin 1 → IVec S16 32) a x).toNat < S200.size a := fun v73 k0_hw5 => k0_hw5

def k0_chk6 (v76 : IVec S16 32) : Prop :=
  (∀ a x, ((![v76] : Fin 1 → IVec S16 32) a x).toNat < S2560.size a)
theorem k0_idx6_inb : ∀ (v76 : IVec S16 32) (k0_hw6 : k0_chk6 v76), ∀ a x, ((![v76] : Fin 1 → IVec S16 32) a x).toNat < S2560.size a := fun v76 k0_hw6 => k0_hw6

def k0_chk7 (v78 : IVec S16 32) : Prop :=
  (∀ a x, ((![v78] : Fin 1 → IVec S16 32) a x).toNat < S200.size a)
theorem k0_idx7_inb : ∀ (v78 : IVec S16 32) (k0_hw7 : k0_chk7 v78), ∀ a x, ((![v78] : Fin 1 → IVec S16 32) a x).toNat < S200.size a := fun v78 k0_hw7 => k0_hw7

def k0_chk8 (v81 : IVec S16 32) : Prop :=
  (∀ a x, ((![v81] : Fin 1 → IVec S16 32) a x).toNat < S2560.size a)
theorem k0_idx8_inb : ∀ (v81 : IVec S16 32) (k0_hw8 : k0_chk8 v81), ∀ a x, ((![v81] : Fin 1 → IVec S16 32) a x).toNat < S2560.size a := fun v81 k0_hw8 => k0_hw8

def k0_chk9 (v83 : IVec S16 32) : Prop :=
  (∀ a x, ((![v83] : Fin 1 → IVec S16 32) a x).toNat < S200.size a)
theorem k0_idx9_inb : ∀ (v83 : IVec S16 32) (k0_hw9 : k0_chk9 v83), ∀ a x, ((![v83] : Fin 1 → IVec S16 32) a x).toNat < S200.size a := fun v83 k0_hw9 => k0_hw9

def k0_chk10 (v86 : IVec S16 32) : Prop :=
  (∀ a x, ((![v86] : Fin 1 → IVec S16 32) a x).toNat < S2560.size a)
theorem k0_idx10_inb : ∀ (v86 : IVec S16 32) (k0_hw10 : k0_chk10 v86), ∀ a x, ((![v86] : Fin 1 → IVec S16 32) a x).toNat < S2560.size a := fun v86 k0_hw10 => k0_hw10

def k0_chk11 (v88 : IVec S16 32) : Prop :=
  (∀ a x, ((![v88] : Fin 1 → IVec S16 32) a x).toNat < S200.size a)
theorem k0_idx11_inb : ∀ (v88 : IVec S16 32) (k0_hw11 : k0_chk11 v88), ∀ a x, ((![v88] : Fin 1 → IVec S16 32) a x).toNat < S200.size a := fun v88 k0_hw11 => k0_hw11

def k0_chk12 (v91 : IVec S16 32) : Prop :=
  (∀ a x, ((![v91] : Fin 1 → IVec S16 32) a x).toNat < S2560.size a)
theorem k0_idx12_inb : ∀ (v91 : IVec S16 32) (k0_hw12 : k0_chk12 v91), ∀ a x, ((![v91] : Fin 1 → IVec S16 32) a x).toNat < S2560.size a := fun v91 k0_hw12 => k0_hw12

def k0_chk13 (v93 : IVec S16 32) : Prop :=
  (∀ a x, ((![v93] : Fin 1 → IVec S16 32) a x).toNat < S200.size a)
theorem k0_idx13_inb : ∀ (v93 : IVec S16 32) (k0_hw13 : k0_chk13 v93), ∀ a x, ((![v93] : Fin 1 → IVec S16 32) a x).toNat < S200.size a := fun v93 k0_hw13 => k0_hw13

def k0_chk14 (v96 : IVec S16 32) : Prop :=
  (∀ a x, ((![v96] : Fin 1 → IVec S16 32) a x).toNat < S2560.size a)
theorem k0_idx14_inb : ∀ (v96 : IVec S16 32) (k0_hw14 : k0_chk14 v96), ∀ a x, ((![v96] : Fin 1 → IVec S16 32) a x).toNat < S2560.size a := fun v96 k0_hw14 => k0_hw14

def k0_chk15 (v98 : IVec S16 32) : Prop :=
  (∀ a x, ((![v98] : Fin 1 → IVec S16 32) a x).toNat < S200.size a)
theorem k0_idx15_inb : ∀ (v98 : IVec S16 32) (k0_hw15 : k0_chk15 v98), ∀ a x, ((![v98] : Fin 1 → IVec S16 32) a x).toNat < S200.size a := fun v98 k0_hw15 => k0_hw15

def k0_chk16 (v101 : IVec S16 32) : Prop :=
  (∀ a x, ((![v101] : Fin 1 → IVec S16 32) a x).toNat < S2560.size a)
theorem k0_idx16_inb : ∀ (v101 : IVec S16 32) (k0_hw16 : k0_chk16 v101), ∀ a x, ((![v101] : Fin 1 → IVec S16 32) a x).toNat < S2560.size a := fun v101 k0_hw16 => k0_hw16

def k0_chk17 (v103 : IVec S16 32) : Prop :=
  (∀ a x, ((![v103] : Fin 1 → IVec S16 32) a x).toNat < S200.size a)
theorem k0_idx17_inb : ∀ (v103 : IVec S16 32) (k0_hw17 : k0_chk17 v103), ∀ a x, ((![v103] : Fin 1 → IVec S16 32) a x).toNat < S200.size a := fun v103 k0_hw17 => k0_hw17

def k0_chk18 (v106 : IVec S16 32) : Prop :=
  (∀ a x, ((![v106] : Fin 1 → IVec S16 32) a x).toNat < S2560.size a)
theorem k0_idx18_inb : ∀ (v106 : IVec S16 32) (k0_hw18 : k0_chk18 v106), ∀ a x, ((![v106] : Fin 1 → IVec S16 32) a x).toNat < S2560.size a := fun v106 k0_hw18 => k0_hw18

def k0_chk19 (v108 : IVec S16 32) : Prop :=
  (∀ a x, ((![v108] : Fin 1 → IVec S16 32) a x).toNat < S200.size a)
theorem k0_idx19_inb : ∀ (v108 : IVec S16 32) (k0_hw19 : k0_chk19 v108), ∀ a x, ((![v108] : Fin 1 → IVec S16 32) a x).toNat < S200.size a := fun v108 k0_hw19 => k0_hw19

def k0_chk20 (v111 : IVec S16 32) : Prop :=
  (∀ a x, ((![v111] : Fin 1 → IVec S16 32) a x).toNat < S2560.size a)
theorem k0_idx20_inb : ∀ (v111 : IVec S16 32) (k0_hw20 : k0_chk20 v111), ∀ a x, ((![v111] : Fin 1 → IVec S16 32) a x).toNat < S2560.size a := fun v111 k0_hw20 => k0_hw20

def k0_chk21 (v113 : IVec S16 32) : Prop :=
  (∀ a x, ((![v113] : Fin 1 → IVec S16 32) a x).toNat < S200.size a)
theorem k0_idx21_inb : ∀ (v113 : IVec S16 32) (k0_hw21 : k0_chk21 v113), ∀ a x, ((![v113] : Fin 1 → IVec S16 32) a x).toNat < S200.size a := fun v113 k0_hw21 => k0_hw21

def k0_chk22 (v116 : IVec S16 32) : Prop :=
  (∀ a x, ((![v116] : Fin 1 → IVec S16 32) a x).toNat < S2560.size a)
theorem k0_idx22_inb : ∀ (v116 : IVec S16 32) (k0_hw22 : k0_chk22 v116), ∀ a x, ((![v116] : Fin 1 → IVec S16 32) a x).toNat < S2560.size a := fun v116 k0_hw22 => k0_hw22

def k0_chk23 (v118 : IVec S16 32) : Prop :=
  (∀ a x, ((![v118] : Fin 1 → IVec S16 32) a x).toNat < S200.size a)
theorem k0_idx23_inb : ∀ (v118 : IVec S16 32) (k0_hw23 : k0_chk23 v118), ∀ a x, ((![v118] : Fin 1 → IVec S16 32) a x).toNat < S200.size a := fun v118 k0_hw23 => k0_hw23

def k0_chk24 (v121 : IVec S16 32) : Prop :=
  (∀ a x, ((![v121] : Fin 1 → IVec S16 32) a x).toNat < S2560.size a)
theorem k0_idx24_inb : ∀ (v121 : IVec S16 32) (k0_hw24 : k0_chk24 v121), ∀ a x, ((![v121] : Fin 1 → IVec S16 32) a x).toNat < S2560.size a := fun v121 k0_hw24 => k0_hw24

def k0_chk25 (v123 : IVec S16 32) : Prop :=
  (∀ a x, ((![v123] : Fin 1 → IVec S16 32) a x).toNat < S200.size a)
theorem k0_idx25_inb : ∀ (v123 : IVec S16 32) (k0_hw25 : k0_chk25 v123), ∀ a x, ((![v123] : Fin 1 → IVec S16 32) a x).toNat < S200.size a := fun v123 k0_hw25 => k0_hw25

def k0_chk26 (v126 : IVec S16 32) : Prop :=
  (∀ a x, ((![v126] : Fin 1 → IVec S16 32) a x).toNat < S2560.size a)
theorem k0_idx26_inb : ∀ (v126 : IVec S16 32) (k0_hw26 : k0_chk26 v126), ∀ a x, ((![v126] : Fin 1 → IVec S16 32) a x).toNat < S2560.size a := fun v126 k0_hw26 => k0_hw26

def k0_chk27 (v128 : IVec S16 32) : Prop :=
  (∀ a x, ((![v128] : Fin 1 → IVec S16 32) a x).toNat < S200.size a)
theorem k0_idx27_inb : ∀ (v128 : IVec S16 32) (k0_hw27 : k0_chk27 v128), ∀ a x, ((![v128] : Fin 1 → IVec S16 32) a x).toNat < S200.size a := fun v128 k0_hw27 => k0_hw27

def k0_chk28 (v131 : IVec S16 32) : Prop :=
  (∀ a x, ((![v131] : Fin 1 → IVec S16 32) a x).toNat < S2560.size a)
theorem k0_idx28_inb : ∀ (v131 : IVec S16 32) (k0_hw28 : k0_chk28 v131), ∀ a x, ((![v131] : Fin 1 → IVec S16 32) a x).toNat < S2560.size a := fun v131 k0_hw28 => k0_hw28

def k0_chk29 (v133 : IVec S16 32) : Prop :=
  (∀ a x, ((![v133] : Fin 1 → IVec S16 32) a x).toNat < S200.size a)
theorem k0_idx29_inb : ∀ (v133 : IVec S16 32) (k0_hw29 : k0_chk29 v133), ∀ a x, ((![v133] : Fin 1 → IVec S16 32) a x).toNat < S200.size a := fun v133 k0_hw29 => k0_hw29

def k0_chk30 (v136 : IVec S16 32) : Prop :=
  (∀ a x, ((![v136] : Fin 1 → IVec S16 32) a x).toNat < S2560.size a)
theorem k0_idx30_inb : ∀ (v136 : IVec S16 32) (k0_hw30 : k0_chk30 v136), ∀ a x, ((![v136] : Fin 1 → IVec S16 32) a x).toNat < S2560.size a := fun v136 k0_hw30 => k0_hw30

def k0_chk31 (v138 : IVec S16 32) : Prop :=
  (∀ a x, ((![v138] : Fin 1 → IVec S16 32) a x).toNat < S200.size a)
theorem k0_idx31_inb : ∀ (v138 : IVec S16 32) (k0_hw31 : k0_chk31 v138), ∀ a x, ((![v138] : Fin 1 → IVec S16 32) a x).toNat < S200.size a := fun v138 k0_hw31 => k0_hw31

def k0_chk32 (v141 : IVec S16 32) : Prop :=
  (∀ a x, ((![v141] : Fin 1 → IVec S16 32) a x).toNat < S2560.size a)
theorem k0_idx32_inb : ∀ (v141 : IVec S16 32) (k0_hw32 : k0_chk32 v141), ∀ a x, ((![v141] : Fin 1 → IVec S16 32) a x).toNat < S2560.size a := fun v141 k0_hw32 => k0_hw32

def k0_chk33 (v143 : IVec S16 32) : Prop :=
  (∀ a x, ((![v143] : Fin 1 → IVec S16 32) a x).toNat < S200.size a)
theorem k0_idx33_inb : ∀ (v143 : IVec S16 32) (k0_hw33 : k0_chk33 v143), ∀ a x, ((![v143] : Fin 1 → IVec S16 32) a x).toNat < S200.size a := fun v143 k0_hw33 => k0_hw33

def k0_chk34 (v146 : IVec S16 32) : Prop :=
  (∀ a x, ((![v146] : Fin 1 → IVec S16 32) a x).toNat < S2560.size a)
theorem k0_idx34_inb : ∀ (v146 : IVec S16 32) (k0_hw34 : k0_chk34 v146), ∀ a x, ((![v146] : Fin 1 → IVec S16 32) a x).toNat < S2560.size a := fun v146 k0_hw34 => k0_hw34

def k0_chk35 (v148 : IVec S16 32) : Prop :=
  (∀ a x, ((![v148] : Fin 1 → IVec S16 32) a x).toNat < S200.size a)
theorem k0_idx35_inb : ∀ (v148 : IVec S16 32) (k0_hw35 : k0_chk35 v148), ∀ a x, ((![v148] : Fin 1 → IVec S16 32) a x).toNat < S200.size a := fun v148 k0_hw35 => k0_hw35

def k0_chk36 (v151 : IVec S16 32) : Prop :=
  (∀ a x, ((![v151] : Fin 1 → IVec S16 32) a x).toNat < S2560.size a)
theorem k0_idx36_inb : ∀ (v151 : IVec S16 32) (k0_hw36 : k0_chk36 v151), ∀ a x, ((![v151] : Fin 1 → IVec S16 32) a x).toNat < S2560.size a := fun v151 k0_hw36 => k0_hw36

def k0_chk37 (v153 : IVec S16 32) : Prop :=
  (∀ a x, ((![v153] : Fin 1 → IVec S16 32) a x).toNat < S200.size a)
theorem k0_idx37_inb : ∀ (v153 : IVec S16 32) (k0_hw37 : k0_chk37 v153), ∀ a x, ((![v153] : Fin 1 → IVec S16 32) a x).toNat < S200.size a := fun v153 k0_hw37 => k0_hw37

def k0_chk38 (v156 : IVec S16 32) : Prop :=
  (∀ a x, ((![v156] : Fin 1 → IVec S16 32) a x).toNat < S2560.size a)
theorem k0_idx38_inb : ∀ (v156 : IVec S16 32) (k0_hw38 : k0_chk38 v156), ∀ a x, ((![v156] : Fin 1 → IVec S16 32) a x).toNat < S2560.size a := fun v156 k0_hw38 => k0_hw38

def k0_chk39 (v158 : IVec S16 32) : Prop :=
  (∀ a x, ((![v158] : Fin 1 → IVec S16 32) a x).toNat < S200.size a)
theorem k0_idx39_inb : ∀ (v158 : IVec S16 32) (k0_hw39 : k0_chk39 v158), ∀ a x, ((![v158] : Fin 1 → IVec S16 32) a x).toNat < S200.size a := fun v158 k0_hw39 => k0_hw39

def k0_chk40 (v161 : IVec S16 32) : Prop :=
  (∀ a x, ((![v161] : Fin 1 → IVec S16 32) a x).toNat < S2560.size a)
theorem k0_idx40_inb : ∀ (v161 : IVec S16 32) (k0_hw40 : k0_chk40 v161), ∀ a x, ((![v161] : Fin 1 → IVec S16 32) a x).toNat < S2560.size a := fun v161 k0_hw40 => k0_hw40

def k0_chk41 (v223 : IVec S16 32) : Prop :=
  (∀ a x, ((![v223] : Fin 1 → IVec S16 32) a x).toNat < S200.size a)
theorem k0_idx41_inb : ∀ (v223 : IVec S16 32) (k0_hw41 : k0_chk41 v223), ∀ a x, ((![v223] : Fin 1 → IVec S16 32) a x).toNat < S200.size a := fun v223 k0_hw41 => k0_hw41

def k0_chk42 (v226 : IVec S16 32) : Prop :=
  (∀ a x, ((![v226] : Fin 1 → IVec S16 32) a x).toNat < S2560.size a)
theorem k0_idx42_inb : ∀ (v226 : IVec S16 32) (k0_hw42 : k0_chk42 v226), ∀ a x, ((![v226] : Fin 1 → IVec S16 32) a x).toNat < S2560.size a := fun v226 k0_hw42 => k0_hw42

def k0_chk43 (v228 : IVec S16 32) : Prop :=
  (∀ a x, ((![v228] : Fin 1 → IVec S16 32) a x).toNat < S200.size a)
theorem k0_idx43_inb : ∀ (v228 : IVec S16 32) (k0_hw43 : k0_chk43 v228), ∀ a x, ((![v228] : Fin 1 → IVec S16 32) a x).toNat < S200.size a := fun v228 k0_hw43 => k0_hw43

def k0_chk44 (v231 : IVec S16 32) : Prop :=
  (∀ a x, ((![v231] : Fin 1 → IVec S16 32) a x).toNat < S2560.size a)
theorem k0_idx44_inb : ∀ (v231 : IVec S16 32) (k0_hw44 : k0_chk44 v231), ∀ a x, ((![v231] : Fin 1 → IVec S16 32) a x).toNat < S2560.size a := fun v231 k0_hw44 => k0_hw44

def k0_chk45 (v233 : IVec S16 32) : Prop :=
  (∀ a x, ((![v233] : Fin 1 → IVec S16 32) a x).toNat < S200.size a)
theorem k0_idx45_inb : ∀ (v233 : IVec S16 32) (k0_hw45 : k0_chk45 v233), ∀ a x, ((![v233] : Fin 1 → IVec S16 32) a x).toNat < S200.size a := fun v233 k0_hw45 => k0_hw45

def k0_chk46 (v236 : IVec S16 32) : Prop :=
  (∀ a x, ((![v236] : Fin 1 → IVec S16 32) a x).toNat < S2560.size a)
theorem k0_idx46_inb : ∀ (v236 : IVec S16 32) (k0_hw46 : k0_chk46 v236), ∀ a x, ((![v236] : Fin 1 → IVec S16 32) a x).toNat < S2560.size a := fun v236 k0_hw46 => k0_hw46

def k0_chk47 (v238 : IVec S16 32) : Prop :=
  (∀ a x, ((![v238] : Fin 1 → IVec S16 32) a x).toNat < S200.size a)
theorem k0_idx47_inb : ∀ (v238 : IVec S16 32) (k0_hw47 : k0_chk47 v238), ∀ a x, ((![v238] : Fin 1 → IVec S16 32) a x).toNat < S200.size a := fun v238 k0_hw47 => k0_hw47

def k0_chk48 (v241 : IVec S16 32) : Prop :=
  (∀ a x, ((![v241] : Fin 1 → IVec S16 32) a x).toNat < S2560.size a)
theorem k0_idx48_inb : ∀ (v241 : IVec S16 32) (k0_hw48 : k0_chk48 v241), ∀ a x, ((![v241] : Fin 1 → IVec S16 32) a x).toNat < S2560.size a := fun v241 k0_hw48 => k0_hw48

def k0_chk49 (v243 : IVec S16 32) : Prop :=
  (∀ a x, ((![v243] : Fin 1 → IVec S16 32) a x).toNat < S200.size a)
theorem k0_idx49_inb : ∀ (v243 : IVec S16 32) (k0_hw49 : k0_chk49 v243), ∀ a x, ((![v243] : Fin 1 → IVec S16 32) a x).toNat < S200.size a := fun v243 k0_hw49 => k0_hw49

def k0_chk50 (v246 : IVec S16 32) : Prop :=
  (∀ a x, ((![v246] : Fin 1 → IVec S16 32) a x).toNat < S2560.size a)
theorem k0_idx50_inb : ∀ (v246 : IVec S16 32) (k0_hw50 : k0_chk50 v246), ∀ a x, ((![v246] : Fin 1 → IVec S16 32) a x).toNat < S2560.size a := fun v246 k0_hw50 => k0_hw50

def k0_chk51 (v248 : IVec S16 32) : Prop :=
  (∀ a x, ((![v248] : Fin 1 → IVec S16 32) a x).toNat < S200.size a)
theorem k0_idx51_inb : ∀ (v248 : IVec S16 32) (k0_hw51 : k0_chk51 v248), ∀ a x, ((![v248] : Fin 1 → IVec S16 32) a x).toNat < S200.size a := fun v248 k0_hw51 => k0_hw51

def k0_chk52 (v251 : IVec S16 32) : Prop :=
  (∀ a x, ((![v251] : Fin 1 → IVec S16 32) a x).toNat < S2560.size a)
theorem k0_idx52_inb : ∀ (v251 : IVec S16 32) (k0_hw52 : k0_chk52 v251), ∀ a x, ((![v251] : Fin 1 → IVec S16 32) a x).toNat < S2560.size a := fun v251 k0_hw52 => k0_hw52

def k0_chk53 (v253 : IVec S16 32) : Prop :=
  (∀ a x, ((![v253] : Fin 1 → IVec S16 32) a x).toNat < S200.size a)
theorem k0_idx53_inb : ∀ (v253 : IVec S16 32) (k0_hw53 : k0_chk53 v253), ∀ a x, ((![v253] : Fin 1 → IVec S16 32) a x).toNat < S200.size a := fun v253 k0_hw53 => k0_hw53

def k0_chk54 (v256 : IVec S16 32) : Prop :=
  (∀ a x, ((![v256] : Fin 1 → IVec S16 32) a x).toNat < S2560.size a)
theorem k0_idx54_inb : ∀ (v256 : IVec S16 32) (k0_hw54 : k0_chk54 v256), ∀ a x, ((![v256] : Fin 1 → IVec S16 32) a x).toNat < S2560.size a := fun v256 k0_hw54 => k0_hw54

def k0_chk55 (v258 : IVec S16 32) : Prop :=
  (∀ a x, ((![v258] : Fin 1 → IVec S16 32) a x).toNat < S200.size a)
theorem k0_idx55_inb : ∀ (v258 : IVec S16 32) (k0_hw55 : k0_chk55 v258), ∀ a x, ((![v258] : Fin 1 → IVec S16 32) a x).toNat < S200.size a := fun v258 k0_hw55 => k0_hw55

def k0_chk56 (v261 : IVec S16 32) : Prop :=
  (∀ a x, ((![v261] : Fin 1 → IVec S16 32) a x).toNat < S2560.size a)
theorem k0_idx56_inb : ∀ (v261 : IVec S16 32) (k0_hw56 : k0_chk56 v261), ∀ a x, ((![v261] : Fin 1 → IVec S16 32) a x).toNat < S2560.size a := fun v261 k0_hw56 => k0_hw56

def k0_chk57 (v263 : IVec S16 32) : Prop :=
  (∀ a x, ((![v263] : Fin 1 → IVec S16 32) a x).toNat < S200.size a)
theorem k0_idx57_inb : ∀ (v263 : IVec S16 32) (k0_hw57 : k0_chk57 v263), ∀ a x, ((![v263] : Fin 1 → IVec S16 32) a x).toNat < S200.size a := fun v263 k0_hw57 => k0_hw57

def k0_chk58 (v266 : IVec S16 32) : Prop :=
  (∀ a x, ((![v266] : Fin 1 → IVec S16 32) a x).toNat < S2560.size a)
theorem k0_idx58_inb : ∀ (v266 : IVec S16 32) (k0_hw58 : k0_chk58 v266), ∀ a x, ((![v266] : Fin 1 → IVec S16 32) a x).toNat < S2560.size a := fun v266 k0_hw58 => k0_hw58

def k0_chk59 (v268 : IVec S16 32) : Prop :=
  (∀ a x, ((![v268] : Fin 1 → IVec S16 32) a x).toNat < S200.size a)
theorem k0_idx59_inb : ∀ (v268 : IVec S16 32) (k0_hw59 : k0_chk59 v268), ∀ a x, ((![v268] : Fin 1 → IVec S16 32) a x).toNat < S200.size a := fun v268 k0_hw59 => k0_hw59

def k0_chk60 (v271 : IVec S16 32) : Prop :=
  (∀ a x, ((![v271] : Fin 1 → IVec S16 32) a x).toNat < S2560.size a)
theorem k0_idx60_inb : ∀ (v271 : IVec S16 32) (k0_hw60 : k0_chk60 v271), ∀ a x, ((![v271] : Fin 1 → IVec S16 32) a x).toNat < S2560.size a := fun v271 k0_hw60 => k0_hw60

def k0_chk61 (v273 : IVec S16 32) : Prop :=
  (∀ a x, ((![v273] : Fin 1 → IVec S16 32) a x).toNat < S200.size a)
theorem k0_idx61_inb : ∀ (v273 : IVec S16 32) (k0_hw61 : k0_chk61 v273), ∀ a x, ((![v273] : Fin 1 → IVec S16 32) a x).toNat < S200.size a := fun v273 k0_hw61 => k0_hw61

def k0_chk62 (v276 : IVec S16 32) : Prop :=
  (∀ a x, ((![v276] : Fin 1 → IVec S16 32) a x).toNat < S2560.size a)
theorem k0_idx62_inb : ∀ (v276 : IVec S16 32) (k0_hw62 : k0_chk62 v276), ∀ a x, ((![v276] : Fin 1 → IVec S16 32) a x).toNat < S2560.size a := fun v276 k0_hw62 => k0_hw62

def k0_chk63 (v278 : IVec S16 32) : Prop :=
  (∀ a x, ((![v278] : Fin 1 → IVec S16 32) a x).toNat < S200.size a)
theorem k0_idx63_inb : ∀ (v278 : IVec S16 32) (k0_hw63 : k0_chk63 v278), ∀ a x, ((![v278] : Fin 1 → IVec S16 32) a x).toNat < S200.size a := fun v278 k0_hw63 => k0_hw63

def k0_chk64 (v281 : IVec S16 32) : Prop :=
  (∀ a x, ((![v281] : Fin 1 → IVec S16 32) a x).toNat < S2560.size a)
theorem k0_idx64_inb : ∀ (v281 : IVec S16 32) (k0_hw64 : k0_chk64 v281), ∀ a x, ((![v281] : Fin 1 → IVec S16 32) a x).toNat < S2560.size a := fun v281 k0_hw64 => k0_hw64

def k0_chk65 (v283 : IVec S16 32) : Prop :=
  (∀ a x, ((![v283] : Fin 1 → IVec S16 32) a x).toNat < S200.size a)
theorem k0_idx65_inb : ∀ (v283 : IVec S16 32) (k0_hw65 : k0_chk65 v283), ∀ a x, ((![v283] : Fin 1 → IVec S16 32) a x).toNat < S200.size a := fun v283 k0_hw65 => k0_hw65

def k0_chk66 (v286 : IVec S16 32) : Prop :=
  (∀ a x, ((![v286] : Fin 1 → IVec S16 32) a x).toNat < S2560.size a)
theorem k0_idx66_inb : ∀ (v286 : IVec S16 32) (k0_hw66 : k0_chk66 v286), ∀ a x, ((![v286] : Fin 1 → IVec S16 32) a x).toNat < S2560.size a := fun v286 k0_hw66 => k0_hw66

def k0_chk67 (v288 : IVec S16 32) : Prop :=
  (∀ a x, ((![v288] : Fin 1 → IVec S16 32) a x).toNat < S200.size a)
theorem k0_idx67_inb : ∀ (v288 : IVec S16 32) (k0_hw67 : k0_chk67 v288), ∀ a x, ((![v288] : Fin 1 → IVec S16 32) a x).toNat < S200.size a := fun v288 k0_hw67 => k0_hw67

def k0_chk68 (v291 : IVec S16 32) : Prop :=
  (∀ a x, ((![v291] : Fin 1 → IVec S16 32) a x).toNat < S2560.size a)
theorem k0_idx68_inb : ∀ (v291 : IVec S16 32) (k0_hw68 : k0_chk68 v291), ∀ a x, ((![v291] : Fin 1 → IVec S16 32) a x).toNat < S2560.size a := fun v291 k0_hw68 => k0_hw68

def k0_chk69 (v293 : IVec S16 32) : Prop :=
  (∀ a x, ((![v293] : Fin 1 → IVec S16 32) a x).toNat < S200.size a)
theorem k0_idx69_inb : ∀ (v293 : IVec S16 32) (k0_hw69 : k0_chk69 v293), ∀ a x, ((![v293] : Fin 1 → IVec S16 32) a x).toNat < S200.size a := fun v293 k0_hw69 => k0_hw69

def k0_chk70 (v296 : IVec S16 32) : Prop :=
  (∀ a x, ((![v296] : Fin 1 → IVec S16 32) a x).toNat < S2560.size a)
theorem k0_idx70_inb : ∀ (v296 : IVec S16 32) (k0_hw70 : k0_chk70 v296), ∀ a x, ((![v296] : Fin 1 → IVec S16 32) a x).toNat < S2560.size a := fun v296 k0_hw70 => k0_hw70

def k0_chk71 (v298 : IVec S16 32) : Prop :=
  (∀ a x, ((![v298] : Fin 1 → IVec S16 32) a x).toNat < S200.size a)
theorem k0_idx71_inb : ∀ (v298 : IVec S16 32) (k0_hw71 : k0_chk71 v298), ∀ a x, ((![v298] : Fin 1 → IVec S16 32) a x).toNat < S200.size a := fun v298 k0_hw71 => k0_hw71

def k0_chk72 (v301 : IVec S16 32) : Prop :=
  (∀ a x, ((![v301] : Fin 1 → IVec S16 32) a x).toNat < S2560.size a)
theorem k0_idx72_inb : ∀ (v301 : IVec S16 32) (k0_hw72 : k0_chk72 v301), ∀ a x, ((![v301] : Fin 1 → IVec S16 32) a x).toNat < S2560.size a := fun v301 k0_hw72 => k0_hw72

def k0_chk73 (v303 : IVec S16 32) : Prop :=
  (∀ a x, ((![v303] : Fin 1 → IVec S16 32) a x).toNat < S200.size a)
theorem k0_idx73_inb : ∀ (v303 : IVec S16 32) (k0_hw73 : k0_chk73 v303), ∀ a x, ((![v303] : Fin 1 → IVec S16 32) a x).toNat < S200.size a := fun v303 k0_hw73 => k0_hw73

def k0_chk74 (v306 : IVec S16 32) : Prop :=
  (∀ a x, ((![v306] : Fin 1 → IVec S16 32) a x).toNat < S2560.size a)
theorem k0_idx74_inb : ∀ (v306 : IVec S16 32) (k0_hw74 : k0_chk74 v306), ∀ a x, ((![v306] : Fin 1 → IVec S16 32) a x).toNat < S2560.size a := fun v306 k0_hw74 => k0_hw74

def k0_chk75 (v308 : IVec S16 32) : Prop :=
  (∀ a x, ((![v308] : Fin 1 → IVec S16 32) a x).toNat < S200.size a)
theorem k0_idx75_inb : ∀ (v308 : IVec S16 32) (k0_hw75 : k0_chk75 v308), ∀ a x, ((![v308] : Fin 1 → IVec S16 32) a x).toNat < S200.size a := fun v308 k0_hw75 => k0_hw75

def k0_chk76 (v311 : IVec S16 32) : Prop :=
  (∀ a x, ((![v311] : Fin 1 → IVec S16 32) a x).toNat < S2560.size a)
theorem k0_idx76_inb : ∀ (v311 : IVec S16 32) (k0_hw76 : k0_chk76 v311), ∀ a x, ((![v311] : Fin 1 → IVec S16 32) a x).toNat < S2560.size a := fun v311 k0_hw76 => k0_hw76

def k0_chk77 (v313 : IVec S16 32) : Prop :=
  (∀ a x, ((![v313] : Fin 1 → IVec S16 32) a x).toNat < S200.size a)
theorem k0_idx77_inb : ∀ (v313 : IVec S16 32) (k0_hw77 : k0_chk77 v313), ∀ a x, ((![v313] : Fin 1 → IVec S16 32) a x).toNat < S200.size a := fun v313 k0_hw77 => k0_hw77

def k0_chk78 (v316 : IVec S16 32) : Prop :=
  (∀ a x, ((![v316] : Fin 1 → IVec S16 32) a x).toNat < S2560.size a)
theorem k0_idx78_inb : ∀ (v316 : IVec S16 32) (k0_hw78 : k0_chk78 v316), ∀ a x, ((![v316] : Fin 1 → IVec S16 32) a x).toNat < S2560.size a := fun v316 k0_hw78 => k0_hw78

def k0_chk79 (v318 : IVec S16 32) : Prop :=
  (∀ a x, ((![v318] : Fin 1 → IVec S16 32) a x).toNat < S200.size a)
theorem k0_idx79_inb : ∀ (v318 : IVec S16 32) (k0_hw79 : k0_chk79 v318), ∀ a x, ((![v318] : Fin 1 → IVec S16 32) a x).toNat < S200.size a := fun v318 k0_hw79 => k0_hw79

def k0_chk80 (v321 : IVec S16 32) : Prop :=
  (∀ a x, ((![v321] : Fin 1 → IVec S16 32) a x).toNat < S2560.size a)
theorem k0_idx80_inb : ∀ (v321 : IVec S16 32) (k0_hw80 : k0_chk80 v321), ∀ a x, ((![v321] : Fin 1 → IVec S16 32) a x).toNat < S2560.size a := fun v321 k0_hw80 => k0_hw80

def k0_chk81 (v383 : IVec S16 32) : Prop :=
  (∀ a x, ((![v383] : Fin 1 → IVec S16 32) a x).toNat < S200.size a)
theorem k0_idx81_inb : ∀ (v383 : IVec S16 32) (k0_hw81 : k0_chk81 v383), ∀ a x, ((![v383] : Fin 1 → IVec S16 32) a x).toNat < S200.size a := fun v383 k0_hw81 => k0_hw81

def k0_chk82 (v386 : IVec S16 32) : Prop :=
  (∀ a x, ((![v386] : Fin 1 → IVec S16 32) a x).toNat < S2560.size a)
theorem k0_idx82_inb : ∀ (v386 : IVec S16 32) (k0_hw82 : k0_chk82 v386), ∀ a x, ((![v386] : Fin 1 → IVec S16 32) a x).toNat < S2560.size a := fun v386 k0_hw82 => k0_hw82

def k0_chk83 (v388 : IVec S16 32) : Prop :=
  (∀ a x, ((![v388] : Fin 1 → IVec S16 32) a x).toNat < S200.size a)
theorem k0_idx83_inb : ∀ (v388 : IVec S16 32) (k0_hw83 : k0_chk83 v388), ∀ a x, ((![v388] : Fin 1 → IVec S16 32) a x).toNat < S200.size a := fun v388 k0_hw83 => k0_hw83

def k0_chk84 (v391 : IVec S16 32) : Prop :=
  (∀ a x, ((![v391] : Fin 1 → IVec S16 32) a x).toNat < S2560.size a)
theorem k0_idx84_inb : ∀ (v391 : IVec S16 32) (k0_hw84 : k0_chk84 v391), ∀ a x, ((![v391] : Fin 1 → IVec S16 32) a x).toNat < S2560.size a := fun v391 k0_hw84 => k0_hw84

def k0_chk85 (v393 : IVec S16 32) : Prop :=
  (∀ a x, ((![v393] : Fin 1 → IVec S16 32) a x).toNat < S200.size a)
theorem k0_idx85_inb : ∀ (v393 : IVec S16 32) (k0_hw85 : k0_chk85 v393), ∀ a x, ((![v393] : Fin 1 → IVec S16 32) a x).toNat < S200.size a := fun v393 k0_hw85 => k0_hw85

def k0_chk86 (v396 : IVec S16 32) : Prop :=
  (∀ a x, ((![v396] : Fin 1 → IVec S16 32) a x).toNat < S2560.size a)
theorem k0_idx86_inb : ∀ (v396 : IVec S16 32) (k0_hw86 : k0_chk86 v396), ∀ a x, ((![v396] : Fin 1 → IVec S16 32) a x).toNat < S2560.size a := fun v396 k0_hw86 => k0_hw86

def k0_chk87 (v398 : IVec S16 32) : Prop :=
  (∀ a x, ((![v398] : Fin 1 → IVec S16 32) a x).toNat < S200.size a)
theorem k0_idx87_inb : ∀ (v398 : IVec S16 32) (k0_hw87 : k0_chk87 v398), ∀ a x, ((![v398] : Fin 1 → IVec S16 32) a x).toNat < S200.size a := fun v398 k0_hw87 => k0_hw87

def k0_chk88 (v401 : IVec S16 32) : Prop :=
  (∀ a x, ((![v401] : Fin 1 → IVec S16 32) a x).toNat < S2560.size a)
theorem k0_idx88_inb : ∀ (v401 : IVec S16 32) (k0_hw88 : k0_chk88 v401), ∀ a x, ((![v401] : Fin 1 → IVec S16 32) a x).toNat < S2560.size a := fun v401 k0_hw88 => k0_hw88

def k0_chk89 (v403 : IVec S16 32) : Prop :=
  (∀ a x, ((![v403] : Fin 1 → IVec S16 32) a x).toNat < S200.size a)
theorem k0_idx89_inb : ∀ (v403 : IVec S16 32) (k0_hw89 : k0_chk89 v403), ∀ a x, ((![v403] : Fin 1 → IVec S16 32) a x).toNat < S200.size a := fun v403 k0_hw89 => k0_hw89

def k0_chk90 (v406 : IVec S16 32) : Prop :=
  (∀ a x, ((![v406] : Fin 1 → IVec S16 32) a x).toNat < S2560.size a)
theorem k0_idx90_inb : ∀ (v406 : IVec S16 32) (k0_hw90 : k0_chk90 v406), ∀ a x, ((![v406] : Fin 1 → IVec S16 32) a x).toNat < S2560.size a := fun v406 k0_hw90 => k0_hw90

def k0_chk91 (v408 : IVec S16 32) : Prop :=
  (∀ a x, ((![v408] : Fin 1 → IVec S16 32) a x).toNat < S200.size a)
theorem k0_idx91_inb : ∀ (v408 : IVec S16 32) (k0_hw91 : k0_chk91 v408), ∀ a x, ((![v408] : Fin 1 → IVec S16 32) a x).toNat < S200.size a := fun v408 k0_hw91 => k0_hw91

def k0_chk92 (v411 : IVec S16 32) : Prop :=
  (∀ a x, ((![v411] : Fin 1 → IVec S16 32) a x).toNat < S2560.size a)
theorem k0_idx92_inb : ∀ (v411 : IVec S16 32) (k0_hw92 : k0_chk92 v411), ∀ a x, ((![v411] : Fin 1 → IVec S16 32) a x).toNat < S2560.size a := fun v411 k0_hw92 => k0_hw92

def k0_chk93 (v413 : IVec S16 32) : Prop :=
  (∀ a x, ((![v413] : Fin 1 → IVec S16 32) a x).toNat < S200.size a)
theorem k0_idx93_inb : ∀ (v413 : IVec S16 32) (k0_hw93 : k0_chk93 v413), ∀ a x, ((![v413] : Fin 1 → IVec S16 32) a x).toNat < S200.size a := fun v413 k0_hw93 => k0_hw93

def k0_chk94 (v416 : IVec S16 32) : Prop :=
  (∀ a x, ((![v416] : Fin 1 → IVec S16 32) a x).toNat < S2560.size a)
theorem k0_idx94_inb : ∀ (v416 : IVec S16 32) (k0_hw94 : k0_chk94 v416), ∀ a x, ((![v416] : Fin 1 → IVec S16 32) a x).toNat < S2560.size a := fun v416 k0_hw94 => k0_hw94

def k0_chk95 (v418 : IVec S16 32) : Prop :=
  (∀ a x, ((![v418] : Fin 1 → IVec S16 32) a x).toNat < S200.size a)
theorem k0_idx95_inb : ∀ (v418 : IVec S16 32) (k0_hw95 : k0_chk95 v418), ∀ a x, ((![v418] : Fin 1 → IVec S16 32) a x).toNat < S200.size a := fun v418 k0_hw95 => k0_hw95

def k0_chk96 (v421 : IVec S16 32) : Prop :=
  (∀ a x, ((![v421] : Fin 1 → IVec S16 32) a x).toNat < S2560.size a)
theorem k0_idx96_inb : ∀ (v421 : IVec S16 32) (k0_hw96 : k0_chk96 v421), ∀ a x, ((![v421] : Fin 1 → IVec S16 32) a x).toNat < S2560.size a := fun v421 k0_hw96 => k0_hw96

def k0_chk97 (v423 : IVec S16 32) : Prop :=
  (∀ a x, ((![v423] : Fin 1 → IVec S16 32) a x).toNat < S200.size a)
theorem k0_idx97_inb : ∀ (v423 : IVec S16 32) (k0_hw97 : k0_chk97 v423), ∀ a x, ((![v423] : Fin 1 → IVec S16 32) a x).toNat < S200.size a := fun v423 k0_hw97 => k0_hw97

def k0_chk98 (v426 : IVec S16 32) : Prop :=
  (∀ a x, ((![v426] : Fin 1 → IVec S16 32) a x).toNat < S2560.size a)
theorem k0_idx98_inb : ∀ (v426 : IVec S16 32) (k0_hw98 : k0_chk98 v426), ∀ a x, ((![v426] : Fin 1 → IVec S16 32) a x).toNat < S2560.size a := fun v426 k0_hw98 => k0_hw98

def k0_chk99 (v428 : IVec S16 32) : Prop :=
  (∀ a x, ((![v428] : Fin 1 → IVec S16 32) a x).toNat < S200.size a)
theorem k0_idx99_inb : ∀ (v428 : IVec S16 32) (k0_hw99 : k0_chk99 v428), ∀ a x, ((![v428] : Fin 1 → IVec S16 32) a x).toNat < S200.size a := fun v428 k0_hw99 => k0_hw99

def k0_chk100 (v431 : IVec S16 32) : Prop :=
  (∀ a x, ((![v431] : Fin 1 → IVec S16 32) a x).toNat < S2560.size a)
theorem k0_idx100_inb : ∀ (v431 : IVec S16 32) (k0_hw100 : k0_chk100 v431), ∀ a x, ((![v431] : Fin 1 → IVec S16 32) a x).toNat < S2560.size a := fun v431 k0_hw100 => k0_hw100

def k0_chk101 (v433 : IVec S16 32) : Prop :=
  (∀ a x, ((![v433] : Fin 1 → IVec S16 32) a x).toNat < S200.size a)
theorem k0_idx101_inb : ∀ (v433 : IVec S16 32) (k0_hw101 : k0_chk101 v433), ∀ a x, ((![v433] : Fin 1 → IVec S16 32) a x).toNat < S200.size a := fun v433 k0_hw101 => k0_hw101

def k0_chk102 (v436 : IVec S16 32) : Prop :=
  (∀ a x, ((![v436] : Fin 1 → IVec S16 32) a x).toNat < S2560.size a)
theorem k0_idx102_inb : ∀ (v436 : IVec S16 32) (k0_hw102 : k0_chk102 v436), ∀ a x, ((![v436] : Fin 1 → IVec S16 32) a x).toNat < S2560.size a := fun v436 k0_hw102 => k0_hw102

def k0_chk103 (v438 : IVec S16 32) : Prop :=
  (∀ a x, ((![v438] : Fin 1 → IVec S16 32) a x).toNat < S200.size a)
theorem k0_idx103_inb : ∀ (v438 : IVec S16 32) (k0_hw103 : k0_chk103 v438), ∀ a x, ((![v438] : Fin 1 → IVec S16 32) a x).toNat < S200.size a := fun v438 k0_hw103 => k0_hw103

def k0_chk104 (v441 : IVec S16 32) : Prop :=
  (∀ a x, ((![v441] : Fin 1 → IVec S16 32) a x).toNat < S2560.size a)
theorem k0_idx104_inb : ∀ (v441 : IVec S16 32) (k0_hw104 : k0_chk104 v441), ∀ a x, ((![v441] : Fin 1 → IVec S16 32) a x).toNat < S2560.size a := fun v441 k0_hw104 => k0_hw104

def k0_chk105 (v443 : IVec S16 32) : Prop :=
  (∀ a x, ((![v443] : Fin 1 → IVec S16 32) a x).toNat < S200.size a)
theorem k0_idx105_inb : ∀ (v443 : IVec S16 32) (k0_hw105 : k0_chk105 v443), ∀ a x, ((![v443] : Fin 1 → IVec S16 32) a x).toNat < S200.size a := fun v443 k0_hw105 => k0_hw105

def k0_chk106 (v446 : IVec S16 32) : Prop :=
  (∀ a x, ((![v446] : Fin 1 → IVec S16 32) a x).toNat < S2560.size a)
theorem k0_idx106_inb : ∀ (v446 : IVec S16 32) (k0_hw106 : k0_chk106 v446), ∀ a x, ((![v446] : Fin 1 → IVec S16 32) a x).toNat < S2560.size a := fun v446 k0_hw106 => k0_hw106

def k0_chk107 (v448 : IVec S16 32) : Prop :=
  (∀ a x, ((![v448] : Fin 1 → IVec S16 32) a x).toNat < S200.size a)
theorem k0_idx107_inb : ∀ (v448 : IVec S16 32) (k0_hw107 : k0_chk107 v448), ∀ a x, ((![v448] : Fin 1 → IVec S16 32) a x).toNat < S200.size a := fun v448 k0_hw107 => k0_hw107

def k0_chk108 (v451 : IVec S16 32) : Prop :=
  (∀ a x, ((![v451] : Fin 1 → IVec S16 32) a x).toNat < S2560.size a)
theorem k0_idx108_inb : ∀ (v451 : IVec S16 32) (k0_hw108 : k0_chk108 v451), ∀ a x, ((![v451] : Fin 1 → IVec S16 32) a x).toNat < S2560.size a := fun v451 k0_hw108 => k0_hw108

def k0_chk109 (v453 : IVec S16 32) : Prop :=
  (∀ a x, ((![v453] : Fin 1 → IVec S16 32) a x).toNat < S200.size a)
theorem k0_idx109_inb : ∀ (v453 : IVec S16 32) (k0_hw109 : k0_chk109 v453), ∀ a x, ((![v453] : Fin 1 → IVec S16 32) a x).toNat < S200.size a := fun v453 k0_hw109 => k0_hw109

def k0_chk110 (v456 : IVec S16 32) : Prop :=
  (∀ a x, ((![v456] : Fin 1 → IVec S16 32) a x).toNat < S2560.size a)
theorem k0_idx110_inb : ∀ (v456 : IVec S16 32) (k0_hw110 : k0_chk110 v456), ∀ a x, ((![v456] : Fin 1 → IVec S16 32) a x).toNat < S2560.size a := fun v456 k0_hw110 => k0_hw110

def k0_chk111 (v458 : IVec S16 32) : Prop :=
  (∀ a x, ((![v458] : Fin 1 → IVec S16 32) a x).toNat < S200.size a)
theorem k0_idx111_inb : ∀ (v458 : IVec S16 32) (k0_hw111 : k0_chk111 v458), ∀ a x, ((![v458] : Fin 1 → IVec S16 32) a x).toNat < S200.size a := fun v458 k0_hw111 => k0_hw111

def k0_chk112 (v461 : IVec S16 32) : Prop :=
  (∀ a x, ((![v461] : Fin 1 → IVec S16 32) a x).toNat < S2560.size a)
theorem k0_idx112_inb : ∀ (v461 : IVec S16 32) (k0_hw112 : k0_chk112 v461), ∀ a x, ((![v461] : Fin 1 → IVec S16 32) a x).toNat < S2560.size a := fun v461 k0_hw112 => k0_hw112

def k0_chk113 (v463 : IVec S16 32) : Prop :=
  (∀ a x, ((![v463] : Fin 1 → IVec S16 32) a x).toNat < S200.size a)
theorem k0_idx113_inb : ∀ (v463 : IVec S16 32) (k0_hw113 : k0_chk113 v463), ∀ a x, ((![v463] : Fin 1 → IVec S16 32) a x).toNat < S200.size a := fun v463 k0_hw113 => k0_hw113

def k0_chk114 (v466 : IVec S16 32) : Prop :=
  (∀ a x, ((![v466] : Fin 1 → IVec S16 32) a x).toNat < S2560.size a)
theorem k0_idx114_inb : ∀ (v466 : IVec S16 32) (k0_hw114 : k0_chk114 v466), ∀ a x, ((![v466] : Fin 1 → IVec S16 32) a x).toNat < S2560.size a := fun v466 k0_hw114 => k0_hw114

def k0_chk115 (v468 : IVec S16 32) : Prop :=
  (∀ a x, ((![v468] : Fin 1 → IVec S16 32) a x).toNat < S200.size a)
theorem k0_idx115_inb : ∀ (v468 : IVec S16 32) (k0_hw115 : k0_chk115 v468), ∀ a x, ((![v468] : Fin 1 → IVec S16 32) a x).toNat < S200.size a := fun v468 k0_hw115 => k0_hw115

def k0_chk116 (v471 : IVec S16 32) : Prop :=
  (∀ a x, ((![v471] : Fin 1 → IVec S16 32) a x).toNat < S2560.size a)
theorem k0_idx116_inb : ∀ (v471 : IVec S16 32) (k0_hw116 : k0_chk116 v471), ∀ a x, ((![v471] : Fin 1 → IVec S16 32) a x).toNat < S2560.size a := fun v471 k0_hw116 => k0_hw116

def k0_chk117 (v473 : IVec S16 32) : Prop :=
  (∀ a x, ((![v473] : Fin 1 → IVec S16 32) a x).toNat < S200.size a)
theorem k0_idx117_inb : ∀ (v473 : IVec S16 32) (k0_hw117 : k0_chk117 v473), ∀ a x, ((![v473] : Fin 1 → IVec S16 32) a x).toNat < S200.size a := fun v473 k0_hw117 => k0_hw117

def k0_chk118 (v476 : IVec S16 32) : Prop :=
  (∀ a x, ((![v476] : Fin 1 → IVec S16 32) a x).toNat < S2560.size a)
theorem k0_idx118_inb : ∀ (v476 : IVec S16 32) (k0_hw118 : k0_chk118 v476), ∀ a x, ((![v476] : Fin 1 → IVec S16 32) a x).toNat < S2560.size a := fun v476 k0_hw118 => k0_hw118

def k0_chk119 (v478 : IVec S16 32) : Prop :=
  (∀ a x, ((![v478] : Fin 1 → IVec S16 32) a x).toNat < S200.size a)
theorem k0_idx119_inb : ∀ (v478 : IVec S16 32) (k0_hw119 : k0_chk119 v478), ∀ a x, ((![v478] : Fin 1 → IVec S16 32) a x).toNat < S200.size a := fun v478 k0_hw119 => k0_hw119

def k0_chk120 (v481 : IVec S16 32) : Prop :=
  (∀ a x, ((![v481] : Fin 1 → IVec S16 32) a x).toNat < S2560.size a)
theorem k0_idx120_inb : ∀ (v481 : IVec S16 32) (k0_hw120 : k0_chk120 v481), ∀ a x, ((![v481] : Fin 1 → IVec S16 32) a x).toNat < S2560.size a := fun v481 k0_hw120 => k0_hw120

def k0_chk121 (v543 : IVec S16 32) : Prop :=
  (∀ a x, ((![v543] : Fin 1 → IVec S16 32) a x).toNat < S200.size a)
theorem k0_idx121_inb : ∀ (v543 : IVec S16 32) (k0_hw121 : k0_chk121 v543), ∀ a x, ((![v543] : Fin 1 → IVec S16 32) a x).toNat < S200.size a := fun v543 k0_hw121 => k0_hw121

def k0_chk122 (v546 : IVec S16 32) : Prop :=
  (∀ a x, ((![v546] : Fin 1 → IVec S16 32) a x).toNat < S2560.size a)
theorem k0_idx122_inb : ∀ (v546 : IVec S16 32) (k0_hw122 : k0_chk122 v546), ∀ a x, ((![v546] : Fin 1 → IVec S16 32) a x).toNat < S2560.size a := fun v546 k0_hw122 => k0_hw122

def k0_chk123 (v548 : IVec S16 32) : Prop :=
  (∀ a x, ((![v548] : Fin 1 → IVec S16 32) a x).toNat < S200.size a)
theorem k0_idx123_inb : ∀ (v548 : IVec S16 32) (k0_hw123 : k0_chk123 v548), ∀ a x, ((![v548] : Fin 1 → IVec S16 32) a x).toNat < S200.size a := fun v548 k0_hw123 => k0_hw123

def k0_chk124 (v551 : IVec S16 32) : Prop :=
  (∀ a x, ((![v551] : Fin 1 → IVec S16 32) a x).toNat < S2560.size a)
theorem k0_idx124_inb : ∀ (v551 : IVec S16 32) (k0_hw124 : k0_chk124 v551), ∀ a x, ((![v551] : Fin 1 → IVec S16 32) a x).toNat < S2560.size a := fun v551 k0_hw124 => k0_hw124

def k0_chk125 (v553 : IVec S16 32) : Prop :=
  (∀ a x, ((![v553] : Fin 1 → IVec S16 32) a x).toNat < S200.size a)
theorem k0_idx125_inb : ∀ (v553 : IVec S16 32) (k0_hw125 : k0_chk125 v553), ∀ a x, ((![v553] : Fin 1 → IVec S16 32) a x).toNat < S200.size a := fun v553 k0_hw125 => k0_hw125

def k0_chk126 (v556 : IVec S16 32) : Prop :=
  (∀ a x, ((![v556] : Fin 1 → IVec S16 32) a x).toNat < S2560.size a)
theorem k0_idx126_inb : ∀ (v556 : IVec S16 32) (k0_hw126 : k0_chk126 v556), ∀ a x, ((![v556] : Fin 1 → IVec S16 32) a x).toNat < S2560.size a := fun v556 k0_hw126 => k0_hw126

def k0_chk127 (v558 : IVec S16 32) : Prop :=
  (∀ a x, ((![v558] : Fin 1 → IVec S16 32) a x).toNat < S200.size a)
theorem k0_idx127_inb : ∀ (v558 : IVec S16 32) (k0_hw127 : k0_chk127 v558), ∀ a x, ((![v558] : Fin 1 → IVec S16 32) a x).toNat < S200.size a := fun v558 k0_hw127 => k0_hw127

def k0_chk128 (v561 : IVec S16 32) : Prop :=
  (∀ a x, ((![v561] : Fin 1 → IVec S16 32) a x).toNat < S2560.size a)
theorem k0_idx128_inb : ∀ (v561 : IVec S16 32) (k0_hw128 : k0_chk128 v561), ∀ a x, ((![v561] : Fin 1 → IVec S16 32) a x).toNat < S2560.size a := fun v561 k0_hw128 => k0_hw128

def k0_chk129 (v563 : IVec S16 32) : Prop :=
  (∀ a x, ((![v563] : Fin 1 → IVec S16 32) a x).toNat < S200.size a)
theorem k0_idx129_inb : ∀ (v563 : IVec S16 32) (k0_hw129 : k0_chk129 v563), ∀ a x, ((![v563] : Fin 1 → IVec S16 32) a x).toNat < S200.size a := fun v563 k0_hw129 => k0_hw129

def k0_chk130 (v566 : IVec S16 32) : Prop :=
  (∀ a x, ((![v566] : Fin 1 → IVec S16 32) a x).toNat < S2560.size a)
theorem k0_idx130_inb : ∀ (v566 : IVec S16 32) (k0_hw130 : k0_chk130 v566), ∀ a x, ((![v566] : Fin 1 → IVec S16 32) a x).toNat < S2560.size a := fun v566 k0_hw130 => k0_hw130

def k0_chk131 (v568 : IVec S16 32) : Prop :=
  (∀ a x, ((![v568] : Fin 1 → IVec S16 32) a x).toNat < S200.size a)
theorem k0_idx131_inb : ∀ (v568 : IVec S16 32) (k0_hw131 : k0_chk131 v568), ∀ a x, ((![v568] : Fin 1 → IVec S16 32) a x).toNat < S200.size a := fun v568 k0_hw131 => k0_hw131

def k0_chk132 (v571 : IVec S16 32) : Prop :=
  (∀ a x, ((![v571] : Fin 1 → IVec S16 32) a x).toNat < S2560.size a)
theorem k0_idx132_inb : ∀ (v571 : IVec S16 32) (k0_hw132 : k0_chk132 v571), ∀ a x, ((![v571] : Fin 1 → IVec S16 32) a x).toNat < S2560.size a := fun v571 k0_hw132 => k0_hw132

def k0_chk133 (v573 : IVec S16 32) : Prop :=
  (∀ a x, ((![v573] : Fin 1 → IVec S16 32) a x).toNat < S200.size a)
theorem k0_idx133_inb : ∀ (v573 : IVec S16 32) (k0_hw133 : k0_chk133 v573), ∀ a x, ((![v573] : Fin 1 → IVec S16 32) a x).toNat < S200.size a := fun v573 k0_hw133 => k0_hw133

def k0_chk134 (v576 : IVec S16 32) : Prop :=
  (∀ a x, ((![v576] : Fin 1 → IVec S16 32) a x).toNat < S2560.size a)
theorem k0_idx134_inb : ∀ (v576 : IVec S16 32) (k0_hw134 : k0_chk134 v576), ∀ a x, ((![v576] : Fin 1 → IVec S16 32) a x).toNat < S2560.size a := fun v576 k0_hw134 => k0_hw134

def k0_chk135 (v578 : IVec S16 32) : Prop :=
  (∀ a x, ((![v578] : Fin 1 → IVec S16 32) a x).toNat < S200.size a)
theorem k0_idx135_inb : ∀ (v578 : IVec S16 32) (k0_hw135 : k0_chk135 v578), ∀ a x, ((![v578] : Fin 1 → IVec S16 32) a x).toNat < S200.size a := fun v578 k0_hw135 => k0_hw135

def k0_chk136 (v581 : IVec S16 32) : Prop :=
  (∀ a x, ((![v581] : Fin 1 → IVec S16 32) a x).toNat < S2560.size a)
theorem k0_idx136_inb : ∀ (v581 : IVec S16 32) (k0_hw136 : k0_chk136 v581), ∀ a x, ((![v581] : Fin 1 → IVec S16 32) a x).toNat < S2560.size a := fun v581 k0_hw136 => k0_hw136

def k0_chk137 (v583 : IVec S16 32) : Prop :=
  (∀ a x, ((![v583] : Fin 1 → IVec S16 32) a x).toNat < S200.size a)
theorem k0_idx137_inb : ∀ (v583 : IVec S16 32) (k0_hw137 : k0_chk137 v583), ∀ a x, ((![v583] : Fin 1 → IVec S16 32) a x).toNat < S200.size a := fun v583 k0_hw137 => k0_hw137

def k0_chk138 (v586 : IVec S16 32) : Prop :=
  (∀ a x, ((![v586] : Fin 1 → IVec S16 32) a x).toNat < S2560.size a)
theorem k0_idx138_inb : ∀ (v586 : IVec S16 32) (k0_hw138 : k0_chk138 v586), ∀ a x, ((![v586] : Fin 1 → IVec S16 32) a x).toNat < S2560.size a := fun v586 k0_hw138 => k0_hw138

def k0_chk139 (v588 : IVec S16 32) : Prop :=
  (∀ a x, ((![v588] : Fin 1 → IVec S16 32) a x).toNat < S200.size a)
theorem k0_idx139_inb : ∀ (v588 : IVec S16 32) (k0_hw139 : k0_chk139 v588), ∀ a x, ((![v588] : Fin 1 → IVec S16 32) a x).toNat < S200.size a := fun v588 k0_hw139 => k0_hw139

def k0_chk140 (v591 : IVec S16 32) : Prop :=
  (∀ a x, ((![v591] : Fin 1 → IVec S16 32) a x).toNat < S2560.size a)
theorem k0_idx140_inb : ∀ (v591 : IVec S16 32) (k0_hw140 : k0_chk140 v591), ∀ a x, ((![v591] : Fin 1 → IVec S16 32) a x).toNat < S2560.size a := fun v591 k0_hw140 => k0_hw140

def k0_chk141 (v593 : IVec S16 32) : Prop :=
  (∀ a x, ((![v593] : Fin 1 → IVec S16 32) a x).toNat < S200.size a)
theorem k0_idx141_inb : ∀ (v593 : IVec S16 32) (k0_hw141 : k0_chk141 v593), ∀ a x, ((![v593] : Fin 1 → IVec S16 32) a x).toNat < S200.size a := fun v593 k0_hw141 => k0_hw141

def k0_chk142 (v596 : IVec S16 32) : Prop :=
  (∀ a x, ((![v596] : Fin 1 → IVec S16 32) a x).toNat < S2560.size a)
theorem k0_idx142_inb : ∀ (v596 : IVec S16 32) (k0_hw142 : k0_chk142 v596), ∀ a x, ((![v596] : Fin 1 → IVec S16 32) a x).toNat < S2560.size a := fun v596 k0_hw142 => k0_hw142

def k0_chk143 (v598 : IVec S16 32) : Prop :=
  (∀ a x, ((![v598] : Fin 1 → IVec S16 32) a x).toNat < S200.size a)
theorem k0_idx143_inb : ∀ (v598 : IVec S16 32) (k0_hw143 : k0_chk143 v598), ∀ a x, ((![v598] : Fin 1 → IVec S16 32) a x).toNat < S200.size a := fun v598 k0_hw143 => k0_hw143

def k0_chk144 (v601 : IVec S16 32) : Prop :=
  (∀ a x, ((![v601] : Fin 1 → IVec S16 32) a x).toNat < S2560.size a)
theorem k0_idx144_inb : ∀ (v601 : IVec S16 32) (k0_hw144 : k0_chk144 v601), ∀ a x, ((![v601] : Fin 1 → IVec S16 32) a x).toNat < S2560.size a := fun v601 k0_hw144 => k0_hw144

def k0_chk145 (v603 : IVec S16 32) : Prop :=
  (∀ a x, ((![v603] : Fin 1 → IVec S16 32) a x).toNat < S200.size a)
theorem k0_idx145_inb : ∀ (v603 : IVec S16 32) (k0_hw145 : k0_chk145 v603), ∀ a x, ((![v603] : Fin 1 → IVec S16 32) a x).toNat < S200.size a := fun v603 k0_hw145 => k0_hw145

def k0_chk146 (v606 : IVec S16 32) : Prop :=
  (∀ a x, ((![v606] : Fin 1 → IVec S16 32) a x).toNat < S2560.size a)
theorem k0_idx146_inb : ∀ (v606 : IVec S16 32) (k0_hw146 : k0_chk146 v606), ∀ a x, ((![v606] : Fin 1 → IVec S16 32) a x).toNat < S2560.size a := fun v606 k0_hw146 => k0_hw146

def k0_chk147 (v608 : IVec S16 32) : Prop :=
  (∀ a x, ((![v608] : Fin 1 → IVec S16 32) a x).toNat < S200.size a)
theorem k0_idx147_inb : ∀ (v608 : IVec S16 32) (k0_hw147 : k0_chk147 v608), ∀ a x, ((![v608] : Fin 1 → IVec S16 32) a x).toNat < S200.size a := fun v608 k0_hw147 => k0_hw147

def k0_chk148 (v611 : IVec S16 32) : Prop :=
  (∀ a x, ((![v611] : Fin 1 → IVec S16 32) a x).toNat < S2560.size a)
theorem k0_idx148_inb : ∀ (v611 : IVec S16 32) (k0_hw148 : k0_chk148 v611), ∀ a x, ((![v611] : Fin 1 → IVec S16 32) a x).toNat < S2560.size a := fun v611 k0_hw148 => k0_hw148

def k0_chk149 (v613 : IVec S16 32) : Prop :=
  (∀ a x, ((![v613] : Fin 1 → IVec S16 32) a x).toNat < S200.size a)
theorem k0_idx149_inb : ∀ (v613 : IVec S16 32) (k0_hw149 : k0_chk149 v613), ∀ a x, ((![v613] : Fin 1 → IVec S16 32) a x).toNat < S200.size a := fun v613 k0_hw149 => k0_hw149

def k0_chk150 (v616 : IVec S16 32) : Prop :=
  (∀ a x, ((![v616] : Fin 1 → IVec S16 32) a x).toNat < S2560.size a)
theorem k0_idx150_inb : ∀ (v616 : IVec S16 32) (k0_hw150 : k0_chk150 v616), ∀ a x, ((![v616] : Fin 1 → IVec S16 32) a x).toNat < S2560.size a := fun v616 k0_hw150 => k0_hw150

def k0_chk151 (v618 : IVec S16 32) : Prop :=
  (∀ a x, ((![v618] : Fin 1 → IVec S16 32) a x).toNat < S200.size a)
theorem k0_idx151_inb : ∀ (v618 : IVec S16 32) (k0_hw151 : k0_chk151 v618), ∀ a x, ((![v618] : Fin 1 → IVec S16 32) a x).toNat < S200.size a := fun v618 k0_hw151 => k0_hw151

def k0_chk152 (v621 : IVec S16 32) : Prop :=
  (∀ a x, ((![v621] : Fin 1 → IVec S16 32) a x).toNat < S2560.size a)
theorem k0_idx152_inb : ∀ (v621 : IVec S16 32) (k0_hw152 : k0_chk152 v621), ∀ a x, ((![v621] : Fin 1 → IVec S16 32) a x).toNat < S2560.size a := fun v621 k0_hw152 => k0_hw152

def k0_chk153 (v623 : IVec S16 32) : Prop :=
  (∀ a x, ((![v623] : Fin 1 → IVec S16 32) a x).toNat < S200.size a)
theorem k0_idx153_inb : ∀ (v623 : IVec S16 32) (k0_hw153 : k0_chk153 v623), ∀ a x, ((![v623] : Fin 1 → IVec S16 32) a x).toNat < S200.size a := fun v623 k0_hw153 => k0_hw153

def k0_chk154 (v626 : IVec S16 32) : Prop :=
  (∀ a x, ((![v626] : Fin 1 → IVec S16 32) a x).toNat < S2560.size a)
theorem k0_idx154_inb : ∀ (v626 : IVec S16 32) (k0_hw154 : k0_chk154 v626), ∀ a x, ((![v626] : Fin 1 → IVec S16 32) a x).toNat < S2560.size a := fun v626 k0_hw154 => k0_hw154

def k0_chk155 (v628 : IVec S16 32) : Prop :=
  (∀ a x, ((![v628] : Fin 1 → IVec S16 32) a x).toNat < S200.size a)
theorem k0_idx155_inb : ∀ (v628 : IVec S16 32) (k0_hw155 : k0_chk155 v628), ∀ a x, ((![v628] : Fin 1 → IVec S16 32) a x).toNat < S200.size a := fun v628 k0_hw155 => k0_hw155

def k0_chk156 (v631 : IVec S16 32) : Prop :=
  (∀ a x, ((![v631] : Fin 1 → IVec S16 32) a x).toNat < S2560.size a)
theorem k0_idx156_inb : ∀ (v631 : IVec S16 32) (k0_hw156 : k0_chk156 v631), ∀ a x, ((![v631] : Fin 1 → IVec S16 32) a x).toNat < S2560.size a := fun v631 k0_hw156 => k0_hw156

def k0_chk157 (v633 : IVec S16 32) : Prop :=
  (∀ a x, ((![v633] : Fin 1 → IVec S16 32) a x).toNat < S200.size a)
theorem k0_idx157_inb : ∀ (v633 : IVec S16 32) (k0_hw157 : k0_chk157 v633), ∀ a x, ((![v633] : Fin 1 → IVec S16 32) a x).toNat < S200.size a := fun v633 k0_hw157 => k0_hw157

def k0_chk158 (v636 : IVec S16 32) : Prop :=
  (∀ a x, ((![v636] : Fin 1 → IVec S16 32) a x).toNat < S2560.size a)
theorem k0_idx158_inb : ∀ (v636 : IVec S16 32) (k0_hw158 : k0_chk158 v636), ∀ a x, ((![v636] : Fin 1 → IVec S16 32) a x).toNat < S2560.size a := fun v636 k0_hw158 => k0_hw158

def k0_chk159 (v638 : IVec S16 32) : Prop :=
  (∀ a x, ((![v638] : Fin 1 → IVec S16 32) a x).toNat < S200.size a)
theorem k0_idx159_inb : ∀ (v638 : IVec S16 32) (k0_hw159 : k0_chk159 v638), ∀ a x, ((![v638] : Fin 1 → IVec S16 32) a x).toNat < S200.size a := fun v638 k0_hw159 => k0_hw159

def k0_chk160 (v641 : IVec S16 32) : Prop :=
  (∀ a x, ((![v641] : Fin 1 → IVec S16 32) a x).toNat < S2560.size a)
theorem k0_idx160_inb : ∀ (v641 : IVec S16 32) (k0_hw160 : k0_chk160 v641), ∀ a x, ((![v641] : Fin 1 → IVec S16 32) a x).toNat < S2560.size a := fun v641 k0_hw160 => k0_hw160

def k0_chk161 (v703 : IVec S16 32) : Prop :=
  (∀ a x, ((![v703] : Fin 1 → IVec S16 32) a x).toNat < S200.size a)
theorem k0_idx161_inb : ∀ (v703 : IVec S16 32) (k0_hw161 : k0_chk161 v703), ∀ a x, ((![v703] : Fin 1 → IVec S16 32) a x).toNat < S200.size a := fun v703 k0_hw161 => k0_hw161

def k0_chk162 (v706 : IVec S16 32) : Prop :=
  (∀ a x, ((![v706] : Fin 1 → IVec S16 32) a x).toNat < S2560.size a)
theorem k0_idx162_inb : ∀ (v706 : IVec S16 32) (k0_hw162 : k0_chk162 v706), ∀ a x, ((![v706] : Fin 1 → IVec S16 32) a x).toNat < S2560.size a := fun v706 k0_hw162 => k0_hw162

def k0_chk163 (v708 : IVec S16 32) : Prop :=
  (∀ a x, ((![v708] : Fin 1 → IVec S16 32) a x).toNat < S200.size a)
theorem k0_idx163_inb : ∀ (v708 : IVec S16 32) (k0_hw163 : k0_chk163 v708), ∀ a x, ((![v708] : Fin 1 → IVec S16 32) a x).toNat < S200.size a := fun v708 k0_hw163 => k0_hw163

def k0_chk164 (v711 : IVec S16 32) : Prop :=
  (∀ a x, ((![v711] : Fin 1 → IVec S16 32) a x).toNat < S2560.size a)
theorem k0_idx164_inb : ∀ (v711 : IVec S16 32) (k0_hw164 : k0_chk164 v711), ∀ a x, ((![v711] : Fin 1 → IVec S16 32) a x).toNat < S2560.size a := fun v711 k0_hw164 => k0_hw164

def k0_chk165 (v713 : IVec S16 32) : Prop :=
  (∀ a x, ((![v713] : Fin 1 → IVec S16 32) a x).toNat < S200.size a)
theorem k0_idx165_inb : ∀ (v713 : IVec S16 32) (k0_hw165 : k0_chk165 v713), ∀ a x, ((![v713] : Fin 1 → IVec S16 32) a x).toNat < S200.size a := fun v713 k0_hw165 => k0_hw165

def k0_chk166 (v716 : IVec S16 32) : Prop :=
  (∀ a x, ((![v716] : Fin 1 → IVec S16 32) a x).toNat < S2560.size a)
theorem k0_idx166_inb : ∀ (v716 : IVec S16 32) (k0_hw166 : k0_chk166 v716), ∀ a x, ((![v716] : Fin 1 → IVec S16 32) a x).toNat < S2560.size a := fun v716 k0_hw166 => k0_hw166

def k0_chk167 (v718 : IVec S16 32) : Prop :=
  (∀ a x, ((![v718] : Fin 1 → IVec S16 32) a x).toNat < S200.size a)
theorem k0_idx167_inb : ∀ (v718 : IVec S16 32) (k0_hw167 : k0_chk167 v718), ∀ a x, ((![v718] : Fin 1 → IVec S16 32) a x).toNat < S200.size a := fun v718 k0_hw167 => k0_hw167

def k0_chk168 (v721 : IVec S16 32) : Prop :=
  (∀ a x, ((![v721] : Fin 1 → IVec S16 32) a x).toNat < S2560.size a)
theorem k0_idx168_inb : ∀ (v721 : IVec S16 32) (k0_hw168 : k0_chk168 v721), ∀ a x, ((![v721] : Fin 1 → IVec S16 32) a x).toNat < S2560.size a := fun v721 k0_hw168 => k0_hw168

def k0_chk169 (v723 : IVec S16 32) : Prop :=
  (∀ a x, ((![v723] : Fin 1 → IVec S16 32) a x).toNat < S200.size a)
theorem k0_idx169_inb : ∀ (v723 : IVec S16 32) (k0_hw169 : k0_chk169 v723), ∀ a x, ((![v723] : Fin 1 → IVec S16 32) a x).toNat < S200.size a := fun v723 k0_hw169 => k0_hw169

def k0_chk170 (v726 : IVec S16 32) : Prop :=
  (∀ a x, ((![v726] : Fin 1 → IVec S16 32) a x).toNat < S2560.size a)
theorem k0_idx170_inb : ∀ (v726 : IVec S16 32) (k0_hw170 : k0_chk170 v726), ∀ a x, ((![v726] : Fin 1 → IVec S16 32) a x).toNat < S2560.size a := fun v726 k0_hw170 => k0_hw170

def k0_chk171 (v728 : IVec S16 32) : Prop :=
  (∀ a x, ((![v728] : Fin 1 → IVec S16 32) a x).toNat < S200.size a)
theorem k0_idx171_inb : ∀ (v728 : IVec S16 32) (k0_hw171 : k0_chk171 v728), ∀ a x, ((![v728] : Fin 1 → IVec S16 32) a x).toNat < S200.size a := fun v728 k0_hw171 => k0_hw171

def k0_chk172 (v731 : IVec S16 32) : Prop :=
  (∀ a x, ((![v731] : Fin 1 → IVec S16 32) a x).toNat < S2560.size a)
theorem k0_idx172_inb : ∀ (v731 : IVec S16 32) (k0_hw172 : k0_chk172 v731), ∀ a x, ((![v731] : Fin 1 → IVec S16 32) a x).toNat < S2560.size a := fun v731 k0_hw172 => k0_hw172

def k0_chk173 (v733 : IVec S16 32) : Prop :=
  (∀ a x, ((![v733] : Fin 1 → IVec S16 32) a x).toNat < S200.size a)
theorem k0_idx173_inb : ∀ (v733 : IVec S16 32) (k0_hw173 : k0_chk173 v733), ∀ a x, ((![v733] : Fin 1 → IVec S16 32) a x).toNat < S200.size a := fun v733 k0_hw173 => k0_hw173

def k0_chk174 (v736 : IVec S16 32) : Prop :=
  (∀ a x, ((![v736] : Fin 1 → IVec S16 32) a x).toNat < S2560.size a)
theorem k0_idx174_inb : ∀ (v736 : IVec S16 32) (k0_hw174 : k0_chk174 v736), ∀ a x, ((![v736] : Fin 1 → IVec S16 32) a x).toNat < S2560.size a := fun v736 k0_hw174 => k0_hw174

def k0_chk175 (v738 : IVec S16 32) : Prop :=
  (∀ a x, ((![v738] : Fin 1 → IVec S16 32) a x).toNat < S200.size a)
theorem k0_idx175_inb : ∀ (v738 : IVec S16 32) (k0_hw175 : k0_chk175 v738), ∀ a x, ((![v738] : Fin 1 → IVec S16 32) a x).toNat < S200.size a := fun v738 k0_hw175 => k0_hw175

def k0_chk176 (v741 : IVec S16 32) : Prop :=
  (∀ a x, ((![v741] : Fin 1 → IVec S16 32) a x).toNat < S2560.size a)
theorem k0_idx176_inb : ∀ (v741 : IVec S16 32) (k0_hw176 : k0_chk176 v741), ∀ a x, ((![v741] : Fin 1 → IVec S16 32) a x).toNat < S2560.size a := fun v741 k0_hw176 => k0_hw176

def k0_chk177 (v743 : IVec S16 32) : Prop :=
  (∀ a x, ((![v743] : Fin 1 → IVec S16 32) a x).toNat < S200.size a)
theorem k0_idx177_inb : ∀ (v743 : IVec S16 32) (k0_hw177 : k0_chk177 v743), ∀ a x, ((![v743] : Fin 1 → IVec S16 32) a x).toNat < S200.size a := fun v743 k0_hw177 => k0_hw177

def k0_chk178 (v746 : IVec S16 32) : Prop :=
  (∀ a x, ((![v746] : Fin 1 → IVec S16 32) a x).toNat < S2560.size a)
theorem k0_idx178_inb : ∀ (v746 : IVec S16 32) (k0_hw178 : k0_chk178 v746), ∀ a x, ((![v746] : Fin 1 → IVec S16 32) a x).toNat < S2560.size a := fun v746 k0_hw178 => k0_hw178

def k0_chk179 (v748 : IVec S16 32) : Prop :=
  (∀ a x, ((![v748] : Fin 1 → IVec S16 32) a x).toNat < S200.size a)
theorem k0_idx179_inb : ∀ (v748 : IVec S16 32) (k0_hw179 : k0_chk179 v748), ∀ a x, ((![v748] : Fin 1 → IVec S16 32) a x).toNat < S200.size a := fun v748 k0_hw179 => k0_hw179

def k0_chk180 (v751 : IVec S16 32) : Prop :=
  (∀ a x, ((![v751] : Fin 1 → IVec S16 32) a x).toNat < S2560.size a)
theorem k0_idx180_inb : ∀ (v751 : IVec S16 32) (k0_hw180 : k0_chk180 v751), ∀ a x, ((![v751] : Fin 1 → IVec S16 32) a x).toNat < S2560.size a := fun v751 k0_hw180 => k0_hw180

def k0_chk181 (v753 : IVec S16 32) : Prop :=
  (∀ a x, ((![v753] : Fin 1 → IVec S16 32) a x).toNat < S200.size a)
theorem k0_idx181_inb : ∀ (v753 : IVec S16 32) (k0_hw181 : k0_chk181 v753), ∀ a x, ((![v753] : Fin 1 → IVec S16 32) a x).toNat < S200.size a := fun v753 k0_hw181 => k0_hw181

def k0_chk182 (v756 : IVec S16 32) : Prop :=
  (∀ a x, ((![v756] : Fin 1 → IVec S16 32) a x).toNat < S2560.size a)
theorem k0_idx182_inb : ∀ (v756 : IVec S16 32) (k0_hw182 : k0_chk182 v756), ∀ a x, ((![v756] : Fin 1 → IVec S16 32) a x).toNat < S2560.size a := fun v756 k0_hw182 => k0_hw182

def k0_chk183 (v758 : IVec S16 32) : Prop :=
  (∀ a x, ((![v758] : Fin 1 → IVec S16 32) a x).toNat < S200.size a)
theorem k0_idx183_inb : ∀ (v758 : IVec S16 32) (k0_hw183 : k0_chk183 v758), ∀ a x, ((![v758] : Fin 1 → IVec S16 32) a x).toNat < S200.size a := fun v758 k0_hw183 => k0_hw183

def k0_chk184 (v761 : IVec S16 32) : Prop :=
  (∀ a x, ((![v761] : Fin 1 → IVec S16 32) a x).toNat < S2560.size a)
theorem k0_idx184_inb : ∀ (v761 : IVec S16 32) (k0_hw184 : k0_chk184 v761), ∀ a x, ((![v761] : Fin 1 → IVec S16 32) a x).toNat < S2560.size a := fun v761 k0_hw184 => k0_hw184

def k0_chk185 (v763 : IVec S16 32) : Prop :=
  (∀ a x, ((![v763] : Fin 1 → IVec S16 32) a x).toNat < S200.size a)
theorem k0_idx185_inb : ∀ (v763 : IVec S16 32) (k0_hw185 : k0_chk185 v763), ∀ a x, ((![v763] : Fin 1 → IVec S16 32) a x).toNat < S200.size a := fun v763 k0_hw185 => k0_hw185

def k0_chk186 (v766 : IVec S16 32) : Prop :=
  (∀ a x, ((![v766] : Fin 1 → IVec S16 32) a x).toNat < S2560.size a)
theorem k0_idx186_inb : ∀ (v766 : IVec S16 32) (k0_hw186 : k0_chk186 v766), ∀ a x, ((![v766] : Fin 1 → IVec S16 32) a x).toNat < S2560.size a := fun v766 k0_hw186 => k0_hw186

def k0_chk187 (v768 : IVec S16 32) : Prop :=
  (∀ a x, ((![v768] : Fin 1 → IVec S16 32) a x).toNat < S200.size a)
theorem k0_idx187_inb : ∀ (v768 : IVec S16 32) (k0_hw187 : k0_chk187 v768), ∀ a x, ((![v768] : Fin 1 → IVec S16 32) a x).toNat < S200.size a := fun v768 k0_hw187 => k0_hw187

def k0_chk188 (v771 : IVec S16 32) : Prop :=
  (∀ a x, ((![v771] : Fin 1 → IVec S16 32) a x).toNat < S2560.size a)
theorem k0_idx188_inb : ∀ (v771 : IVec S16 32) (k0_hw188 : k0_chk188 v771), ∀ a x, ((![v771] : Fin 1 → IVec S16 32) a x).toNat < S2560.size a := fun v771 k0_hw188 => k0_hw188

def k0_chk189 (v773 : IVec S16 32) : Prop :=
  (∀ a x, ((![v773] : Fin 1 → IVec S16 32) a x).toNat < S200.size a)
theorem k0_idx189_inb : ∀ (v773 : IVec S16 32) (k0_hw189 : k0_chk189 v773), ∀ a x, ((![v773] : Fin 1 → IVec S16 32) a x).toNat < S200.size a := fun v773 k0_hw189 => k0_hw189

def k0_chk190 (v776 : IVec S16 32) : Prop :=
  (∀ a x, ((![v776] : Fin 1 → IVec S16 32) a x).toNat < S2560.size a)
theorem k0_idx190_inb : ∀ (v776 : IVec S16 32) (k0_hw190 : k0_chk190 v776), ∀ a x, ((![v776] : Fin 1 → IVec S16 32) a x).toNat < S2560.size a := fun v776 k0_hw190 => k0_hw190

def k0_chk191 (v778 : IVec S16 32) : Prop :=
  (∀ a x, ((![v778] : Fin 1 → IVec S16 32) a x).toNat < S200.size a)
theorem k0_idx191_inb : ∀ (v778 : IVec S16 32) (k0_hw191 : k0_chk191 v778), ∀ a x, ((![v778] : Fin 1 → IVec S16 32) a x).toNat < S200.size a := fun v778 k0_hw191 => k0_hw191

def k0_chk192 (v781 : IVec S16 32) : Prop :=
  (∀ a x, ((![v781] : Fin 1 → IVec S16 32) a x).toNat < S2560.size a)
theorem k0_idx192_inb : ∀ (v781 : IVec S16 32) (k0_hw192 : k0_chk192 v781), ∀ a x, ((![v781] : Fin 1 → IVec S16 32) a x).toNat < S2560.size a := fun v781 k0_hw192 => k0_hw192

def k0_chk193 (v783 : IVec S16 32) : Prop :=
  (∀ a x, ((![v783] : Fin 1 → IVec S16 32) a x).toNat < S200.size a)
theorem k0_idx193_inb : ∀ (v783 : IVec S16 32) (k0_hw193 : k0_chk193 v783), ∀ a x, ((![v783] : Fin 1 → IVec S16 32) a x).toNat < S200.size a := fun v783 k0_hw193 => k0_hw193

def k0_chk194 (v786 : IVec S16 32) : Prop :=
  (∀ a x, ((![v786] : Fin 1 → IVec S16 32) a x).toNat < S2560.size a)
theorem k0_idx194_inb : ∀ (v786 : IVec S16 32) (k0_hw194 : k0_chk194 v786), ∀ a x, ((![v786] : Fin 1 → IVec S16 32) a x).toNat < S2560.size a := fun v786 k0_hw194 => k0_hw194

def k0_chk195 (v788 : IVec S16 32) : Prop :=
  (∀ a x, ((![v788] : Fin 1 → IVec S16 32) a x).toNat < S200.size a)
theorem k0_idx195_inb : ∀ (v788 : IVec S16 32) (k0_hw195 : k0_chk195 v788), ∀ a x, ((![v788] : Fin 1 → IVec S16 32) a x).toNat < S200.size a := fun v788 k0_hw195 => k0_hw195

def k0_chk196 (v791 : IVec S16 32) : Prop :=
  (∀ a x, ((![v791] : Fin 1 → IVec S16 32) a x).toNat < S2560.size a)
theorem k0_idx196_inb : ∀ (v791 : IVec S16 32) (k0_hw196 : k0_chk196 v791), ∀ a x, ((![v791] : Fin 1 → IVec S16 32) a x).toNat < S2560.size a := fun v791 k0_hw196 => k0_hw196

def k0_chk197 (v793 : IVec S16 32) : Prop :=
  (∀ a x, ((![v793] : Fin 1 → IVec S16 32) a x).toNat < S200.size a)
theorem k0_idx197_inb : ∀ (v793 : IVec S16 32) (k0_hw197 : k0_chk197 v793), ∀ a x, ((![v793] : Fin 1 → IVec S16 32) a x).toNat < S200.size a := fun v793 k0_hw197 => k0_hw197

def k0_chk198 (v796 : IVec S16 32) : Prop :=
  (∀ a x, ((![v796] : Fin 1 → IVec S16 32) a x).toNat < S2560.size a)
theorem k0_idx198_inb : ∀ (v796 : IVec S16 32) (k0_hw198 : k0_chk198 v796), ∀ a x, ((![v796] : Fin 1 → IVec S16 32) a x).toNat < S2560.size a := fun v796 k0_hw198 => k0_hw198

def k0_chk199 (v798 : IVec S16 32) : Prop :=
  (∀ a x, ((![v798] : Fin 1 → IVec S16 32) a x).toNat < S200.size a)
theorem k0_idx199_inb : ∀ (v798 : IVec S16 32) (k0_hw199 : k0_chk199 v798), ∀ a x, ((![v798] : Fin 1 → IVec S16 32) a x).toNat < S200.size a := fun v798 k0_hw199 => k0_hw199

def k0_chk200 (v801 : IVec S16 32) : Prop :=
  (∀ a x, ((![v801] : Fin 1 → IVec S16 32) a x).toNat < S2560.size a)
theorem k0_idx200_inb : ∀ (v801 : IVec S16 32) (k0_hw200 : k0_chk200 v801), ∀ a x, ((![v801] : Fin 1 → IVec S16 32) a x).toNat < S2560.size a := fun v801 k0_hw200 => k0_hw200

def k0_chk201 (v863 : IVec S16 32) : Prop :=
  (∀ a x, ((![v863] : Fin 1 → IVec S16 32) a x).toNat < S200.size a)
theorem k0_idx201_inb : ∀ (v863 : IVec S16 32) (k0_hw201 : k0_chk201 v863), ∀ a x, ((![v863] : Fin 1 → IVec S16 32) a x).toNat < S200.size a := fun v863 k0_hw201 => k0_hw201

def k0_chk202 (v866 : IVec S16 32) : Prop :=
  (∀ a x, ((![v866] : Fin 1 → IVec S16 32) a x).toNat < S2560.size a)
theorem k0_idx202_inb : ∀ (v866 : IVec S16 32) (k0_hw202 : k0_chk202 v866), ∀ a x, ((![v866] : Fin 1 → IVec S16 32) a x).toNat < S2560.size a := fun v866 k0_hw202 => k0_hw202

def k0_chk203 (v868 : IVec S16 32) : Prop :=
  (∀ a x, ((![v868] : Fin 1 → IVec S16 32) a x).toNat < S200.size a)
theorem k0_idx203_inb : ∀ (v868 : IVec S16 32) (k0_hw203 : k0_chk203 v868), ∀ a x, ((![v868] : Fin 1 → IVec S16 32) a x).toNat < S200.size a := fun v868 k0_hw203 => k0_hw203

def k0_chk204 (v871 : IVec S16 32) : Prop :=
  (∀ a x, ((![v871] : Fin 1 → IVec S16 32) a x).toNat < S2560.size a)
theorem k0_idx204_inb : ∀ (v871 : IVec S16 32) (k0_hw204 : k0_chk204 v871), ∀ a x, ((![v871] : Fin 1 → IVec S16 32) a x).toNat < S2560.size a := fun v871 k0_hw204 => k0_hw204

def k0_chk205 (v873 : IVec S16 32) : Prop :=
  (∀ a x, ((![v873] : Fin 1 → IVec S16 32) a x).toNat < S200.size a)
theorem k0_idx205_inb : ∀ (v873 : IVec S16 32) (k0_hw205 : k0_chk205 v873), ∀ a x, ((![v873] : Fin 1 → IVec S16 32) a x).toNat < S200.size a := fun v873 k0_hw205 => k0_hw205

def k0_chk206 (v876 : IVec S16 32) : Prop :=
  (∀ a x, ((![v876] : Fin 1 → IVec S16 32) a x).toNat < S2560.size a)
theorem k0_idx206_inb : ∀ (v876 : IVec S16 32) (k0_hw206 : k0_chk206 v876), ∀ a x, ((![v876] : Fin 1 → IVec S16 32) a x).toNat < S2560.size a := fun v876 k0_hw206 => k0_hw206

def k0_chk207 (v878 : IVec S16 32) : Prop :=
  (∀ a x, ((![v878] : Fin 1 → IVec S16 32) a x).toNat < S200.size a)
theorem k0_idx207_inb : ∀ (v878 : IVec S16 32) (k0_hw207 : k0_chk207 v878), ∀ a x, ((![v878] : Fin 1 → IVec S16 32) a x).toNat < S200.size a := fun v878 k0_hw207 => k0_hw207

def k0_chk208 (v881 : IVec S16 32) : Prop :=
  (∀ a x, ((![v881] : Fin 1 → IVec S16 32) a x).toNat < S2560.size a)
theorem k0_idx208_inb : ∀ (v881 : IVec S16 32) (k0_hw208 : k0_chk208 v881), ∀ a x, ((![v881] : Fin 1 → IVec S16 32) a x).toNat < S2560.size a := fun v881 k0_hw208 => k0_hw208

def k0_chk209 (v883 : IVec S16 32) : Prop :=
  (∀ a x, ((![v883] : Fin 1 → IVec S16 32) a x).toNat < S200.size a)
theorem k0_idx209_inb : ∀ (v883 : IVec S16 32) (k0_hw209 : k0_chk209 v883), ∀ a x, ((![v883] : Fin 1 → IVec S16 32) a x).toNat < S200.size a := fun v883 k0_hw209 => k0_hw209

def k0_chk210 (v886 : IVec S16 32) : Prop :=
  (∀ a x, ((![v886] : Fin 1 → IVec S16 32) a x).toNat < S2560.size a)
theorem k0_idx210_inb : ∀ (v886 : IVec S16 32) (k0_hw210 : k0_chk210 v886), ∀ a x, ((![v886] : Fin 1 → IVec S16 32) a x).toNat < S2560.size a := fun v886 k0_hw210 => k0_hw210

def k0_chk211 (v888 : IVec S16 32) : Prop :=
  (∀ a x, ((![v888] : Fin 1 → IVec S16 32) a x).toNat < S200.size a)
theorem k0_idx211_inb : ∀ (v888 : IVec S16 32) (k0_hw211 : k0_chk211 v888), ∀ a x, ((![v888] : Fin 1 → IVec S16 32) a x).toNat < S200.size a := fun v888 k0_hw211 => k0_hw211

def k0_chk212 (v891 : IVec S16 32) : Prop :=
  (∀ a x, ((![v891] : Fin 1 → IVec S16 32) a x).toNat < S2560.size a)
theorem k0_idx212_inb : ∀ (v891 : IVec S16 32) (k0_hw212 : k0_chk212 v891), ∀ a x, ((![v891] : Fin 1 → IVec S16 32) a x).toNat < S2560.size a := fun v891 k0_hw212 => k0_hw212

def k0_chk213 (v893 : IVec S16 32) : Prop :=
  (∀ a x, ((![v893] : Fin 1 → IVec S16 32) a x).toNat < S200.size a)
theorem k0_idx213_inb : ∀ (v893 : IVec S16 32) (k0_hw213 : k0_chk213 v893), ∀ a x, ((![v893] : Fin 1 → IVec S16 32) a x).toNat < S200.size a := fun v893 k0_hw213 => k0_hw213

def k0_chk214 (v896 : IVec S16 32) : Prop :=
  (∀ a x, ((![v896] : Fin 1 → IVec S16 32) a x).toNat < S2560.size a)
theorem k0_idx214_inb : ∀ (v896 : IVec S16 32) (k0_hw214 : k0_chk214 v896), ∀ a x, ((![v896] : Fin 1 → IVec S16 32) a x).toNat < S2560.size a := fun v896 k0_hw214 => k0_hw214

def k0_chk215 (v898 : IVec S16 32) : Prop :=
  (∀ a x, ((![v898] : Fin 1 → IVec S16 32) a x).toNat < S200.size a)
theorem k0_idx215_inb : ∀ (v898 : IVec S16 32) (k0_hw215 : k0_chk215 v898), ∀ a x, ((![v898] : Fin 1 → IVec S16 32) a x).toNat < S200.size a := fun v898 k0_hw215 => k0_hw215

def k0_chk216 (v901 : IVec S16 32) : Prop :=
  (∀ a x, ((![v901] : Fin 1 → IVec S16 32) a x).toNat < S2560.size a)
theorem k0_idx216_inb : ∀ (v901 : IVec S16 32) (k0_hw216 : k0_chk216 v901), ∀ a x, ((![v901] : Fin 1 → IVec S16 32) a x).toNat < S2560.size a := fun v901 k0_hw216 => k0_hw216

def k0_chk217 (v903 : IVec S16 32) : Prop :=
  (∀ a x, ((![v903] : Fin 1 → IVec S16 32) a x).toNat < S200.size a)
theorem k0_idx217_inb : ∀ (v903 : IVec S16 32) (k0_hw217 : k0_chk217 v903), ∀ a x, ((![v903] : Fin 1 → IVec S16 32) a x).toNat < S200.size a := fun v903 k0_hw217 => k0_hw217

def k0_chk218 (v906 : IVec S16 32) : Prop :=
  (∀ a x, ((![v906] : Fin 1 → IVec S16 32) a x).toNat < S2560.size a)
theorem k0_idx218_inb : ∀ (v906 : IVec S16 32) (k0_hw218 : k0_chk218 v906), ∀ a x, ((![v906] : Fin 1 → IVec S16 32) a x).toNat < S2560.size a := fun v906 k0_hw218 => k0_hw218

def k0_chk219 (v908 : IVec S16 32) : Prop :=
  (∀ a x, ((![v908] : Fin 1 → IVec S16 32) a x).toNat < S200.size a)
theorem k0_idx219_inb : ∀ (v908 : IVec S16 32) (k0_hw219 : k0_chk219 v908), ∀ a x, ((![v908] : Fin 1 → IVec S16 32) a x).toNat < S200.size a := fun v908 k0_hw219 => k0_hw219

def k0_chk220 (v911 : IVec S16 32) : Prop :=
  (∀ a x, ((![v911] : Fin 1 → IVec S16 32) a x).toNat < S2560.size a)
theorem k0_idx220_inb : ∀ (v911 : IVec S16 32) (k0_hw220 : k0_chk220 v911), ∀ a x, ((![v911] : Fin 1 → IVec S16 32) a x).toNat < S2560.size a := fun v911 k0_hw220 => k0_hw220

def k0_chk221 (v913 : IVec S16 32) : Prop :=
  (∀ a x, ((![v913] : Fin 1 → IVec S16 32) a x).toNat < S200.size a)
theorem k0_idx221_inb : ∀ (v913 : IVec S16 32) (k0_hw221 : k0_chk221 v913), ∀ a x, ((![v913] : Fin 1 → IVec S16 32) a x).toNat < S200.size a := fun v913 k0_hw221 => k0_hw221

def k0_chk222 (v916 : IVec S16 32) : Prop :=
  (∀ a x, ((![v916] : Fin 1 → IVec S16 32) a x).toNat < S2560.size a)
theorem k0_idx222_inb : ∀ (v916 : IVec S16 32) (k0_hw222 : k0_chk222 v916), ∀ a x, ((![v916] : Fin 1 → IVec S16 32) a x).toNat < S2560.size a := fun v916 k0_hw222 => k0_hw222

def k0_chk223 (v918 : IVec S16 32) : Prop :=
  (∀ a x, ((![v918] : Fin 1 → IVec S16 32) a x).toNat < S200.size a)
theorem k0_idx223_inb : ∀ (v918 : IVec S16 32) (k0_hw223 : k0_chk223 v918), ∀ a x, ((![v918] : Fin 1 → IVec S16 32) a x).toNat < S200.size a := fun v918 k0_hw223 => k0_hw223

def k0_chk224 (v921 : IVec S16 32) : Prop :=
  (∀ a x, ((![v921] : Fin 1 → IVec S16 32) a x).toNat < S2560.size a)
theorem k0_idx224_inb : ∀ (v921 : IVec S16 32) (k0_hw224 : k0_chk224 v921), ∀ a x, ((![v921] : Fin 1 → IVec S16 32) a x).toNat < S2560.size a := fun v921 k0_hw224 => k0_hw224

def k0_chk225 (v923 : IVec S16 32) : Prop :=
  (∀ a x, ((![v923] : Fin 1 → IVec S16 32) a x).toNat < S200.size a)
theorem k0_idx225_inb : ∀ (v923 : IVec S16 32) (k0_hw225 : k0_chk225 v923), ∀ a x, ((![v923] : Fin 1 → IVec S16 32) a x).toNat < S200.size a := fun v923 k0_hw225 => k0_hw225

def k0_chk226 (v926 : IVec S16 32) : Prop :=
  (∀ a x, ((![v926] : Fin 1 → IVec S16 32) a x).toNat < S2560.size a)
theorem k0_idx226_inb : ∀ (v926 : IVec S16 32) (k0_hw226 : k0_chk226 v926), ∀ a x, ((![v926] : Fin 1 → IVec S16 32) a x).toNat < S2560.size a := fun v926 k0_hw226 => k0_hw226

def k0_chk227 (v928 : IVec S16 32) : Prop :=
  (∀ a x, ((![v928] : Fin 1 → IVec S16 32) a x).toNat < S200.size a)
theorem k0_idx227_inb : ∀ (v928 : IVec S16 32) (k0_hw227 : k0_chk227 v928), ∀ a x, ((![v928] : Fin 1 → IVec S16 32) a x).toNat < S200.size a := fun v928 k0_hw227 => k0_hw227

def k0_chk228 (v931 : IVec S16 32) : Prop :=
  (∀ a x, ((![v931] : Fin 1 → IVec S16 32) a x).toNat < S2560.size a)
theorem k0_idx228_inb : ∀ (v931 : IVec S16 32) (k0_hw228 : k0_chk228 v931), ∀ a x, ((![v931] : Fin 1 → IVec S16 32) a x).toNat < S2560.size a := fun v931 k0_hw228 => k0_hw228

def k0_chk229 (v933 : IVec S16 32) : Prop :=
  (∀ a x, ((![v933] : Fin 1 → IVec S16 32) a x).toNat < S200.size a)
theorem k0_idx229_inb : ∀ (v933 : IVec S16 32) (k0_hw229 : k0_chk229 v933), ∀ a x, ((![v933] : Fin 1 → IVec S16 32) a x).toNat < S200.size a := fun v933 k0_hw229 => k0_hw229

def k0_chk230 (v936 : IVec S16 32) : Prop :=
  (∀ a x, ((![v936] : Fin 1 → IVec S16 32) a x).toNat < S2560.size a)
theorem k0_idx230_inb : ∀ (v936 : IVec S16 32) (k0_hw230 : k0_chk230 v936), ∀ a x, ((![v936] : Fin 1 → IVec S16 32) a x).toNat < S2560.size a := fun v936 k0_hw230 => k0_hw230

def k0_chk231 (v938 : IVec S16 32) : Prop :=
  (∀ a x, ((![v938] : Fin 1 → IVec S16 32) a x).toNat < S200.size a)
theorem k0_idx231_inb : ∀ (v938 : IVec S16 32) (k0_hw231 : k0_chk231 v938), ∀ a x, ((![v938] : Fin 1 → IVec S16 32) a x).toNat < S200.size a := fun v938 k0_hw231 => k0_hw231

def k0_chk232 (v941 : IVec S16 32) : Prop :=
  (∀ a x, ((![v941] : Fin 1 → IVec S16 32) a x).toNat < S2560.size a)
theorem k0_idx232_inb : ∀ (v941 : IVec S16 32) (k0_hw232 : k0_chk232 v941), ∀ a x, ((![v941] : Fin 1 → IVec S16 32) a x).toNat < S2560.size a := fun v941 k0_hw232 => k0_hw232

def k0_chk233 (v943 : IVec S16 32) : Prop :=
  (∀ a x, ((![v943] : Fin 1 → IVec S16 32) a x).toNat < S200.size a)
theorem k0_idx233_inb : ∀ (v943 : IVec S16 32) (k0_hw233 : k0_chk233 v943), ∀ a x, ((![v943] : Fin 1 → IVec S16 32) a x).toNat < S200.size a := fun v943 k0_hw233 => k0_hw233

def k0_chk234 (v946 : IVec S16 32) : Prop :=
  (∀ a x, ((![v946] : Fin 1 → IVec S16 32) a x).toNat < S2560.size a)
theorem k0_idx234_inb : ∀ (v946 : IVec S16 32) (k0_hw234 : k0_chk234 v946), ∀ a x, ((![v946] : Fin 1 → IVec S16 32) a x).toNat < S2560.size a := fun v946 k0_hw234 => k0_hw234

def k0_chk235 (v948 : IVec S16 32) : Prop :=
  (∀ a x, ((![v948] : Fin 1 → IVec S16 32) a x).toNat < S200.size a)
theorem k0_idx235_inb : ∀ (v948 : IVec S16 32) (k0_hw235 : k0_chk235 v948), ∀ a x, ((![v948] : Fin 1 → IVec S16 32) a x).toNat < S200.size a := fun v948 k0_hw235 => k0_hw235

def k0_chk236 (v951 : IVec S16 32) : Prop :=
  (∀ a x, ((![v951] : Fin 1 → IVec S16 32) a x).toNat < S2560.size a)
theorem k0_idx236_inb : ∀ (v951 : IVec S16 32) (k0_hw236 : k0_chk236 v951), ∀ a x, ((![v951] : Fin 1 → IVec S16 32) a x).toNat < S2560.size a := fun v951 k0_hw236 => k0_hw236

def k0_chk237 (v953 : IVec S16 32) : Prop :=
  (∀ a x, ((![v953] : Fin 1 → IVec S16 32) a x).toNat < S200.size a)
theorem k0_idx237_inb : ∀ (v953 : IVec S16 32) (k0_hw237 : k0_chk237 v953), ∀ a x, ((![v953] : Fin 1 → IVec S16 32) a x).toNat < S200.size a := fun v953 k0_hw237 => k0_hw237

def k0_chk238 (v956 : IVec S16 32) : Prop :=
  (∀ a x, ((![v956] : Fin 1 → IVec S16 32) a x).toNat < S2560.size a)
theorem k0_idx238_inb : ∀ (v956 : IVec S16 32) (k0_hw238 : k0_chk238 v956), ∀ a x, ((![v956] : Fin 1 → IVec S16 32) a x).toNat < S2560.size a := fun v956 k0_hw238 => k0_hw238

def k0_chk239 (v958 : IVec S16 32) : Prop :=
  (∀ a x, ((![v958] : Fin 1 → IVec S16 32) a x).toNat < S200.size a)
theorem k0_idx239_inb : ∀ (v958 : IVec S16 32) (k0_hw239 : k0_chk239 v958), ∀ a x, ((![v958] : Fin 1 → IVec S16 32) a x).toNat < S200.size a := fun v958 k0_hw239 => k0_hw239

def k0_chk240 (v961 : IVec S16 32) : Prop :=
  (∀ a x, ((![v961] : Fin 1 → IVec S16 32) a x).toNat < S2560.size a)
theorem k0_idx240_inb : ∀ (v961 : IVec S16 32) (k0_hw240 : k0_chk240 v961), ∀ a x, ((![v961] : Fin 1 → IVec S16 32) a x).toNat < S2560.size a := fun v961 k0_hw240 => k0_hw240

def k0_chk241 (v1023 : IVec S16 32) : Prop :=
  (∀ a x, ((![v1023] : Fin 1 → IVec S16 32) a x).toNat < S200.size a)
theorem k0_idx241_inb : ∀ (v1023 : IVec S16 32) (k0_hw241 : k0_chk241 v1023), ∀ a x, ((![v1023] : Fin 1 → IVec S16 32) a x).toNat < S200.size a := fun v1023 k0_hw241 => k0_hw241

def k0_chk242 (v1026 : IVec S16 32) : Prop :=
  (∀ a x, ((![v1026] : Fin 1 → IVec S16 32) a x).toNat < S2560.size a)
theorem k0_idx242_inb : ∀ (v1026 : IVec S16 32) (k0_hw242 : k0_chk242 v1026), ∀ a x, ((![v1026] : Fin 1 → IVec S16 32) a x).toNat < S2560.size a := fun v1026 k0_hw242 => k0_hw242

def k0_chk243 (v1028 : IVec S16 32) : Prop :=
  (∀ a x, ((![v1028] : Fin 1 → IVec S16 32) a x).toNat < S200.size a)
theorem k0_idx243_inb : ∀ (v1028 : IVec S16 32) (k0_hw243 : k0_chk243 v1028), ∀ a x, ((![v1028] : Fin 1 → IVec S16 32) a x).toNat < S200.size a := fun v1028 k0_hw243 => k0_hw243

def k0_chk244 (v1031 : IVec S16 32) : Prop :=
  (∀ a x, ((![v1031] : Fin 1 → IVec S16 32) a x).toNat < S2560.size a)
theorem k0_idx244_inb : ∀ (v1031 : IVec S16 32) (k0_hw244 : k0_chk244 v1031), ∀ a x, ((![v1031] : Fin 1 → IVec S16 32) a x).toNat < S2560.size a := fun v1031 k0_hw244 => k0_hw244

def k0_chk245 (v1033 : IVec S16 32) : Prop :=
  (∀ a x, ((![v1033] : Fin 1 → IVec S16 32) a x).toNat < S200.size a)
theorem k0_idx245_inb : ∀ (v1033 : IVec S16 32) (k0_hw245 : k0_chk245 v1033), ∀ a x, ((![v1033] : Fin 1 → IVec S16 32) a x).toNat < S200.size a := fun v1033 k0_hw245 => k0_hw245

def k0_chk246 (v1036 : IVec S16 32) : Prop :=
  (∀ a x, ((![v1036] : Fin 1 → IVec S16 32) a x).toNat < S2560.size a)
theorem k0_idx246_inb : ∀ (v1036 : IVec S16 32) (k0_hw246 : k0_chk246 v1036), ∀ a x, ((![v1036] : Fin 1 → IVec S16 32) a x).toNat < S2560.size a := fun v1036 k0_hw246 => k0_hw246

def k0_chk247 (v1038 : IVec S16 32) : Prop :=
  (∀ a x, ((![v1038] : Fin 1 → IVec S16 32) a x).toNat < S200.size a)
theorem k0_idx247_inb : ∀ (v1038 : IVec S16 32) (k0_hw247 : k0_chk247 v1038), ∀ a x, ((![v1038] : Fin 1 → IVec S16 32) a x).toNat < S200.size a := fun v1038 k0_hw247 => k0_hw247

def k0_chk248 (v1041 : IVec S16 32) : Prop :=
  (∀ a x, ((![v1041] : Fin 1 → IVec S16 32) a x).toNat < S2560.size a)
theorem k0_idx248_inb : ∀ (v1041 : IVec S16 32) (k0_hw248 : k0_chk248 v1041), ∀ a x, ((![v1041] : Fin 1 → IVec S16 32) a x).toNat < S2560.size a := fun v1041 k0_hw248 => k0_hw248

def k0_chk249 (v1043 : IVec S16 32) : Prop :=
  (∀ a x, ((![v1043] : Fin 1 → IVec S16 32) a x).toNat < S200.size a)
theorem k0_idx249_inb : ∀ (v1043 : IVec S16 32) (k0_hw249 : k0_chk249 v1043), ∀ a x, ((![v1043] : Fin 1 → IVec S16 32) a x).toNat < S200.size a := fun v1043 k0_hw249 => k0_hw249

def k0_chk250 (v1046 : IVec S16 32) : Prop :=
  (∀ a x, ((![v1046] : Fin 1 → IVec S16 32) a x).toNat < S2560.size a)
theorem k0_idx250_inb : ∀ (v1046 : IVec S16 32) (k0_hw250 : k0_chk250 v1046), ∀ a x, ((![v1046] : Fin 1 → IVec S16 32) a x).toNat < S2560.size a := fun v1046 k0_hw250 => k0_hw250

def k0_chk251 (v1048 : IVec S16 32) : Prop :=
  (∀ a x, ((![v1048] : Fin 1 → IVec S16 32) a x).toNat < S200.size a)
theorem k0_idx251_inb : ∀ (v1048 : IVec S16 32) (k0_hw251 : k0_chk251 v1048), ∀ a x, ((![v1048] : Fin 1 → IVec S16 32) a x).toNat < S200.size a := fun v1048 k0_hw251 => k0_hw251

def k0_chk252 (v1051 : IVec S16 32) : Prop :=
  (∀ a x, ((![v1051] : Fin 1 → IVec S16 32) a x).toNat < S2560.size a)
theorem k0_idx252_inb : ∀ (v1051 : IVec S16 32) (k0_hw252 : k0_chk252 v1051), ∀ a x, ((![v1051] : Fin 1 → IVec S16 32) a x).toNat < S2560.size a := fun v1051 k0_hw252 => k0_hw252

def k0_chk253 (v1053 : IVec S16 32) : Prop :=
  (∀ a x, ((![v1053] : Fin 1 → IVec S16 32) a x).toNat < S200.size a)
theorem k0_idx253_inb : ∀ (v1053 : IVec S16 32) (k0_hw253 : k0_chk253 v1053), ∀ a x, ((![v1053] : Fin 1 → IVec S16 32) a x).toNat < S200.size a := fun v1053 k0_hw253 => k0_hw253

def k0_chk254 (v1056 : IVec S16 32) : Prop :=
  (∀ a x, ((![v1056] : Fin 1 → IVec S16 32) a x).toNat < S2560.size a)
theorem k0_idx254_inb : ∀ (v1056 : IVec S16 32) (k0_hw254 : k0_chk254 v1056), ∀ a x, ((![v1056] : Fin 1 → IVec S16 32) a x).toNat < S2560.size a := fun v1056 k0_hw254 => k0_hw254

def k0_chk255 (v1058 : IVec S16 32) : Prop :=
  (∀ a x, ((![v1058] : Fin 1 → IVec S16 32) a x).toNat < S200.size a)
theorem k0_idx255_inb : ∀ (v1058 : IVec S16 32) (k0_hw255 : k0_chk255 v1058), ∀ a x, ((![v1058] : Fin 1 → IVec S16 32) a x).toNat < S200.size a := fun v1058 k0_hw255 => k0_hw255

def k0_chk256 (v1061 : IVec S16 32) : Prop :=
  (∀ a x, ((![v1061] : Fin 1 → IVec S16 32) a x).toNat < S2560.size a)
theorem k0_idx256_inb : ∀ (v1061 : IVec S16 32) (k0_hw256 : k0_chk256 v1061), ∀ a x, ((![v1061] : Fin 1 → IVec S16 32) a x).toNat < S2560.size a := fun v1061 k0_hw256 => k0_hw256

def k0_chk257 (v1063 : IVec S16 32) : Prop :=
  (∀ a x, ((![v1063] : Fin 1 → IVec S16 32) a x).toNat < S200.size a)
theorem k0_idx257_inb : ∀ (v1063 : IVec S16 32) (k0_hw257 : k0_chk257 v1063), ∀ a x, ((![v1063] : Fin 1 → IVec S16 32) a x).toNat < S200.size a := fun v1063 k0_hw257 => k0_hw257

def k0_chk258 (v1066 : IVec S16 32) : Prop :=
  (∀ a x, ((![v1066] : Fin 1 → IVec S16 32) a x).toNat < S2560.size a)
theorem k0_idx258_inb : ∀ (v1066 : IVec S16 32) (k0_hw258 : k0_chk258 v1066), ∀ a x, ((![v1066] : Fin 1 → IVec S16 32) a x).toNat < S2560.size a := fun v1066 k0_hw258 => k0_hw258

def k0_chk259 (v1068 : IVec S16 32) : Prop :=
  (∀ a x, ((![v1068] : Fin 1 → IVec S16 32) a x).toNat < S200.size a)
theorem k0_idx259_inb : ∀ (v1068 : IVec S16 32) (k0_hw259 : k0_chk259 v1068), ∀ a x, ((![v1068] : Fin 1 → IVec S16 32) a x).toNat < S200.size a := fun v1068 k0_hw259 => k0_hw259

def k0_chk260 (v1071 : IVec S16 32) : Prop :=
  (∀ a x, ((![v1071] : Fin 1 → IVec S16 32) a x).toNat < S2560.size a)
theorem k0_idx260_inb : ∀ (v1071 : IVec S16 32) (k0_hw260 : k0_chk260 v1071), ∀ a x, ((![v1071] : Fin 1 → IVec S16 32) a x).toNat < S2560.size a := fun v1071 k0_hw260 => k0_hw260

def k0_chk261 (v1073 : IVec S16 32) : Prop :=
  (∀ a x, ((![v1073] : Fin 1 → IVec S16 32) a x).toNat < S200.size a)
theorem k0_idx261_inb : ∀ (v1073 : IVec S16 32) (k0_hw261 : k0_chk261 v1073), ∀ a x, ((![v1073] : Fin 1 → IVec S16 32) a x).toNat < S200.size a := fun v1073 k0_hw261 => k0_hw261

def k0_chk262 (v1076 : IVec S16 32) : Prop :=
  (∀ a x, ((![v1076] : Fin 1 → IVec S16 32) a x).toNat < S2560.size a)
theorem k0_idx262_inb : ∀ (v1076 : IVec S16 32) (k0_hw262 : k0_chk262 v1076), ∀ a x, ((![v1076] : Fin 1 → IVec S16 32) a x).toNat < S2560.size a := fun v1076 k0_hw262 => k0_hw262

def k0_chk263 (v1078 : IVec S16 32) : Prop :=
  (∀ a x, ((![v1078] : Fin 1 → IVec S16 32) a x).toNat < S200.size a)
theorem k0_idx263_inb : ∀ (v1078 : IVec S16 32) (k0_hw263 : k0_chk263 v1078), ∀ a x, ((![v1078] : Fin 1 → IVec S16 32) a x).toNat < S200.size a := fun v1078 k0_hw263 => k0_hw263

def k0_chk264 (v1081 : IVec S16 32) : Prop :=
  (∀ a x, ((![v1081] : Fin 1 → IVec S16 32) a x).toNat < S2560.size a)
theorem k0_idx264_inb : ∀ (v1081 : IVec S16 32) (k0_hw264 : k0_chk264 v1081), ∀ a x, ((![v1081] : Fin 1 → IVec S16 32) a x).toNat < S2560.size a := fun v1081 k0_hw264 => k0_hw264

def k0_chk265 (v1083 : IVec S16 32) : Prop :=
  (∀ a x, ((![v1083] : Fin 1 → IVec S16 32) a x).toNat < S200.size a)
theorem k0_idx265_inb : ∀ (v1083 : IVec S16 32) (k0_hw265 : k0_chk265 v1083), ∀ a x, ((![v1083] : Fin 1 → IVec S16 32) a x).toNat < S200.size a := fun v1083 k0_hw265 => k0_hw265

def k0_chk266 (v1086 : IVec S16 32) : Prop :=
  (∀ a x, ((![v1086] : Fin 1 → IVec S16 32) a x).toNat < S2560.size a)
theorem k0_idx266_inb : ∀ (v1086 : IVec S16 32) (k0_hw266 : k0_chk266 v1086), ∀ a x, ((![v1086] : Fin 1 → IVec S16 32) a x).toNat < S2560.size a := fun v1086 k0_hw266 => k0_hw266

def k0_chk267 (v1088 : IVec S16 32) : Prop :=
  (∀ a x, ((![v1088] : Fin 1 → IVec S16 32) a x).toNat < S200.size a)
theorem k0_idx267_inb : ∀ (v1088 : IVec S16 32) (k0_hw267 : k0_chk267 v1088), ∀ a x, ((![v1088] : Fin 1 → IVec S16 32) a x).toNat < S200.size a := fun v1088 k0_hw267 => k0_hw267

def k0_chk268 (v1091 : IVec S16 32) : Prop :=
  (∀ a x, ((![v1091] : Fin 1 → IVec S16 32) a x).toNat < S2560.size a)
theorem k0_idx268_inb : ∀ (v1091 : IVec S16 32) (k0_hw268 : k0_chk268 v1091), ∀ a x, ((![v1091] : Fin 1 → IVec S16 32) a x).toNat < S2560.size a := fun v1091 k0_hw268 => k0_hw268

def k0_chk269 (v1093 : IVec S16 32) : Prop :=
  (∀ a x, ((![v1093] : Fin 1 → IVec S16 32) a x).toNat < S200.size a)
theorem k0_idx269_inb : ∀ (v1093 : IVec S16 32) (k0_hw269 : k0_chk269 v1093), ∀ a x, ((![v1093] : Fin 1 → IVec S16 32) a x).toNat < S200.size a := fun v1093 k0_hw269 => k0_hw269

def k0_chk270 (v1096 : IVec S16 32) : Prop :=
  (∀ a x, ((![v1096] : Fin 1 → IVec S16 32) a x).toNat < S2560.size a)
theorem k0_idx270_inb : ∀ (v1096 : IVec S16 32) (k0_hw270 : k0_chk270 v1096), ∀ a x, ((![v1096] : Fin 1 → IVec S16 32) a x).toNat < S2560.size a := fun v1096 k0_hw270 => k0_hw270

def k0_chk271 (v1098 : IVec S16 32) : Prop :=
  (∀ a x, ((![v1098] : Fin 1 → IVec S16 32) a x).toNat < S200.size a)
theorem k0_idx271_inb : ∀ (v1098 : IVec S16 32) (k0_hw271 : k0_chk271 v1098), ∀ a x, ((![v1098] : Fin 1 → IVec S16 32) a x).toNat < S200.size a := fun v1098 k0_hw271 => k0_hw271

def k0_chk272 (v1101 : IVec S16 32) : Prop :=
  (∀ a x, ((![v1101] : Fin 1 → IVec S16 32) a x).toNat < S2560.size a)
theorem k0_idx272_inb : ∀ (v1101 : IVec S16 32) (k0_hw272 : k0_chk272 v1101), ∀ a x, ((![v1101] : Fin 1 → IVec S16 32) a x).toNat < S2560.size a := fun v1101 k0_hw272 => k0_hw272

def k0_chk273 (v1103 : IVec S16 32) : Prop :=
  (∀ a x, ((![v1103] : Fin 1 → IVec S16 32) a x).toNat < S200.size a)
theorem k0_idx273_inb : ∀ (v1103 : IVec S16 32) (k0_hw273 : k0_chk273 v1103), ∀ a x, ((![v1103] : Fin 1 → IVec S16 32) a x).toNat < S200.size a := fun v1103 k0_hw273 => k0_hw273

def k0_chk274 (v1106 : IVec S16 32) : Prop :=
  (∀ a x, ((![v1106] : Fin 1 → IVec S16 32) a x).toNat < S2560.size a)
theorem k0_idx274_inb : ∀ (v1106 : IVec S16 32) (k0_hw274 : k0_chk274 v1106), ∀ a x, ((![v1106] : Fin 1 → IVec S16 32) a x).toNat < S2560.size a := fun v1106 k0_hw274 => k0_hw274

def k0_chk275 (v1108 : IVec S16 32) : Prop :=
  (∀ a x, ((![v1108] : Fin 1 → IVec S16 32) a x).toNat < S200.size a)
theorem k0_idx275_inb : ∀ (v1108 : IVec S16 32) (k0_hw275 : k0_chk275 v1108), ∀ a x, ((![v1108] : Fin 1 → IVec S16 32) a x).toNat < S200.size a := fun v1108 k0_hw275 => k0_hw275

def k0_chk276 (v1111 : IVec S16 32) : Prop :=
  (∀ a x, ((![v1111] : Fin 1 → IVec S16 32) a x).toNat < S2560.size a)
theorem k0_idx276_inb : ∀ (v1111 : IVec S16 32) (k0_hw276 : k0_chk276 v1111), ∀ a x, ((![v1111] : Fin 1 → IVec S16 32) a x).toNat < S2560.size a := fun v1111 k0_hw276 => k0_hw276

def k0_chk277 (v1113 : IVec S16 32) : Prop :=
  (∀ a x, ((![v1113] : Fin 1 → IVec S16 32) a x).toNat < S200.size a)
theorem k0_idx277_inb : ∀ (v1113 : IVec S16 32) (k0_hw277 : k0_chk277 v1113), ∀ a x, ((![v1113] : Fin 1 → IVec S16 32) a x).toNat < S200.size a := fun v1113 k0_hw277 => k0_hw277

def k0_chk278 (v1116 : IVec S16 32) : Prop :=
  (∀ a x, ((![v1116] : Fin 1 → IVec S16 32) a x).toNat < S2560.size a)
theorem k0_idx278_inb : ∀ (v1116 : IVec S16 32) (k0_hw278 : k0_chk278 v1116), ∀ a x, ((![v1116] : Fin 1 → IVec S16 32) a x).toNat < S2560.size a := fun v1116 k0_hw278 => k0_hw278

def k0_chk279 (v1118 : IVec S16 32) : Prop :=
  (∀ a x, ((![v1118] : Fin 1 → IVec S16 32) a x).toNat < S200.size a)
theorem k0_idx279_inb : ∀ (v1118 : IVec S16 32) (k0_hw279 : k0_chk279 v1118), ∀ a x, ((![v1118] : Fin 1 → IVec S16 32) a x).toNat < S200.size a := fun v1118 k0_hw279 => k0_hw279

def k0_chk280 (v1121 : IVec S16 32) : Prop :=
  (∀ a x, ((![v1121] : Fin 1 → IVec S16 32) a x).toNat < S2560.size a)
theorem k0_idx280_inb : ∀ (v1121 : IVec S16 32) (k0_hw280 : k0_chk280 v1121), ∀ a x, ((![v1121] : Fin 1 → IVec S16 32) a x).toNat < S2560.size a := fun v1121 k0_hw280 => k0_hw280

def k0_chk281 (v1183 : IVec S16 32) : Prop :=
  (∀ a x, ((![v1183] : Fin 1 → IVec S16 32) a x).toNat < S200.size a)
theorem k0_idx281_inb : ∀ (v1183 : IVec S16 32) (k0_hw281 : k0_chk281 v1183), ∀ a x, ((![v1183] : Fin 1 → IVec S16 32) a x).toNat < S200.size a := fun v1183 k0_hw281 => k0_hw281

def k0_chk282 (v1186 : IVec S16 32) : Prop :=
  (∀ a x, ((![v1186] : Fin 1 → IVec S16 32) a x).toNat < S2560.size a)
theorem k0_idx282_inb : ∀ (v1186 : IVec S16 32) (k0_hw282 : k0_chk282 v1186), ∀ a x, ((![v1186] : Fin 1 → IVec S16 32) a x).toNat < S2560.size a := fun v1186 k0_hw282 => k0_hw282

def k0_chk283 (v1188 : IVec S16 32) : Prop :=
  (∀ a x, ((![v1188] : Fin 1 → IVec S16 32) a x).toNat < S200.size a)
theorem k0_idx283_inb : ∀ (v1188 : IVec S16 32) (k0_hw283 : k0_chk283 v1188), ∀ a x, ((![v1188] : Fin 1 → IVec S16 32) a x).toNat < S200.size a := fun v1188 k0_hw283 => k0_hw283

def k0_chk284 (v1191 : IVec S16 32) : Prop :=
  (∀ a x, ((![v1191] : Fin 1 → IVec S16 32) a x).toNat < S2560.size a)
theorem k0_idx284_inb : ∀ (v1191 : IVec S16 32) (k0_hw284 : k0_chk284 v1191), ∀ a x, ((![v1191] : Fin 1 → IVec S16 32) a x).toNat < S2560.size a := fun v1191 k0_hw284 => k0_hw284

def k0_chk285 (v1193 : IVec S16 32) : Prop :=
  (∀ a x, ((![v1193] : Fin 1 → IVec S16 32) a x).toNat < S200.size a)
theorem k0_idx285_inb : ∀ (v1193 : IVec S16 32) (k0_hw285 : k0_chk285 v1193), ∀ a x, ((![v1193] : Fin 1 → IVec S16 32) a x).toNat < S200.size a := fun v1193 k0_hw285 => k0_hw285

def k0_chk286 (v1196 : IVec S16 32) : Prop :=
  (∀ a x, ((![v1196] : Fin 1 → IVec S16 32) a x).toNat < S2560.size a)
theorem k0_idx286_inb : ∀ (v1196 : IVec S16 32) (k0_hw286 : k0_chk286 v1196), ∀ a x, ((![v1196] : Fin 1 → IVec S16 32) a x).toNat < S2560.size a := fun v1196 k0_hw286 => k0_hw286

def k0_chk287 (v1198 : IVec S16 32) : Prop :=
  (∀ a x, ((![v1198] : Fin 1 → IVec S16 32) a x).toNat < S200.size a)
theorem k0_idx287_inb : ∀ (v1198 : IVec S16 32) (k0_hw287 : k0_chk287 v1198), ∀ a x, ((![v1198] : Fin 1 → IVec S16 32) a x).toNat < S200.size a := fun v1198 k0_hw287 => k0_hw287

def k0_chk288 (v1201 : IVec S16 32) : Prop :=
  (∀ a x, ((![v1201] : Fin 1 → IVec S16 32) a x).toNat < S2560.size a)
theorem k0_idx288_inb : ∀ (v1201 : IVec S16 32) (k0_hw288 : k0_chk288 v1201), ∀ a x, ((![v1201] : Fin 1 → IVec S16 32) a x).toNat < S2560.size a := fun v1201 k0_hw288 => k0_hw288

def k0_chk289 (v1203 : IVec S16 32) : Prop :=
  (∀ a x, ((![v1203] : Fin 1 → IVec S16 32) a x).toNat < S200.size a)
theorem k0_idx289_inb : ∀ (v1203 : IVec S16 32) (k0_hw289 : k0_chk289 v1203), ∀ a x, ((![v1203] : Fin 1 → IVec S16 32) a x).toNat < S200.size a := fun v1203 k0_hw289 => k0_hw289

def k0_chk290 (v1206 : IVec S16 32) : Prop :=
  (∀ a x, ((![v1206] : Fin 1 → IVec S16 32) a x).toNat < S2560.size a)
theorem k0_idx290_inb : ∀ (v1206 : IVec S16 32) (k0_hw290 : k0_chk290 v1206), ∀ a x, ((![v1206] : Fin 1 → IVec S16 32) a x).toNat < S2560.size a := fun v1206 k0_hw290 => k0_hw290

def k0_chk291 (v1208 : IVec S16 32) : Prop :=
  (∀ a x, ((![v1208] : Fin 1 → IVec S16 32) a x).toNat < S200.size a)
theorem k0_idx291_inb : ∀ (v1208 : IVec S16 32) (k0_hw291 : k0_chk291 v1208), ∀ a x, ((![v1208] : Fin 1 → IVec S16 32) a x).toNat < S200.size a := fun v1208 k0_hw291 => k0_hw291

def k0_chk292 (v1211 : IVec S16 32) : Prop :=
  (∀ a x, ((![v1211] : Fin 1 → IVec S16 32) a x).toNat < S2560.size a)
theorem k0_idx292_inb : ∀ (v1211 : IVec S16 32) (k0_hw292 : k0_chk292 v1211), ∀ a x, ((![v1211] : Fin 1 → IVec S16 32) a x).toNat < S2560.size a := fun v1211 k0_hw292 => k0_hw292

def k0_chk293 (v1213 : IVec S16 32) : Prop :=
  (∀ a x, ((![v1213] : Fin 1 → IVec S16 32) a x).toNat < S200.size a)
theorem k0_idx293_inb : ∀ (v1213 : IVec S16 32) (k0_hw293 : k0_chk293 v1213), ∀ a x, ((![v1213] : Fin 1 → IVec S16 32) a x).toNat < S200.size a := fun v1213 k0_hw293 => k0_hw293

def k0_chk294 (v1216 : IVec S16 32) : Prop :=
  (∀ a x, ((![v1216] : Fin 1 → IVec S16 32) a x).toNat < S2560.size a)
theorem k0_idx294_inb : ∀ (v1216 : IVec S16 32) (k0_hw294 : k0_chk294 v1216), ∀ a x, ((![v1216] : Fin 1 → IVec S16 32) a x).toNat < S2560.size a := fun v1216 k0_hw294 => k0_hw294

def k0_chk295 (v1218 : IVec S16 32) : Prop :=
  (∀ a x, ((![v1218] : Fin 1 → IVec S16 32) a x).toNat < S200.size a)
theorem k0_idx295_inb : ∀ (v1218 : IVec S16 32) (k0_hw295 : k0_chk295 v1218), ∀ a x, ((![v1218] : Fin 1 → IVec S16 32) a x).toNat < S200.size a := fun v1218 k0_hw295 => k0_hw295

def k0_chk296 (v1221 : IVec S16 32) : Prop :=
  (∀ a x, ((![v1221] : Fin 1 → IVec S16 32) a x).toNat < S2560.size a)
theorem k0_idx296_inb : ∀ (v1221 : IVec S16 32) (k0_hw296 : k0_chk296 v1221), ∀ a x, ((![v1221] : Fin 1 → IVec S16 32) a x).toNat < S2560.size a := fun v1221 k0_hw296 => k0_hw296

def k0_chk297 (v1223 : IVec S16 32) : Prop :=
  (∀ a x, ((![v1223] : Fin 1 → IVec S16 32) a x).toNat < S200.size a)
theorem k0_idx297_inb : ∀ (v1223 : IVec S16 32) (k0_hw297 : k0_chk297 v1223), ∀ a x, ((![v1223] : Fin 1 → IVec S16 32) a x).toNat < S200.size a := fun v1223 k0_hw297 => k0_hw297

def k0_chk298 (v1226 : IVec S16 32) : Prop :=
  (∀ a x, ((![v1226] : Fin 1 → IVec S16 32) a x).toNat < S2560.size a)
theorem k0_idx298_inb : ∀ (v1226 : IVec S16 32) (k0_hw298 : k0_chk298 v1226), ∀ a x, ((![v1226] : Fin 1 → IVec S16 32) a x).toNat < S2560.size a := fun v1226 k0_hw298 => k0_hw298

def k0_chk299 (v1228 : IVec S16 32) : Prop :=
  (∀ a x, ((![v1228] : Fin 1 → IVec S16 32) a x).toNat < S200.size a)
theorem k0_idx299_inb : ∀ (v1228 : IVec S16 32) (k0_hw299 : k0_chk299 v1228), ∀ a x, ((![v1228] : Fin 1 → IVec S16 32) a x).toNat < S200.size a := fun v1228 k0_hw299 => k0_hw299

def k0_chk300 (v1231 : IVec S16 32) : Prop :=
  (∀ a x, ((![v1231] : Fin 1 → IVec S16 32) a x).toNat < S2560.size a)
theorem k0_idx300_inb : ∀ (v1231 : IVec S16 32) (k0_hw300 : k0_chk300 v1231), ∀ a x, ((![v1231] : Fin 1 → IVec S16 32) a x).toNat < S2560.size a := fun v1231 k0_hw300 => k0_hw300

def k0_chk301 (v1233 : IVec S16 32) : Prop :=
  (∀ a x, ((![v1233] : Fin 1 → IVec S16 32) a x).toNat < S200.size a)
theorem k0_idx301_inb : ∀ (v1233 : IVec S16 32) (k0_hw301 : k0_chk301 v1233), ∀ a x, ((![v1233] : Fin 1 → IVec S16 32) a x).toNat < S200.size a := fun v1233 k0_hw301 => k0_hw301

def k0_chk302 (v1236 : IVec S16 32) : Prop :=
  (∀ a x, ((![v1236] : Fin 1 → IVec S16 32) a x).toNat < S2560.size a)
theorem k0_idx302_inb : ∀ (v1236 : IVec S16 32) (k0_hw302 : k0_chk302 v1236), ∀ a x, ((![v1236] : Fin 1 → IVec S16 32) a x).toNat < S2560.size a := fun v1236 k0_hw302 => k0_hw302

def k0_chk303 (v1238 : IVec S16 32) : Prop :=
  (∀ a x, ((![v1238] : Fin 1 → IVec S16 32) a x).toNat < S200.size a)
theorem k0_idx303_inb : ∀ (v1238 : IVec S16 32) (k0_hw303 : k0_chk303 v1238), ∀ a x, ((![v1238] : Fin 1 → IVec S16 32) a x).toNat < S200.size a := fun v1238 k0_hw303 => k0_hw303

def k0_chk304 (v1241 : IVec S16 32) : Prop :=
  (∀ a x, ((![v1241] : Fin 1 → IVec S16 32) a x).toNat < S2560.size a)
theorem k0_idx304_inb : ∀ (v1241 : IVec S16 32) (k0_hw304 : k0_chk304 v1241), ∀ a x, ((![v1241] : Fin 1 → IVec S16 32) a x).toNat < S2560.size a := fun v1241 k0_hw304 => k0_hw304

def k0_chk305 (v1243 : IVec S16 32) : Prop :=
  (∀ a x, ((![v1243] : Fin 1 → IVec S16 32) a x).toNat < S200.size a)
theorem k0_idx305_inb : ∀ (v1243 : IVec S16 32) (k0_hw305 : k0_chk305 v1243), ∀ a x, ((![v1243] : Fin 1 → IVec S16 32) a x).toNat < S200.size a := fun v1243 k0_hw305 => k0_hw305

def k0_chk306 (v1246 : IVec S16 32) : Prop :=
  (∀ a x, ((![v1246] : Fin 1 → IVec S16 32) a x).toNat < S2560.size a)
theorem k0_idx306_inb : ∀ (v1246 : IVec S16 32) (k0_hw306 : k0_chk306 v1246), ∀ a x, ((![v1246] : Fin 1 → IVec S16 32) a x).toNat < S2560.size a := fun v1246 k0_hw306 => k0_hw306

def k0_chk307 (v1248 : IVec S16 32) : Prop :=
  (∀ a x, ((![v1248] : Fin 1 → IVec S16 32) a x).toNat < S200.size a)
theorem k0_idx307_inb : ∀ (v1248 : IVec S16 32) (k0_hw307 : k0_chk307 v1248), ∀ a x, ((![v1248] : Fin 1 → IVec S16 32) a x).toNat < S200.size a := fun v1248 k0_hw307 => k0_hw307

def k0_chk308 (v1251 : IVec S16 32) : Prop :=
  (∀ a x, ((![v1251] : Fin 1 → IVec S16 32) a x).toNat < S2560.size a)
theorem k0_idx308_inb : ∀ (v1251 : IVec S16 32) (k0_hw308 : k0_chk308 v1251), ∀ a x, ((![v1251] : Fin 1 → IVec S16 32) a x).toNat < S2560.size a := fun v1251 k0_hw308 => k0_hw308

def k0_chk309 (v1253 : IVec S16 32) : Prop :=
  (∀ a x, ((![v1253] : Fin 1 → IVec S16 32) a x).toNat < S200.size a)
theorem k0_idx309_inb : ∀ (v1253 : IVec S16 32) (k0_hw309 : k0_chk309 v1253), ∀ a x, ((![v1253] : Fin 1 → IVec S16 32) a x).toNat < S200.size a := fun v1253 k0_hw309 => k0_hw309

def k0_chk310 (v1256 : IVec S16 32) : Prop :=
  (∀ a x, ((![v1256] : Fin 1 → IVec S16 32) a x).toNat < S2560.size a)
theorem k0_idx310_inb : ∀ (v1256 : IVec S16 32) (k0_hw310 : k0_chk310 v1256), ∀ a x, ((![v1256] : Fin 1 → IVec S16 32) a x).toNat < S2560.size a := fun v1256 k0_hw310 => k0_hw310

def k0_chk311 (v1258 : IVec S16 32) : Prop :=
  (∀ a x, ((![v1258] : Fin 1 → IVec S16 32) a x).toNat < S200.size a)
theorem k0_idx311_inb : ∀ (v1258 : IVec S16 32) (k0_hw311 : k0_chk311 v1258), ∀ a x, ((![v1258] : Fin 1 → IVec S16 32) a x).toNat < S200.size a := fun v1258 k0_hw311 => k0_hw311

def k0_chk312 (v1261 : IVec S16 32) : Prop :=
  (∀ a x, ((![v1261] : Fin 1 → IVec S16 32) a x).toNat < S2560.size a)
theorem k0_idx312_inb : ∀ (v1261 : IVec S16 32) (k0_hw312 : k0_chk312 v1261), ∀ a x, ((![v1261] : Fin 1 → IVec S16 32) a x).toNat < S2560.size a := fun v1261 k0_hw312 => k0_hw312

def k0_chk313 (v1263 : IVec S16 32) : Prop :=
  (∀ a x, ((![v1263] : Fin 1 → IVec S16 32) a x).toNat < S200.size a)
theorem k0_idx313_inb : ∀ (v1263 : IVec S16 32) (k0_hw313 : k0_chk313 v1263), ∀ a x, ((![v1263] : Fin 1 → IVec S16 32) a x).toNat < S200.size a := fun v1263 k0_hw313 => k0_hw313

def k0_chk314 (v1266 : IVec S16 32) : Prop :=
  (∀ a x, ((![v1266] : Fin 1 → IVec S16 32) a x).toNat < S2560.size a)
theorem k0_idx314_inb : ∀ (v1266 : IVec S16 32) (k0_hw314 : k0_chk314 v1266), ∀ a x, ((![v1266] : Fin 1 → IVec S16 32) a x).toNat < S2560.size a := fun v1266 k0_hw314 => k0_hw314

def k0_chk315 (v1268 : IVec S16 32) : Prop :=
  (∀ a x, ((![v1268] : Fin 1 → IVec S16 32) a x).toNat < S200.size a)
theorem k0_idx315_inb : ∀ (v1268 : IVec S16 32) (k0_hw315 : k0_chk315 v1268), ∀ a x, ((![v1268] : Fin 1 → IVec S16 32) a x).toNat < S200.size a := fun v1268 k0_hw315 => k0_hw315

def k0_chk316 (v1271 : IVec S16 32) : Prop :=
  (∀ a x, ((![v1271] : Fin 1 → IVec S16 32) a x).toNat < S2560.size a)
theorem k0_idx316_inb : ∀ (v1271 : IVec S16 32) (k0_hw316 : k0_chk316 v1271), ∀ a x, ((![v1271] : Fin 1 → IVec S16 32) a x).toNat < S2560.size a := fun v1271 k0_hw316 => k0_hw316

def k0_chk317 (v1273 : IVec S16 32) : Prop :=
  (∀ a x, ((![v1273] : Fin 1 → IVec S16 32) a x).toNat < S200.size a)
theorem k0_idx317_inb : ∀ (v1273 : IVec S16 32) (k0_hw317 : k0_chk317 v1273), ∀ a x, ((![v1273] : Fin 1 → IVec S16 32) a x).toNat < S200.size a := fun v1273 k0_hw317 => k0_hw317

def k0_chk318 (v1276 : IVec S16 32) : Prop :=
  (∀ a x, ((![v1276] : Fin 1 → IVec S16 32) a x).toNat < S2560.size a)
theorem k0_idx318_inb : ∀ (v1276 : IVec S16 32) (k0_hw318 : k0_chk318 v1276), ∀ a x, ((![v1276] : Fin 1 → IVec S16 32) a x).toNat < S2560.size a := fun v1276 k0_hw318 => k0_hw318

def k0_chk319 (v1278 : IVec S16 32) : Prop :=
  (∀ a x, ((![v1278] : Fin 1 → IVec S16 32) a x).toNat < S200.size a)
theorem k0_idx319_inb : ∀ (v1278 : IVec S16 32) (k0_hw319 : k0_chk319 v1278), ∀ a x, ((![v1278] : Fin 1 → IVec S16 32) a x).toNat < S200.size a := fun v1278 k0_hw319 => k0_hw319

def k0_chk320 (v1281 : IVec S16 32) : Prop :=
  (∀ a x, ((![v1281] : Fin 1 → IVec S16 32) a x).toNat < S2560.size a)
theorem k0_idx320_inb : ∀ (v1281 : IVec S16 32) (k0_hw320 : k0_chk320 v1281), ∀ a x, ((![v1281] : Fin 1 → IVec S16 32) a x).toNat < S2560.size a := fun v1281 k0_hw320 => k0_hw320
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32_515 : BitVec 32 := 1024#32
  let v1282 : BitVec 32 := Scalar.muli v1 c1024_i32_515
  ![v1282.toNat]
@[reducible] def k0_t1_loop : Scf.Loop 32 :=
  let c0_i32_517 : BitVec 32 := 0#32
  let c16_i32_518 : BitVec 32 := 16#32
  let v1285 : BitVec 32 := Scalar.addi c0_i32_517 c16_i32_518
  let c1_i32_519 : BitVec 32 := 1#32
  ⟨c0_i32_517, v1285, c1_i32_519⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_538 : BitVec 32 := 2#32
  let c0_i32_517 : BitVec 32 := 0#32
  let c1_i32_519 : BitVec 32 := 1#32
  let arg17 : BitVec 32 := Scf.iv c0_i32_517 c1_i32_519 k0_t1
  let v1297 : BitVec 32 := Scalar.muli c2_i32_538 arg17
  let c0_i32_539 : BitVec 32 := 0#32
  let v1298 : BitVec 32 := Scalar.addi v1297 c0_i32_539
  let c32_i32_540 : BitVec 32 := 32#32
  let v1299 : BitVec 32 := Scalar.muli v1298 c32_i32_540
  let v1300 : BitVec 32 := Scalar.addi v1 v1299
  let c976_i32 : BitVec 32 := 976#32
  let v1301 : BitVec 1 := Scalar.cmpi .slt v1300 c976_i32
  let v1302 : BitVec 32 := Scalar.extui v1301
  let c0_i32_541 : BitVec 32 := 0#32
  let v1303 : BitVec 1 := Scalar.cmpi .ne v1302 c0_i32_541
  v1303

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_538 : BitVec 32 := 2#32
  let c0_i32_517 : BitVec 32 := 0#32
  let c1_i32_519 : BitVec 32 := 1#32
  let arg17 : BitVec 32 := Scf.iv c0_i32_517 c1_i32_519 k0_t1
  let v1297 : BitVec 32 := Scalar.muli c2_i32_538 arg17
  let c0_i32_539 : BitVec 32 := 0#32
  let v1298 : BitVec 32 := Scalar.addi v1297 c0_i32_539
  let c32_i32_540 : BitVec 32 := 32#32
  let v1299 : BitVec 32 := Scalar.muli v1298 c32_i32_540
  let v1300 : BitVec 32 := Scalar.addi v1 v1299
  let c1024_i32_547 : BitVec 32 := 1024#32
  let v1311 : BitVec 32 := Scalar.muli v1300 c1024_i32_547
  ![v1311.toNat]
def k0_cond2 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_538 : BitVec 32 := 2#32
  let c0_i32_517 : BitVec 32 := 0#32
  let c1_i32_519 : BitVec 32 := 1#32
  let arg17 : BitVec 32 := Scf.iv c0_i32_517 c1_i32_519 k0_t1
  let v1297 : BitVec 32 := Scalar.muli c2_i32_538 arg17
  let c0_i32_539 : BitVec 32 := 0#32
  let v1298 : BitVec 32 := Scalar.addi v1297 c0_i32_539
  let c32_i32_540 : BitVec 32 := 32#32
  let v1299 : BitVec 32 := Scalar.muli v1298 c32_i32_540
  let v1300 : BitVec 32 := Scalar.addi v1 v1299
  let c32_i32_548 : BitVec 32 := 32#32
  let v1314 : BitVec 32 := Scalar.addi v1300 c32_i32_548
  let c976_i32_549 : BitVec 32 := 976#32
  let v1315 : BitVec 1 := Scalar.cmpi .slt v1314 c976_i32_549
  let v1316 : BitVec 32 := Scalar.extui v1315
  let c0_i32_550 : BitVec 32 := 0#32
  let v1317 : BitVec 1 := Scalar.cmpi .ne v1316 c0_i32_550
  v1317

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_538 : BitVec 32 := 2#32
  let c0_i32_517 : BitVec 32 := 0#32
  let c1_i32_519 : BitVec 32 := 1#32
  let arg17 : BitVec 32 := Scf.iv c0_i32_517 c1_i32_519 k0_t1
  let v1297 : BitVec 32 := Scalar.muli c2_i32_538 arg17
  let c0_i32_539 : BitVec 32 := 0#32
  let v1298 : BitVec 32 := Scalar.addi v1297 c0_i32_539
  let c32_i32_540 : BitVec 32 := 32#32
  let v1299 : BitVec 32 := Scalar.muli v1298 c32_i32_540
  let v1300 : BitVec 32 := Scalar.addi v1 v1299
  let c32_i32_564 : BitVec 32 := 32#32
  let v1327 : BitVec 32 := Scalar.addi v1300 c32_i32_564
  let c1024_i32_565 : BitVec 32 := 1024#32
  let v1328 : BitVec 32 := Scalar.muli v1327 c1024_i32_565
  ![v1328.toNat]
def k0_cond3 (k0_t1 : Fin k0_t1_loop.trips) : BitVec 1 :=
  let c0_i32_517 : BitVec 32 := 0#32
  let c1_i32_519 : BitVec 32 := 1#32
  let arg17 : BitVec 32 := Scf.iv c0_i32_517 c1_i32_519 k0_t1
  let c1_i32_551 : BitVec 32 := 1#32
  let v1318 : BitVec 1 := Scalar.cmpi .sge arg17 c1_i32_551
  let v1319 : BitVec 32 := Scalar.extui v1318
  let c0_i32_552 : BitVec 32 := 0#32
  let v1320 : BitVec 1 := Scalar.cmpi .ne v1319 c0_i32_552
  v1320

def k0_off4 (i : grid0.Coords) (k0_t1 : Fin k0_t1_loop.trips) : Fin 2 → Nat :=
  let c0_i32_568 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_538 : BitVec 32 := 2#32
  let c0_i32_517 : BitVec 32 := 0#32
  let c1_i32_519 : BitVec 32 := 1#32
  let arg17 : BitVec 32 := Scf.iv c0_i32_517 c1_i32_519 k0_t1
  let v1297 : BitVec 32 := Scalar.muli c2_i32_538 arg17
  let c0_i32_539 : BitVec 32 := 0#32
  let v1298 : BitVec 32 := Scalar.addi v1297 c0_i32_539
  let c32_i32_540 : BitVec 32 := 32#32
  let v1299 : BitVec 32 := Scalar.muli v1298 c32_i32_540
  let v1300 : BitVec 32 := Scalar.addi v1 v1299
  let c64_i32_564 : BitVec 32 := 64#32
  let v1327 : BitVec 32 := Scalar.subi v1300 c64_i32_564
  let c1024_i32_565 : BitVec 32 := 1024#32
  let v1328 : BitVec 32 := Scalar.muli v1327 c1024_i32_565
  ![0, v1328.toNat]
@[reducible] def k0_t2_loop : Scf.Loop 32 :=
  let c0_i32_553 : BitVec 32 := 0#32
  let c64_i32_554 : BitVec 32 := 64#32
  let v1321 : BitVec 32 := Scalar.addi c0_i32_553 c64_i32_554
  let c1_i32_555 : BitVec 32 := 1#32
  ⟨c0_i32_553, v1321, c1_i32_555⟩
def k0_mult1 (k0_t2 : Fin k0_t2_loop.trips) : BitVec 32 :=
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  v1329
def k0_off5 (k0_t2 : Fin k0_t2_loop.trips) : Fin 1 → Nat :=
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1331 : Index := Scalar.indexCast v1330
  ![v1331.toNat]

def k0_chk321 (i : grid0.Coords) (k0_t1 : Fin k0_t1_loop.trips) (v1334 : IVec S16 32) : Prop :=
  (∀ (k0_h1 : k0_cond1 i k0_t1 = 1#1), ∀ a x, ((![v1334] : Fin 1 → IVec S16 32) a x).toNat < S2560.size a)
theorem k0_idx321_inb : ∀ (i : grid0.Coords) (k0_t1 : Fin k0_t1_loop.trips) (v1334 : IVec S16 32) (k0_hw321 : k0_chk321 i k0_t1 v1334), ∀ (k0_h1 : k0_cond1 i k0_t1 = 1#1), ∀ a x, ((![v1334] : Fin 1 → IVec S16 32) a x).toNat < S2560.size a := fun i k0_t1 v1334 k0_hw321 k0_h1 => k0_hw321 k0_h1
def k0_off6 (k0_t2 : Fin k0_t2_loop.trips) : Fin 2 → Nat :=
  let c0_i32_568 : BitVec 32 := 0#32
  let v1336 : Index := Scalar.indexCast c0_i32_568
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1337 : Index := Scalar.indexCast v1330
  ![0, v1337.toNat]

def k0_chk322 (i : grid0.Coords) (k0_t1 : Fin k0_t1_loop.trips) (v1340 : IVec S16 32) : Prop :=
  (∀ (k0_h1 : k0_cond1 i k0_t1 = 1#1), ∀ a x, ((![v1340] : Fin 1 → IVec S16 32) a x).toNat < S2560.size a)
theorem k0_idx322_inb : ∀ (i : grid0.Coords) (k0_t1 : Fin k0_t1_loop.trips) (v1340 : IVec S16 32) (k0_hw322 : k0_chk322 i k0_t1 v1340), ∀ (k0_h1 : k0_cond1 i k0_t1 = 1#1), ∀ a x, ((![v1340] : Fin 1 → IVec S16 32) a x).toNat < S2560.size a := fun i k0_t1 v1340 k0_hw322 k0_h1 => k0_hw322 k0_h1
def k0_off7 (k0_t2 : Fin k0_t2_loop.trips) : Fin 2 → Nat :=
  let c1_i32_570 : BitVec 32 := 1#32
  let v1342 : Index := Scalar.indexCast c1_i32_570
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1343 : Index := Scalar.indexCast v1330
  ![1, v1343.toNat]

def k0_chk323 (i : grid0.Coords) (k0_t1 : Fin k0_t1_loop.trips) (v1346 : IVec S16 32) : Prop :=
  (∀ (k0_h1 : k0_cond1 i k0_t1 = 1#1), ∀ a x, ((![v1346] : Fin 1 → IVec S16 32) a x).toNat < S2560.size a)
theorem k0_idx323_inb : ∀ (i : grid0.Coords) (k0_t1 : Fin k0_t1_loop.trips) (v1346 : IVec S16 32) (k0_hw323 : k0_chk323 i k0_t1 v1346), ∀ (k0_h1 : k0_cond1 i k0_t1 = 1#1), ∀ a x, ((![v1346] : Fin 1 → IVec S16 32) a x).toNat < S2560.size a := fun i k0_t1 v1346 k0_hw323 k0_h1 => k0_hw323 k0_h1
def k0_off8 (k0_t2 : Fin k0_t2_loop.trips) : Fin 2 → Nat :=
  let c2_i32_572 : BitVec 32 := 2#32
  let v1348 : Index := Scalar.indexCast c2_i32_572
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1349 : Index := Scalar.indexCast v1330
  ![2, v1349.toNat]

def k0_chk324 (i : grid0.Coords) (k0_t1 : Fin k0_t1_loop.trips) (v1352 : IVec S16 32) : Prop :=
  (∀ (k0_h1 : k0_cond1 i k0_t1 = 1#1), ∀ a x, ((![v1352] : Fin 1 → IVec S16 32) a x).toNat < S2560.size a)
theorem k0_idx324_inb : ∀ (i : grid0.Coords) (k0_t1 : Fin k0_t1_loop.trips) (v1352 : IVec S16 32) (k0_hw324 : k0_chk324 i k0_t1 v1352), ∀ (k0_h1 : k0_cond1 i k0_t1 = 1#1), ∀ a x, ((![v1352] : Fin 1 → IVec S16 32) a x).toNat < S2560.size a := fun i k0_t1 v1352 k0_hw324 k0_h1 => k0_hw324 k0_h1
def k0_off9 (k0_t2 : Fin k0_t2_loop.trips) : Fin 2 → Nat :=
  let c3_i32_574 : BitVec 32 := 3#32
  let v1354 : Index := Scalar.indexCast c3_i32_574
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1355 : Index := Scalar.indexCast v1330
  ![3, v1355.toNat]

def k0_chk325 (i : grid0.Coords) (k0_t1 : Fin k0_t1_loop.trips) (v1358 : IVec S16 32) : Prop :=
  (∀ (k0_h1 : k0_cond1 i k0_t1 = 1#1), ∀ a x, ((![v1358] : Fin 1 → IVec S16 32) a x).toNat < S2560.size a)
theorem k0_idx325_inb : ∀ (i : grid0.Coords) (k0_t1 : Fin k0_t1_loop.trips) (v1358 : IVec S16 32) (k0_hw325 : k0_chk325 i k0_t1 v1358), ∀ (k0_h1 : k0_cond1 i k0_t1 = 1#1), ∀ a x, ((![v1358] : Fin 1 → IVec S16 32) a x).toNat < S2560.size a := fun i k0_t1 v1358 k0_hw325 k0_h1 => k0_hw325 k0_h1
def k0_off10 (k0_t2 : Fin k0_t2_loop.trips) : Fin 2 → Nat :=
  let c4_i32_576 : BitVec 32 := 4#32
  let v1360 : Index := Scalar.indexCast c4_i32_576
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1361 : Index := Scalar.indexCast v1330
  ![4, v1361.toNat]

def k0_chk326 (i : grid0.Coords) (k0_t1 : Fin k0_t1_loop.trips) (v1364 : IVec S16 32) : Prop :=
  (∀ (k0_h1 : k0_cond1 i k0_t1 = 1#1), ∀ a x, ((![v1364] : Fin 1 → IVec S16 32) a x).toNat < S2560.size a)
theorem k0_idx326_inb : ∀ (i : grid0.Coords) (k0_t1 : Fin k0_t1_loop.trips) (v1364 : IVec S16 32) (k0_hw326 : k0_chk326 i k0_t1 v1364), ∀ (k0_h1 : k0_cond1 i k0_t1 = 1#1), ∀ a x, ((![v1364] : Fin 1 → IVec S16 32) a x).toNat < S2560.size a := fun i k0_t1 v1364 k0_hw326 k0_h1 => k0_hw326 k0_h1
def k0_off11 (k0_t2 : Fin k0_t2_loop.trips) : Fin 2 → Nat :=
  let c5_i32_578 : BitVec 32 := 5#32
  let v1366 : Index := Scalar.indexCast c5_i32_578
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1367 : Index := Scalar.indexCast v1330
  ![5, v1367.toNat]

def k0_chk327 (i : grid0.Coords) (k0_t1 : Fin k0_t1_loop.trips) (v1370 : IVec S16 32) : Prop :=
  (∀ (k0_h1 : k0_cond1 i k0_t1 = 1#1), ∀ a x, ((![v1370] : Fin 1 → IVec S16 32) a x).toNat < S2560.size a)
theorem k0_idx327_inb : ∀ (i : grid0.Coords) (k0_t1 : Fin k0_t1_loop.trips) (v1370 : IVec S16 32) (k0_hw327 : k0_chk327 i k0_t1 v1370), ∀ (k0_h1 : k0_cond1 i k0_t1 = 1#1), ∀ a x, ((![v1370] : Fin 1 → IVec S16 32) a x).toNat < S2560.size a := fun i k0_t1 v1370 k0_hw327 k0_h1 => k0_hw327 k0_h1
def k0_off12 (k0_t2 : Fin k0_t2_loop.trips) : Fin 2 → Nat :=
  let c6_i32_580 : BitVec 32 := 6#32
  let v1372 : Index := Scalar.indexCast c6_i32_580
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1373 : Index := Scalar.indexCast v1330
  ![6, v1373.toNat]

def k0_chk328 (i : grid0.Coords) (k0_t1 : Fin k0_t1_loop.trips) (v1376 : IVec S16 32) : Prop :=
  (∀ (k0_h1 : k0_cond1 i k0_t1 = 1#1), ∀ a x, ((![v1376] : Fin 1 → IVec S16 32) a x).toNat < S2560.size a)
theorem k0_idx328_inb : ∀ (i : grid0.Coords) (k0_t1 : Fin k0_t1_loop.trips) (v1376 : IVec S16 32) (k0_hw328 : k0_chk328 i k0_t1 v1376), ∀ (k0_h1 : k0_cond1 i k0_t1 = 1#1), ∀ a x, ((![v1376] : Fin 1 → IVec S16 32) a x).toNat < S2560.size a := fun i k0_t1 v1376 k0_hw328 k0_h1 => k0_hw328 k0_h1
def k0_off13 (k0_t2 : Fin k0_t2_loop.trips) : Fin 2 → Nat :=
  let c7_i32_582 : BitVec 32 := 7#32
  let v1378 : Index := Scalar.indexCast c7_i32_582
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1379 : Index := Scalar.indexCast v1330
  ![7, v1379.toNat]

def k0_chk329 (i : grid0.Coords) (k0_t1 : Fin k0_t1_loop.trips) (v1382 : IVec S16 32) : Prop :=
  (∀ (k0_h1 : k0_cond1 i k0_t1 = 1#1), ∀ a x, ((![v1382] : Fin 1 → IVec S16 32) a x).toNat < S2560.size a)
theorem k0_idx329_inb : ∀ (i : grid0.Coords) (k0_t1 : Fin k0_t1_loop.trips) (v1382 : IVec S16 32) (k0_hw329 : k0_chk329 i k0_t1 v1382), ∀ (k0_h1 : k0_cond1 i k0_t1 = 1#1), ∀ a x, ((![v1382] : Fin 1 → IVec S16 32) a x).toNat < S2560.size a := fun i k0_t1 v1382 k0_hw329 k0_h1 => k0_hw329 k0_h1
def k0_off14 (k0_t2 : Fin k0_t2_loop.trips) : Fin 2 → Nat :=
  let c8_i32_584 : BitVec 32 := 8#32
  let v1384 : Index := Scalar.indexCast c8_i32_584
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1385 : Index := Scalar.indexCast v1330
  ![8, v1385.toNat]

def k0_chk330 (i : grid0.Coords) (k0_t1 : Fin k0_t1_loop.trips) (v1388 : IVec S16 32) : Prop :=
  (∀ (k0_h1 : k0_cond1 i k0_t1 = 1#1), ∀ a x, ((![v1388] : Fin 1 → IVec S16 32) a x).toNat < S2560.size a)
theorem k0_idx330_inb : ∀ (i : grid0.Coords) (k0_t1 : Fin k0_t1_loop.trips) (v1388 : IVec S16 32) (k0_hw330 : k0_chk330 i k0_t1 v1388), ∀ (k0_h1 : k0_cond1 i k0_t1 = 1#1), ∀ a x, ((![v1388] : Fin 1 → IVec S16 32) a x).toNat < S2560.size a := fun i k0_t1 v1388 k0_hw330 k0_h1 => k0_hw330 k0_h1
def k0_off15 (k0_t2 : Fin k0_t2_loop.trips) : Fin 2 → Nat :=
  let c9_i32_586 : BitVec 32 := 9#32
  let v1390 : Index := Scalar.indexCast c9_i32_586
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1391 : Index := Scalar.indexCast v1330
  ![9, v1391.toNat]

def k0_chk331 (i : grid0.Coords) (k0_t1 : Fin k0_t1_loop.trips) (v1394 : IVec S16 32) : Prop :=
  (∀ (k0_h1 : k0_cond1 i k0_t1 = 1#1), ∀ a x, ((![v1394] : Fin 1 → IVec S16 32) a x).toNat < S2560.size a)
theorem k0_idx331_inb : ∀ (i : grid0.Coords) (k0_t1 : Fin k0_t1_loop.trips) (v1394 : IVec S16 32) (k0_hw331 : k0_chk331 i k0_t1 v1394), ∀ (k0_h1 : k0_cond1 i k0_t1 = 1#1), ∀ a x, ((![v1394] : Fin 1 → IVec S16 32) a x).toNat < S2560.size a := fun i k0_t1 v1394 k0_hw331 k0_h1 => k0_hw331 k0_h1
def k0_off16 (k0_t2 : Fin k0_t2_loop.trips) : Fin 2 → Nat :=
  let c10_i32_588 : BitVec 32 := 10#32
  let v1396 : Index := Scalar.indexCast c10_i32_588
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1397 : Index := Scalar.indexCast v1330
  ![10, v1397.toNat]

def k0_chk332 (i : grid0.Coords) (k0_t1 : Fin k0_t1_loop.trips) (v1400 : IVec S16 32) : Prop :=
  (∀ (k0_h1 : k0_cond1 i k0_t1 = 1#1), ∀ a x, ((![v1400] : Fin 1 → IVec S16 32) a x).toNat < S2560.size a)
theorem k0_idx332_inb : ∀ (i : grid0.Coords) (k0_t1 : Fin k0_t1_loop.trips) (v1400 : IVec S16 32) (k0_hw332 : k0_chk332 i k0_t1 v1400), ∀ (k0_h1 : k0_cond1 i k0_t1 = 1#1), ∀ a x, ((![v1400] : Fin 1 → IVec S16 32) a x).toNat < S2560.size a := fun i k0_t1 v1400 k0_hw332 k0_h1 => k0_hw332 k0_h1
def k0_off17 (k0_t2 : Fin k0_t2_loop.trips) : Fin 2 → Nat :=
  let c11_i32_590 : BitVec 32 := 11#32
  let v1402 : Index := Scalar.indexCast c11_i32_590
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1403 : Index := Scalar.indexCast v1330
  ![11, v1403.toNat]

def k0_chk333 (i : grid0.Coords) (k0_t1 : Fin k0_t1_loop.trips) (v1406 : IVec S16 32) : Prop :=
  (∀ (k0_h1 : k0_cond1 i k0_t1 = 1#1), ∀ a x, ((![v1406] : Fin 1 → IVec S16 32) a x).toNat < S2560.size a)
theorem k0_idx333_inb : ∀ (i : grid0.Coords) (k0_t1 : Fin k0_t1_loop.trips) (v1406 : IVec S16 32) (k0_hw333 : k0_chk333 i k0_t1 v1406), ∀ (k0_h1 : k0_cond1 i k0_t1 = 1#1), ∀ a x, ((![v1406] : Fin 1 → IVec S16 32) a x).toNat < S2560.size a := fun i k0_t1 v1406 k0_hw333 k0_h1 => k0_hw333 k0_h1
def k0_off18 (k0_t2 : Fin k0_t2_loop.trips) : Fin 2 → Nat :=
  let c12_i32_592 : BitVec 32 := 12#32
  let v1408 : Index := Scalar.indexCast c12_i32_592
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1409 : Index := Scalar.indexCast v1330
  ![12, v1409.toNat]

def k0_chk334 (i : grid0.Coords) (k0_t1 : Fin k0_t1_loop.trips) (v1412 : IVec S16 32) : Prop :=
  (∀ (k0_h1 : k0_cond1 i k0_t1 = 1#1), ∀ a x, ((![v1412] : Fin 1 → IVec S16 32) a x).toNat < S2560.size a)
theorem k0_idx334_inb : ∀ (i : grid0.Coords) (k0_t1 : Fin k0_t1_loop.trips) (v1412 : IVec S16 32) (k0_hw334 : k0_chk334 i k0_t1 v1412), ∀ (k0_h1 : k0_cond1 i k0_t1 = 1#1), ∀ a x, ((![v1412] : Fin 1 → IVec S16 32) a x).toNat < S2560.size a := fun i k0_t1 v1412 k0_hw334 k0_h1 => k0_hw334 k0_h1
def k0_off19 (k0_t2 : Fin k0_t2_loop.trips) : Fin 2 → Nat :=
  let c13_i32_594 : BitVec 32 := 13#32
  let v1414 : Index := Scalar.indexCast c13_i32_594
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1415 : Index := Scalar.indexCast v1330
  ![13, v1415.toNat]

def k0_chk335 (i : grid0.Coords) (k0_t1 : Fin k0_t1_loop.trips) (v1418 : IVec S16 32) : Prop :=
  (∀ (k0_h1 : k0_cond1 i k0_t1 = 1#1), ∀ a x, ((![v1418] : Fin 1 → IVec S16 32) a x).toNat < S2560.size a)
theorem k0_idx335_inb : ∀ (i : grid0.Coords) (k0_t1 : Fin k0_t1_loop.trips) (v1418 : IVec S16 32) (k0_hw335 : k0_chk335 i k0_t1 v1418), ∀ (k0_h1 : k0_cond1 i k0_t1 = 1#1), ∀ a x, ((![v1418] : Fin 1 → IVec S16 32) a x).toNat < S2560.size a := fun i k0_t1 v1418 k0_hw335 k0_h1 => k0_hw335 k0_h1
def k0_off20 (k0_t2 : Fin k0_t2_loop.trips) : Fin 2 → Nat :=
  let c14_i32_596 : BitVec 32 := 14#32
  let v1420 : Index := Scalar.indexCast c14_i32_596
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1421 : Index := Scalar.indexCast v1330
  ![14, v1421.toNat]

def k0_chk336 (i : grid0.Coords) (k0_t1 : Fin k0_t1_loop.trips) (v1424 : IVec S16 32) : Prop :=
  (∀ (k0_h1 : k0_cond1 i k0_t1 = 1#1), ∀ a x, ((![v1424] : Fin 1 → IVec S16 32) a x).toNat < S2560.size a)
theorem k0_idx336_inb : ∀ (i : grid0.Coords) (k0_t1 : Fin k0_t1_loop.trips) (v1424 : IVec S16 32) (k0_hw336 : k0_chk336 i k0_t1 v1424), ∀ (k0_h1 : k0_cond1 i k0_t1 = 1#1), ∀ a x, ((![v1424] : Fin 1 → IVec S16 32) a x).toNat < S2560.size a := fun i k0_t1 v1424 k0_hw336 k0_h1 => k0_hw336 k0_h1
def k0_off21 (k0_t2 : Fin k0_t2_loop.trips) : Fin 2 → Nat :=
  let c15_i32_598 : BitVec 32 := 15#32
  let v1426 : Index := Scalar.indexCast c15_i32_598
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1427 : Index := Scalar.indexCast v1330
  ![15, v1427.toNat]

def k0_chk337 (i : grid0.Coords) (k0_t1 : Fin k0_t1_loop.trips) (v1430 : IVec S16 32) : Prop :=
  (∀ (k0_h1 : k0_cond1 i k0_t1 = 1#1), ∀ a x, ((![v1430] : Fin 1 → IVec S16 32) a x).toNat < S2560.size a)
theorem k0_idx337_inb : ∀ (i : grid0.Coords) (k0_t1 : Fin k0_t1_loop.trips) (v1430 : IVec S16 32) (k0_hw337 : k0_chk337 i k0_t1 v1430), ∀ (k0_h1 : k0_cond1 i k0_t1 = 1#1), ∀ a x, ((![v1430] : Fin 1 → IVec S16 32) a x).toNat < S2560.size a := fun i k0_t1 v1430 k0_hw337 k0_h1 => k0_hw337 k0_h1
def k0_off22 (k0_t2 : Fin k0_t2_loop.trips) : Fin 2 → Nat :=
  let c16_i32_600 : BitVec 32 := 16#32
  let v1432 : Index := Scalar.indexCast c16_i32_600
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1433 : Index := Scalar.indexCast v1330
  ![16, v1433.toNat]

def k0_chk338 (i : grid0.Coords) (k0_t1 : Fin k0_t1_loop.trips) (v1436 : IVec S16 32) : Prop :=
  (∀ (k0_h1 : k0_cond1 i k0_t1 = 1#1), ∀ a x, ((![v1436] : Fin 1 → IVec S16 32) a x).toNat < S2560.size a)
theorem k0_idx338_inb : ∀ (i : grid0.Coords) (k0_t1 : Fin k0_t1_loop.trips) (v1436 : IVec S16 32) (k0_hw338 : k0_chk338 i k0_t1 v1436), ∀ (k0_h1 : k0_cond1 i k0_t1 = 1#1), ∀ a x, ((![v1436] : Fin 1 → IVec S16 32) a x).toNat < S2560.size a := fun i k0_t1 v1436 k0_hw338 k0_h1 => k0_hw338 k0_h1
def k0_off23 (k0_t2 : Fin k0_t2_loop.trips) : Fin 2 → Nat :=
  let c17_i32_602 : BitVec 32 := 17#32
  let v1438 : Index := Scalar.indexCast c17_i32_602
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1439 : Index := Scalar.indexCast v1330
  ![17, v1439.toNat]

def k0_chk339 (i : grid0.Coords) (k0_t1 : Fin k0_t1_loop.trips) (v1442 : IVec S16 32) : Prop :=
  (∀ (k0_h1 : k0_cond1 i k0_t1 = 1#1), ∀ a x, ((![v1442] : Fin 1 → IVec S16 32) a x).toNat < S2560.size a)
theorem k0_idx339_inb : ∀ (i : grid0.Coords) (k0_t1 : Fin k0_t1_loop.trips) (v1442 : IVec S16 32) (k0_hw339 : k0_chk339 i k0_t1 v1442), ∀ (k0_h1 : k0_cond1 i k0_t1 = 1#1), ∀ a x, ((![v1442] : Fin 1 → IVec S16 32) a x).toNat < S2560.size a := fun i k0_t1 v1442 k0_hw339 k0_h1 => k0_hw339 k0_h1
def k0_off24 (k0_t2 : Fin k0_t2_loop.trips) : Fin 2 → Nat :=
  let c18_i32_604 : BitVec 32 := 18#32
  let v1444 : Index := Scalar.indexCast c18_i32_604
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1445 : Index := Scalar.indexCast v1330
  ![18, v1445.toNat]

def k0_chk340 (i : grid0.Coords) (k0_t1 : Fin k0_t1_loop.trips) (v1448 : IVec S16 32) : Prop :=
  (∀ (k0_h1 : k0_cond1 i k0_t1 = 1#1), ∀ a x, ((![v1448] : Fin 1 → IVec S16 32) a x).toNat < S2560.size a)
theorem k0_idx340_inb : ∀ (i : grid0.Coords) (k0_t1 : Fin k0_t1_loop.trips) (v1448 : IVec S16 32) (k0_hw340 : k0_chk340 i k0_t1 v1448), ∀ (k0_h1 : k0_cond1 i k0_t1 = 1#1), ∀ a x, ((![v1448] : Fin 1 → IVec S16 32) a x).toNat < S2560.size a := fun i k0_t1 v1448 k0_hw340 k0_h1 => k0_hw340 k0_h1
def k0_off25 (k0_t2 : Fin k0_t2_loop.trips) : Fin 2 → Nat :=
  let c19_i32_606 : BitVec 32 := 19#32
  let v1450 : Index := Scalar.indexCast c19_i32_606
  let c0_i32_565 : BitVec 32 := 0#32
  let c0_i32_553 : BitVec 32 := 0#32
  let c1_i32_555 : BitVec 32 := 1#32
  let arg18 : BitVec 32 := Scf.iv c0_i32_553 c1_i32_555 k0_t2
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1451 : Index := Scalar.indexCast v1330
  ![19, v1451.toNat]
def k0_off26 (i : grid0.Coords) (k0_t1 : Fin k0_t1_loop.trips) : Fin 2 → Nat :=
  let c0_i32_560 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_538 : BitVec 32 := 2#32
  let c0_i32_517 : BitVec 32 := 0#32
  let c1_i32_519 : BitVec 32 := 1#32
  let arg17 : BitVec 32 := Scf.iv c0_i32_517 c1_i32_519 k0_t1
  let v1297 : BitVec 32 := Scalar.muli c2_i32_538 arg17
  let c0_i32_539 : BitVec 32 := 0#32
  let v1298 : BitVec 32 := Scalar.addi v1297 c0_i32_539
  let c32_i32_540 : BitVec 32 := 32#32
  let v1299 : BitVec 32 := Scalar.muli v1298 c32_i32_540
  let v1300 : BitVec 32 := Scalar.addi v1 v1299
  let c1024_i32_557 : BitVec 32 := 1024#32
  let v1322 : BitVec 32 := Scalar.muli v1300 c1024_i32_557
  ![0, v1322.toNat]
def k0_cond4 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_542 : BitVec 32 := 2#32
  let c0_i32_517 : BitVec 32 := 0#32
  let c1_i32_519 : BitVec 32 := 1#32
  let arg17 : BitVec 32 := Scf.iv c0_i32_517 c1_i32_519 k0_t1
  let v1304 : BitVec 32 := Scalar.muli c2_i32_542 arg17
  let c1_i32_543 : BitVec 32 := 1#32
  let v1305 : BitVec 32 := Scalar.addi v1304 c1_i32_543
  let c32_i32_544 : BitVec 32 := 32#32
  let v1306 : BitVec 32 := Scalar.muli v1305 c32_i32_544
  let v1307 : BitVec 32 := Scalar.addi v1 v1306
  let c976_i32_545 : BitVec 32 := 976#32
  let v1308 : BitVec 1 := Scalar.cmpi .slt v1307 c976_i32_545
  let v1309 : BitVec 32 := Scalar.extui v1308
  let c0_i32_546 : BitVec 32 := 0#32
  let v1310 : BitVec 1 := Scalar.cmpi .ne v1309 c0_i32_546
  v1310

def k0_off27 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_542 : BitVec 32 := 2#32
  let c0_i32_517 : BitVec 32 := 0#32
  let c1_i32_519 : BitVec 32 := 1#32
  let arg17 : BitVec 32 := Scf.iv c0_i32_517 c1_i32_519 k0_t1
  let v1304 : BitVec 32 := Scalar.muli c2_i32_542 arg17
  let c1_i32_543 : BitVec 32 := 1#32
  let v1305 : BitVec 32 := Scalar.addi v1304 c1_i32_543
  let c32_i32_544 : BitVec 32 := 32#32
  let v1306 : BitVec 32 := Scalar.muli v1305 c32_i32_544
  let v1307 : BitVec 32 := Scalar.addi v1 v1306
  let c1024_i32_547 : BitVec 32 := 1024#32
  let v1311 : BitVec 32 := Scalar.muli v1307 c1024_i32_547
  ![v1311.toNat]
def k0_cond5 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_542 : BitVec 32 := 2#32
  let c0_i32_517 : BitVec 32 := 0#32
  let c1_i32_519 : BitVec 32 := 1#32
  let arg17 : BitVec 32 := Scf.iv c0_i32_517 c1_i32_519 k0_t1
  let v1304 : BitVec 32 := Scalar.muli c2_i32_542 arg17
  let c1_i32_543 : BitVec 32 := 1#32
  let v1305 : BitVec 32 := Scalar.addi v1304 c1_i32_543
  let c32_i32_544 : BitVec 32 := 32#32
  let v1306 : BitVec 32 := Scalar.muli v1305 c32_i32_544
  let v1307 : BitVec 32 := Scalar.addi v1 v1306
  let c32_i32_548 : BitVec 32 := 32#32
  let v1314 : BitVec 32 := Scalar.addi v1307 c32_i32_548
  let c976_i32_549 : BitVec 32 := 976#32
  let v1315 : BitVec 1 := Scalar.cmpi .slt v1314 c976_i32_549
  let v1316 : BitVec 32 := Scalar.extui v1315
  let c0_i32_550 : BitVec 32 := 0#32
  let v1317 : BitVec 1 := Scalar.cmpi .ne v1316 c0_i32_550
  v1317

def k0_off28 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_542 : BitVec 32 := 2#32
  let c0_i32_517 : BitVec 32 := 0#32
  let c1_i32_519 : BitVec 32 := 1#32
  let arg17 : BitVec 32 := Scf.iv c0_i32_517 c1_i32_519 k0_t1
  let v1304 : BitVec 32 := Scalar.muli c2_i32_542 arg17
  let c1_i32_543 : BitVec 32 := 1#32
  let v1305 : BitVec 32 := Scalar.addi v1304 c1_i32_543
  let c32_i32_544 : BitVec 32 := 32#32
  let v1306 : BitVec 32 := Scalar.muli v1305 c32_i32_544
  let v1307 : BitVec 32 := Scalar.addi v1 v1306
  let c32_i32_564 : BitVec 32 := 32#32
  let v1327 : BitVec 32 := Scalar.addi v1307 c32_i32_564
  let c1024_i32_565 : BitVec 32 := 1024#32
  let v1328 : BitVec 32 := Scalar.muli v1327 c1024_i32_565
  ![v1328.toNat]
def k0_cond6 (k0_t1 : Fin k0_t1_loop.trips) : BitVec 1 :=
  let c0_i32_517 : BitVec 32 := 0#32
  let c1_i32_519 : BitVec 32 := 1#32
  let arg17 : BitVec 32 := Scf.iv c0_i32_517 c1_i32_519 k0_t1
  let c1_i32_551 : BitVec 32 := 1#32
  let v1318 : BitVec 1 := Scalar.cmpi .sge arg17 c1_i32_551
  let v1319 : BitVec 32 := Scalar.extui v1318
  let c0_i32_552 : BitVec 32 := 0#32
  let v1320 : BitVec 1 := Scalar.cmpi .ne v1319 c0_i32_552
  v1320

def k0_off29 (i : grid0.Coords) (k0_t1 : Fin k0_t1_loop.trips) : Fin 2 → Nat :=
  let c0_i32_568 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_542 : BitVec 32 := 2#32
  let c0_i32_517 : BitVec 32 := 0#32
  let c1_i32_519 : BitVec 32 := 1#32
  let arg17 : BitVec 32 := Scf.iv c0_i32_517 c1_i32_519 k0_t1
  let v1304 : BitVec 32 := Scalar.muli c2_i32_542 arg17
  let c1_i32_543 : BitVec 32 := 1#32
  let v1305 : BitVec 32 := Scalar.addi v1304 c1_i32_543
  let c32_i32_544 : BitVec 32 := 32#32
  let v1306 : BitVec 32 := Scalar.muli v1305 c32_i32_544
  let v1307 : BitVec 32 := Scalar.addi v1 v1306
  let c64_i32_564 : BitVec 32 := 64#32
  let v1327 : BitVec 32 := Scalar.subi v1307 c64_i32_564
  let c1024_i32_565 : BitVec 32 := 1024#32
  let v1328 : BitVec 32 := Scalar.muli v1327 c1024_i32_565
  ![0, v1328.toNat]
@[reducible] def k0_t3_loop : Scf.Loop 32 :=
  let c0_i32_553 : BitVec 32 := 0#32
  let c64_i32_554 : BitVec 32 := 64#32
  let v1321 : BitVec 32 := Scalar.addi c0_i32_553 c64_i32_554
  let c1_i32_555 : BitVec 32 := 1#32
  ⟨c0_i32_553, v1321, c1_i32_555⟩
def k0_mult2 (k0_t3 : Fin k0_t3_loop.trips) : BitVec 32 :=
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  v1329
def k0_off30 (k0_t3 : Fin k0_t3_loop.trips) : Fin 1 → Nat :=
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1331 : Index := Scalar.indexCast v1330
  ![v1331.toNat]

def k0_chk341 (i : grid0.Coords) (k0_t1 : Fin k0_t1_loop.trips) (v1334 : IVec S16 32) : Prop :=
  (∀ (k0_h4 : k0_cond4 i k0_t1 = 1#1), ∀ a x, ((![v1334] : Fin 1 → IVec S16 32) a x).toNat < S2560.size a)
theorem k0_idx341_inb : ∀ (i : grid0.Coords) (k0_t1 : Fin k0_t1_loop.trips) (v1334 : IVec S16 32) (k0_hw341 : k0_chk341 i k0_t1 v1334), ∀ (k0_h4 : k0_cond4 i k0_t1 = 1#1), ∀ a x, ((![v1334] : Fin 1 → IVec S16 32) a x).toNat < S2560.size a := fun i k0_t1 v1334 k0_hw341 k0_h4 => k0_hw341 k0_h4
def k0_off31 (k0_t3 : Fin k0_t3_loop.trips) : Fin 2 → Nat :=
  let c0_i32_568 : BitVec 32 := 0#32
  let v1336 : Index := Scalar.indexCast c0_i32_568
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1337 : Index := Scalar.indexCast v1330
  ![0, v1337.toNat]

def k0_chk342 (i : grid0.Coords) (k0_t1 : Fin k0_t1_loop.trips) (v1340 : IVec S16 32) : Prop :=
  (∀ (k0_h4 : k0_cond4 i k0_t1 = 1#1), ∀ a x, ((![v1340] : Fin 1 → IVec S16 32) a x).toNat < S2560.size a)
theorem k0_idx342_inb : ∀ (i : grid0.Coords) (k0_t1 : Fin k0_t1_loop.trips) (v1340 : IVec S16 32) (k0_hw342 : k0_chk342 i k0_t1 v1340), ∀ (k0_h4 : k0_cond4 i k0_t1 = 1#1), ∀ a x, ((![v1340] : Fin 1 → IVec S16 32) a x).toNat < S2560.size a := fun i k0_t1 v1340 k0_hw342 k0_h4 => k0_hw342 k0_h4
def k0_off32 (k0_t3 : Fin k0_t3_loop.trips) : Fin 2 → Nat :=
  let c1_i32_570 : BitVec 32 := 1#32
  let v1342 : Index := Scalar.indexCast c1_i32_570
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1343 : Index := Scalar.indexCast v1330
  ![1, v1343.toNat]

def k0_chk343 (i : grid0.Coords) (k0_t1 : Fin k0_t1_loop.trips) (v1346 : IVec S16 32) : Prop :=
  (∀ (k0_h4 : k0_cond4 i k0_t1 = 1#1), ∀ a x, ((![v1346] : Fin 1 → IVec S16 32) a x).toNat < S2560.size a)
theorem k0_idx343_inb : ∀ (i : grid0.Coords) (k0_t1 : Fin k0_t1_loop.trips) (v1346 : IVec S16 32) (k0_hw343 : k0_chk343 i k0_t1 v1346), ∀ (k0_h4 : k0_cond4 i k0_t1 = 1#1), ∀ a x, ((![v1346] : Fin 1 → IVec S16 32) a x).toNat < S2560.size a := fun i k0_t1 v1346 k0_hw343 k0_h4 => k0_hw343 k0_h4
def k0_off33 (k0_t3 : Fin k0_t3_loop.trips) : Fin 2 → Nat :=
  let c2_i32_572 : BitVec 32 := 2#32
  let v1348 : Index := Scalar.indexCast c2_i32_572
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1349 : Index := Scalar.indexCast v1330
  ![2, v1349.toNat]

def k0_chk344 (i : grid0.Coords) (k0_t1 : Fin k0_t1_loop.trips) (v1352 : IVec S16 32) : Prop :=
  (∀ (k0_h4 : k0_cond4 i k0_t1 = 1#1), ∀ a x, ((![v1352] : Fin 1 → IVec S16 32) a x).toNat < S2560.size a)
theorem k0_idx344_inb : ∀ (i : grid0.Coords) (k0_t1 : Fin k0_t1_loop.trips) (v1352 : IVec S16 32) (k0_hw344 : k0_chk344 i k0_t1 v1352), ∀ (k0_h4 : k0_cond4 i k0_t1 = 1#1), ∀ a x, ((![v1352] : Fin 1 → IVec S16 32) a x).toNat < S2560.size a := fun i k0_t1 v1352 k0_hw344 k0_h4 => k0_hw344 k0_h4
def k0_off34 (k0_t3 : Fin k0_t3_loop.trips) : Fin 2 → Nat :=
  let c3_i32_574 : BitVec 32 := 3#32
  let v1354 : Index := Scalar.indexCast c3_i32_574
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1355 : Index := Scalar.indexCast v1330
  ![3, v1355.toNat]

def k0_chk345 (i : grid0.Coords) (k0_t1 : Fin k0_t1_loop.trips) (v1358 : IVec S16 32) : Prop :=
  (∀ (k0_h4 : k0_cond4 i k0_t1 = 1#1), ∀ a x, ((![v1358] : Fin 1 → IVec S16 32) a x).toNat < S2560.size a)
theorem k0_idx345_inb : ∀ (i : grid0.Coords) (k0_t1 : Fin k0_t1_loop.trips) (v1358 : IVec S16 32) (k0_hw345 : k0_chk345 i k0_t1 v1358), ∀ (k0_h4 : k0_cond4 i k0_t1 = 1#1), ∀ a x, ((![v1358] : Fin 1 → IVec S16 32) a x).toNat < S2560.size a := fun i k0_t1 v1358 k0_hw345 k0_h4 => k0_hw345 k0_h4
def k0_off35 (k0_t3 : Fin k0_t3_loop.trips) : Fin 2 → Nat :=
  let c4_i32_576 : BitVec 32 := 4#32
  let v1360 : Index := Scalar.indexCast c4_i32_576
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1361 : Index := Scalar.indexCast v1330
  ![4, v1361.toNat]

def k0_chk346 (i : grid0.Coords) (k0_t1 : Fin k0_t1_loop.trips) (v1364 : IVec S16 32) : Prop :=
  (∀ (k0_h4 : k0_cond4 i k0_t1 = 1#1), ∀ a x, ((![v1364] : Fin 1 → IVec S16 32) a x).toNat < S2560.size a)
theorem k0_idx346_inb : ∀ (i : grid0.Coords) (k0_t1 : Fin k0_t1_loop.trips) (v1364 : IVec S16 32) (k0_hw346 : k0_chk346 i k0_t1 v1364), ∀ (k0_h4 : k0_cond4 i k0_t1 = 1#1), ∀ a x, ((![v1364] : Fin 1 → IVec S16 32) a x).toNat < S2560.size a := fun i k0_t1 v1364 k0_hw346 k0_h4 => k0_hw346 k0_h4
def k0_off36 (k0_t3 : Fin k0_t3_loop.trips) : Fin 2 → Nat :=
  let c5_i32_578 : BitVec 32 := 5#32
  let v1366 : Index := Scalar.indexCast c5_i32_578
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1367 : Index := Scalar.indexCast v1330
  ![5, v1367.toNat]

def k0_chk347 (i : grid0.Coords) (k0_t1 : Fin k0_t1_loop.trips) (v1370 : IVec S16 32) : Prop :=
  (∀ (k0_h4 : k0_cond4 i k0_t1 = 1#1), ∀ a x, ((![v1370] : Fin 1 → IVec S16 32) a x).toNat < S2560.size a)
theorem k0_idx347_inb : ∀ (i : grid0.Coords) (k0_t1 : Fin k0_t1_loop.trips) (v1370 : IVec S16 32) (k0_hw347 : k0_chk347 i k0_t1 v1370), ∀ (k0_h4 : k0_cond4 i k0_t1 = 1#1), ∀ a x, ((![v1370] : Fin 1 → IVec S16 32) a x).toNat < S2560.size a := fun i k0_t1 v1370 k0_hw347 k0_h4 => k0_hw347 k0_h4
def k0_off37 (k0_t3 : Fin k0_t3_loop.trips) : Fin 2 → Nat :=
  let c6_i32_580 : BitVec 32 := 6#32
  let v1372 : Index := Scalar.indexCast c6_i32_580
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1373 : Index := Scalar.indexCast v1330
  ![6, v1373.toNat]

def k0_chk348 (i : grid0.Coords) (k0_t1 : Fin k0_t1_loop.trips) (v1376 : IVec S16 32) : Prop :=
  (∀ (k0_h4 : k0_cond4 i k0_t1 = 1#1), ∀ a x, ((![v1376] : Fin 1 → IVec S16 32) a x).toNat < S2560.size a)
theorem k0_idx348_inb : ∀ (i : grid0.Coords) (k0_t1 : Fin k0_t1_loop.trips) (v1376 : IVec S16 32) (k0_hw348 : k0_chk348 i k0_t1 v1376), ∀ (k0_h4 : k0_cond4 i k0_t1 = 1#1), ∀ a x, ((![v1376] : Fin 1 → IVec S16 32) a x).toNat < S2560.size a := fun i k0_t1 v1376 k0_hw348 k0_h4 => k0_hw348 k0_h4
def k0_off38 (k0_t3 : Fin k0_t3_loop.trips) : Fin 2 → Nat :=
  let c7_i32_582 : BitVec 32 := 7#32
  let v1378 : Index := Scalar.indexCast c7_i32_582
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1379 : Index := Scalar.indexCast v1330
  ![7, v1379.toNat]

def k0_chk349 (i : grid0.Coords) (k0_t1 : Fin k0_t1_loop.trips) (v1382 : IVec S16 32) : Prop :=
  (∀ (k0_h4 : k0_cond4 i k0_t1 = 1#1), ∀ a x, ((![v1382] : Fin 1 → IVec S16 32) a x).toNat < S2560.size a)
theorem k0_idx349_inb : ∀ (i : grid0.Coords) (k0_t1 : Fin k0_t1_loop.trips) (v1382 : IVec S16 32) (k0_hw349 : k0_chk349 i k0_t1 v1382), ∀ (k0_h4 : k0_cond4 i k0_t1 = 1#1), ∀ a x, ((![v1382] : Fin 1 → IVec S16 32) a x).toNat < S2560.size a := fun i k0_t1 v1382 k0_hw349 k0_h4 => k0_hw349 k0_h4
def k0_off39 (k0_t3 : Fin k0_t3_loop.trips) : Fin 2 → Nat :=
  let c8_i32_584 : BitVec 32 := 8#32
  let v1384 : Index := Scalar.indexCast c8_i32_584
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1385 : Index := Scalar.indexCast v1330
  ![8, v1385.toNat]

def k0_chk350 (i : grid0.Coords) (k0_t1 : Fin k0_t1_loop.trips) (v1388 : IVec S16 32) : Prop :=
  (∀ (k0_h4 : k0_cond4 i k0_t1 = 1#1), ∀ a x, ((![v1388] : Fin 1 → IVec S16 32) a x).toNat < S2560.size a)
theorem k0_idx350_inb : ∀ (i : grid0.Coords) (k0_t1 : Fin k0_t1_loop.trips) (v1388 : IVec S16 32) (k0_hw350 : k0_chk350 i k0_t1 v1388), ∀ (k0_h4 : k0_cond4 i k0_t1 = 1#1), ∀ a x, ((![v1388] : Fin 1 → IVec S16 32) a x).toNat < S2560.size a := fun i k0_t1 v1388 k0_hw350 k0_h4 => k0_hw350 k0_h4
def k0_off40 (k0_t3 : Fin k0_t3_loop.trips) : Fin 2 → Nat :=
  let c9_i32_586 : BitVec 32 := 9#32
  let v1390 : Index := Scalar.indexCast c9_i32_586
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1391 : Index := Scalar.indexCast v1330
  ![9, v1391.toNat]

def k0_chk351 (i : grid0.Coords) (k0_t1 : Fin k0_t1_loop.trips) (v1394 : IVec S16 32) : Prop :=
  (∀ (k0_h4 : k0_cond4 i k0_t1 = 1#1), ∀ a x, ((![v1394] : Fin 1 → IVec S16 32) a x).toNat < S2560.size a)
theorem k0_idx351_inb : ∀ (i : grid0.Coords) (k0_t1 : Fin k0_t1_loop.trips) (v1394 : IVec S16 32) (k0_hw351 : k0_chk351 i k0_t1 v1394), ∀ (k0_h4 : k0_cond4 i k0_t1 = 1#1), ∀ a x, ((![v1394] : Fin 1 → IVec S16 32) a x).toNat < S2560.size a := fun i k0_t1 v1394 k0_hw351 k0_h4 => k0_hw351 k0_h4
def k0_off41 (k0_t3 : Fin k0_t3_loop.trips) : Fin 2 → Nat :=
  let c10_i32_588 : BitVec 32 := 10#32
  let v1396 : Index := Scalar.indexCast c10_i32_588
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1397 : Index := Scalar.indexCast v1330
  ![10, v1397.toNat]

def k0_chk352 (i : grid0.Coords) (k0_t1 : Fin k0_t1_loop.trips) (v1400 : IVec S16 32) : Prop :=
  (∀ (k0_h4 : k0_cond4 i k0_t1 = 1#1), ∀ a x, ((![v1400] : Fin 1 → IVec S16 32) a x).toNat < S2560.size a)
theorem k0_idx352_inb : ∀ (i : grid0.Coords) (k0_t1 : Fin k0_t1_loop.trips) (v1400 : IVec S16 32) (k0_hw352 : k0_chk352 i k0_t1 v1400), ∀ (k0_h4 : k0_cond4 i k0_t1 = 1#1), ∀ a x, ((![v1400] : Fin 1 → IVec S16 32) a x).toNat < S2560.size a := fun i k0_t1 v1400 k0_hw352 k0_h4 => k0_hw352 k0_h4
def k0_off42 (k0_t3 : Fin k0_t3_loop.trips) : Fin 2 → Nat :=
  let c11_i32_590 : BitVec 32 := 11#32
  let v1402 : Index := Scalar.indexCast c11_i32_590
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1403 : Index := Scalar.indexCast v1330
  ![11, v1403.toNat]

def k0_chk353 (i : grid0.Coords) (k0_t1 : Fin k0_t1_loop.trips) (v1406 : IVec S16 32) : Prop :=
  (∀ (k0_h4 : k0_cond4 i k0_t1 = 1#1), ∀ a x, ((![v1406] : Fin 1 → IVec S16 32) a x).toNat < S2560.size a)
theorem k0_idx353_inb : ∀ (i : grid0.Coords) (k0_t1 : Fin k0_t1_loop.trips) (v1406 : IVec S16 32) (k0_hw353 : k0_chk353 i k0_t1 v1406), ∀ (k0_h4 : k0_cond4 i k0_t1 = 1#1), ∀ a x, ((![v1406] : Fin 1 → IVec S16 32) a x).toNat < S2560.size a := fun i k0_t1 v1406 k0_hw353 k0_h4 => k0_hw353 k0_h4
def k0_off43 (k0_t3 : Fin k0_t3_loop.trips) : Fin 2 → Nat :=
  let c12_i32_592 : BitVec 32 := 12#32
  let v1408 : Index := Scalar.indexCast c12_i32_592
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1409 : Index := Scalar.indexCast v1330
  ![12, v1409.toNat]

def k0_chk354 (i : grid0.Coords) (k0_t1 : Fin k0_t1_loop.trips) (v1412 : IVec S16 32) : Prop :=
  (∀ (k0_h4 : k0_cond4 i k0_t1 = 1#1), ∀ a x, ((![v1412] : Fin 1 → IVec S16 32) a x).toNat < S2560.size a)
theorem k0_idx354_inb : ∀ (i : grid0.Coords) (k0_t1 : Fin k0_t1_loop.trips) (v1412 : IVec S16 32) (k0_hw354 : k0_chk354 i k0_t1 v1412), ∀ (k0_h4 : k0_cond4 i k0_t1 = 1#1), ∀ a x, ((![v1412] : Fin 1 → IVec S16 32) a x).toNat < S2560.size a := fun i k0_t1 v1412 k0_hw354 k0_h4 => k0_hw354 k0_h4
def k0_off44 (k0_t3 : Fin k0_t3_loop.trips) : Fin 2 → Nat :=
  let c13_i32_594 : BitVec 32 := 13#32
  let v1414 : Index := Scalar.indexCast c13_i32_594
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1415 : Index := Scalar.indexCast v1330
  ![13, v1415.toNat]

def k0_chk355 (i : grid0.Coords) (k0_t1 : Fin k0_t1_loop.trips) (v1418 : IVec S16 32) : Prop :=
  (∀ (k0_h4 : k0_cond4 i k0_t1 = 1#1), ∀ a x, ((![v1418] : Fin 1 → IVec S16 32) a x).toNat < S2560.size a)
theorem k0_idx355_inb : ∀ (i : grid0.Coords) (k0_t1 : Fin k0_t1_loop.trips) (v1418 : IVec S16 32) (k0_hw355 : k0_chk355 i k0_t1 v1418), ∀ (k0_h4 : k0_cond4 i k0_t1 = 1#1), ∀ a x, ((![v1418] : Fin 1 → IVec S16 32) a x).toNat < S2560.size a := fun i k0_t1 v1418 k0_hw355 k0_h4 => k0_hw355 k0_h4
def k0_off45 (k0_t3 : Fin k0_t3_loop.trips) : Fin 2 → Nat :=
  let c14_i32_596 : BitVec 32 := 14#32
  let v1420 : Index := Scalar.indexCast c14_i32_596
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1421 : Index := Scalar.indexCast v1330
  ![14, v1421.toNat]

def k0_chk356 (i : grid0.Coords) (k0_t1 : Fin k0_t1_loop.trips) (v1424 : IVec S16 32) : Prop :=
  (∀ (k0_h4 : k0_cond4 i k0_t1 = 1#1), ∀ a x, ((![v1424] : Fin 1 → IVec S16 32) a x).toNat < S2560.size a)
theorem k0_idx356_inb : ∀ (i : grid0.Coords) (k0_t1 : Fin k0_t1_loop.trips) (v1424 : IVec S16 32) (k0_hw356 : k0_chk356 i k0_t1 v1424), ∀ (k0_h4 : k0_cond4 i k0_t1 = 1#1), ∀ a x, ((![v1424] : Fin 1 → IVec S16 32) a x).toNat < S2560.size a := fun i k0_t1 v1424 k0_hw356 k0_h4 => k0_hw356 k0_h4
def k0_off46 (k0_t3 : Fin k0_t3_loop.trips) : Fin 2 → Nat :=
  let c15_i32_598 : BitVec 32 := 15#32
  let v1426 : Index := Scalar.indexCast c15_i32_598
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1427 : Index := Scalar.indexCast v1330
  ![15, v1427.toNat]

def k0_chk357 (i : grid0.Coords) (k0_t1 : Fin k0_t1_loop.trips) (v1430 : IVec S16 32) : Prop :=
  (∀ (k0_h4 : k0_cond4 i k0_t1 = 1#1), ∀ a x, ((![v1430] : Fin 1 → IVec S16 32) a x).toNat < S2560.size a)
theorem k0_idx357_inb : ∀ (i : grid0.Coords) (k0_t1 : Fin k0_t1_loop.trips) (v1430 : IVec S16 32) (k0_hw357 : k0_chk357 i k0_t1 v1430), ∀ (k0_h4 : k0_cond4 i k0_t1 = 1#1), ∀ a x, ((![v1430] : Fin 1 → IVec S16 32) a x).toNat < S2560.size a := fun i k0_t1 v1430 k0_hw357 k0_h4 => k0_hw357 k0_h4
def k0_off47 (k0_t3 : Fin k0_t3_loop.trips) : Fin 2 → Nat :=
  let c16_i32_600 : BitVec 32 := 16#32
  let v1432 : Index := Scalar.indexCast c16_i32_600
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1433 : Index := Scalar.indexCast v1330
  ![16, v1433.toNat]

def k0_chk358 (i : grid0.Coords) (k0_t1 : Fin k0_t1_loop.trips) (v1436 : IVec S16 32) : Prop :=
  (∀ (k0_h4 : k0_cond4 i k0_t1 = 1#1), ∀ a x, ((![v1436] : Fin 1 → IVec S16 32) a x).toNat < S2560.size a)
theorem k0_idx358_inb : ∀ (i : grid0.Coords) (k0_t1 : Fin k0_t1_loop.trips) (v1436 : IVec S16 32) (k0_hw358 : k0_chk358 i k0_t1 v1436), ∀ (k0_h4 : k0_cond4 i k0_t1 = 1#1), ∀ a x, ((![v1436] : Fin 1 → IVec S16 32) a x).toNat < S2560.size a := fun i k0_t1 v1436 k0_hw358 k0_h4 => k0_hw358 k0_h4
def k0_off48 (k0_t3 : Fin k0_t3_loop.trips) : Fin 2 → Nat :=
  let c17_i32_602 : BitVec 32 := 17#32
  let v1438 : Index := Scalar.indexCast c17_i32_602
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1439 : Index := Scalar.indexCast v1330
  ![17, v1439.toNat]

def k0_chk359 (i : grid0.Coords) (k0_t1 : Fin k0_t1_loop.trips) (v1442 : IVec S16 32) : Prop :=
  (∀ (k0_h4 : k0_cond4 i k0_t1 = 1#1), ∀ a x, ((![v1442] : Fin 1 → IVec S16 32) a x).toNat < S2560.size a)
theorem k0_idx359_inb : ∀ (i : grid0.Coords) (k0_t1 : Fin k0_t1_loop.trips) (v1442 : IVec S16 32) (k0_hw359 : k0_chk359 i k0_t1 v1442), ∀ (k0_h4 : k0_cond4 i k0_t1 = 1#1), ∀ a x, ((![v1442] : Fin 1 → IVec S16 32) a x).toNat < S2560.size a := fun i k0_t1 v1442 k0_hw359 k0_h4 => k0_hw359 k0_h4
def k0_off49 (k0_t3 : Fin k0_t3_loop.trips) : Fin 2 → Nat :=
  let c18_i32_604 : BitVec 32 := 18#32
  let v1444 : Index := Scalar.indexCast c18_i32_604
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1445 : Index := Scalar.indexCast v1330
  ![18, v1445.toNat]

def k0_chk360 (i : grid0.Coords) (k0_t1 : Fin k0_t1_loop.trips) (v1448 : IVec S16 32) : Prop :=
  (∀ (k0_h4 : k0_cond4 i k0_t1 = 1#1), ∀ a x, ((![v1448] : Fin 1 → IVec S16 32) a x).toNat < S2560.size a)
theorem k0_idx360_inb : ∀ (i : grid0.Coords) (k0_t1 : Fin k0_t1_loop.trips) (v1448 : IVec S16 32) (k0_hw360 : k0_chk360 i k0_t1 v1448), ∀ (k0_h4 : k0_cond4 i k0_t1 = 1#1), ∀ a x, ((![v1448] : Fin 1 → IVec S16 32) a x).toNat < S2560.size a := fun i k0_t1 v1448 k0_hw360 k0_h4 => k0_hw360 k0_h4
def k0_off50 (k0_t3 : Fin k0_t3_loop.trips) : Fin 2 → Nat :=
  let c19_i32_606 : BitVec 32 := 19#32
  let v1450 : Index := Scalar.indexCast c19_i32_606
  let c0_i32_565 : BitVec 32 := 0#32
  let c0_i32_553 : BitVec 32 := 0#32
  let c1_i32_555 : BitVec 32 := 1#32
  let arg18 : BitVec 32 := Scf.iv c0_i32_553 c1_i32_555 k0_t3
  let c1_i32_564 : BitVec 32 := 1#32
  let v1327 : BitVec 32 := Scalar.muli arg18 c1_i32_564
  let v1328 : BitVec 32 := Scalar.addi c0_i32_565 v1327
  let c16_i32_566 : BitVec 32 := 16#32
  let v1329 : BitVec 32 := Scalar.muli v1328 c16_i32_566
  let v1330 : BitVec 32 := v1329
  let v1451 : Index := Scalar.indexCast v1330
  ![19, v1451.toNat]
def k0_off51 (i : grid0.Coords) (k0_t1 : Fin k0_t1_loop.trips) : Fin 2 → Nat :=
  let c0_i32_560 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_542 : BitVec 32 := 2#32
  let c0_i32_517 : BitVec 32 := 0#32
  let c1_i32_519 : BitVec 32 := 1#32
  let arg17 : BitVec 32 := Scf.iv c0_i32_517 c1_i32_519 k0_t1
  let v1304 : BitVec 32 := Scalar.muli c2_i32_542 arg17
  let c1_i32_543 : BitVec 32 := 1#32
  let v1305 : BitVec 32 := Scalar.addi v1304 c1_i32_543
  let c32_i32_544 : BitVec 32 := 32#32
  let v1306 : BitVec 32 := Scalar.muli v1305 c32_i32_544
  let v1307 : BitVec 32 := Scalar.addi v1 v1306
  let c1024_i32_557 : BitVec 32 := 1024#32
  let v1322 : BitVec 32 := Scalar.muli v1307 c1024_i32_557
  ![0, v1322.toNat]
def k0_cond7 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v1286 : BitVec 1 := Scalar.cmpi .eq v1 c31_i32
  let v1287 : BitVec 32 := Scalar.extui v1286
  let c0_i32_521 : BitVec 32 := 0#32
  let v1288 : BitVec 1 := Scalar.cmpi .ne v1287 c0_i32_521
  v1288

@[reducible] def k0_t4_loop : Scf.Loop 32 :=
  let c0_i32_538 : BitVec 32 := 0#32
  let c36_i32 : BitVec 32 := 36#32
  let v1297 : BitVec 32 := Scalar.addi c0_i32_538 c36_i32
  let c1_i32_539 : BitVec 32 := 1#32
  ⟨c0_i32_538, v1297, c1_i32_539⟩
def k0_mult3 (k0_t4 : Fin k0_t4_loop.trips) : BitVec 32 :=
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  v1300
def k0_off52 (k0_t4 : Fin k0_t4_loop.trips) : Fin 1 → Nat :=
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1302 : Index := Scalar.indexCast v1301
  ![v1302.toNat]

def k0_chk361 (i : grid0.Coords) (v1305 : IVec S16 32) : Prop :=
  (∀ (k0_h7 : k0_cond7 i = 1#1), ∀ a x, ((![v1305] : Fin 1 → IVec S16 32) a x).toNat < S2560.size a)
theorem k0_idx361_inb : ∀ (i : grid0.Coords) (v1305 : IVec S16 32) (k0_hw361 : k0_chk361 i v1305), ∀ (k0_h7 : k0_cond7 i = 1#1), ∀ a x, ((![v1305] : Fin 1 → IVec S16 32) a x).toNat < S2560.size a := fun i v1305 k0_hw361 k0_h7 => k0_hw361 k0_h7
def k0_off53 (k0_t4 : Fin k0_t4_loop.trips) : Fin 2 → Nat :=
  let c0_i32_545 : BitVec 32 := 0#32
  let v1307 : Index := Scalar.indexCast c0_i32_545
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1308 : Index := Scalar.indexCast v1301
  ![0, v1308.toNat]

def k0_chk362 (i : grid0.Coords) (v1311 : IVec S16 32) : Prop :=
  (∀ (k0_h7 : k0_cond7 i = 1#1), ∀ a x, ((![v1311] : Fin 1 → IVec S16 32) a x).toNat < S2560.size a)
theorem k0_idx362_inb : ∀ (i : grid0.Coords) (v1311 : IVec S16 32) (k0_hw362 : k0_chk362 i v1311), ∀ (k0_h7 : k0_cond7 i = 1#1), ∀ a x, ((![v1311] : Fin 1 → IVec S16 32) a x).toNat < S2560.size a := fun i v1311 k0_hw362 k0_h7 => k0_hw362 k0_h7
def k0_off54 (k0_t4 : Fin k0_t4_loop.trips) : Fin 2 → Nat :=
  let c1_i32_547 : BitVec 32 := 1#32
  let v1313 : Index := Scalar.indexCast c1_i32_547
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1314 : Index := Scalar.indexCast v1301
  ![1, v1314.toNat]

def k0_chk363 (i : grid0.Coords) (v1317 : IVec S16 32) : Prop :=
  (∀ (k0_h7 : k0_cond7 i = 1#1), ∀ a x, ((![v1317] : Fin 1 → IVec S16 32) a x).toNat < S2560.size a)
theorem k0_idx363_inb : ∀ (i : grid0.Coords) (v1317 : IVec S16 32) (k0_hw363 : k0_chk363 i v1317), ∀ (k0_h7 : k0_cond7 i = 1#1), ∀ a x, ((![v1317] : Fin 1 → IVec S16 32) a x).toNat < S2560.size a := fun i v1317 k0_hw363 k0_h7 => k0_hw363 k0_h7
def k0_off55 (k0_t4 : Fin k0_t4_loop.trips) : Fin 2 → Nat :=
  let c2_i32_549 : BitVec 32 := 2#32
  let v1319 : Index := Scalar.indexCast c2_i32_549
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1320 : Index := Scalar.indexCast v1301
  ![2, v1320.toNat]

def k0_chk364 (i : grid0.Coords) (v1323 : IVec S16 32) : Prop :=
  (∀ (k0_h7 : k0_cond7 i = 1#1), ∀ a x, ((![v1323] : Fin 1 → IVec S16 32) a x).toNat < S2560.size a)
theorem k0_idx364_inb : ∀ (i : grid0.Coords) (v1323 : IVec S16 32) (k0_hw364 : k0_chk364 i v1323), ∀ (k0_h7 : k0_cond7 i = 1#1), ∀ a x, ((![v1323] : Fin 1 → IVec S16 32) a x).toNat < S2560.size a := fun i v1323 k0_hw364 k0_h7 => k0_hw364 k0_h7
def k0_off56 (k0_t4 : Fin k0_t4_loop.trips) : Fin 2 → Nat :=
  let c3_i32_551 : BitVec 32 := 3#32
  let v1325 : Index := Scalar.indexCast c3_i32_551
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1326 : Index := Scalar.indexCast v1301
  ![3, v1326.toNat]

def k0_chk365 (i : grid0.Coords) (v1329 : IVec S16 32) : Prop :=
  (∀ (k0_h7 : k0_cond7 i = 1#1), ∀ a x, ((![v1329] : Fin 1 → IVec S16 32) a x).toNat < S2560.size a)
theorem k0_idx365_inb : ∀ (i : grid0.Coords) (v1329 : IVec S16 32) (k0_hw365 : k0_chk365 i v1329), ∀ (k0_h7 : k0_cond7 i = 1#1), ∀ a x, ((![v1329] : Fin 1 → IVec S16 32) a x).toNat < S2560.size a := fun i v1329 k0_hw365 k0_h7 => k0_hw365 k0_h7
def k0_off57 (k0_t4 : Fin k0_t4_loop.trips) : Fin 2 → Nat :=
  let c4_i32_553 : BitVec 32 := 4#32
  let v1331 : Index := Scalar.indexCast c4_i32_553
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1332 : Index := Scalar.indexCast v1301
  ![4, v1332.toNat]

def k0_chk366 (i : grid0.Coords) (v1335 : IVec S16 32) : Prop :=
  (∀ (k0_h7 : k0_cond7 i = 1#1), ∀ a x, ((![v1335] : Fin 1 → IVec S16 32) a x).toNat < S2560.size a)
theorem k0_idx366_inb : ∀ (i : grid0.Coords) (v1335 : IVec S16 32) (k0_hw366 : k0_chk366 i v1335), ∀ (k0_h7 : k0_cond7 i = 1#1), ∀ a x, ((![v1335] : Fin 1 → IVec S16 32) a x).toNat < S2560.size a := fun i v1335 k0_hw366 k0_h7 => k0_hw366 k0_h7
def k0_off58 (k0_t4 : Fin k0_t4_loop.trips) : Fin 2 → Nat :=
  let c5_i32_555 : BitVec 32 := 5#32
  let v1337 : Index := Scalar.indexCast c5_i32_555
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1338 : Index := Scalar.indexCast v1301
  ![5, v1338.toNat]

def k0_chk367 (i : grid0.Coords) (v1341 : IVec S16 32) : Prop :=
  (∀ (k0_h7 : k0_cond7 i = 1#1), ∀ a x, ((![v1341] : Fin 1 → IVec S16 32) a x).toNat < S2560.size a)
theorem k0_idx367_inb : ∀ (i : grid0.Coords) (v1341 : IVec S16 32) (k0_hw367 : k0_chk367 i v1341), ∀ (k0_h7 : k0_cond7 i = 1#1), ∀ a x, ((![v1341] : Fin 1 → IVec S16 32) a x).toNat < S2560.size a := fun i v1341 k0_hw367 k0_h7 => k0_hw367 k0_h7
def k0_off59 (k0_t4 : Fin k0_t4_loop.trips) : Fin 2 → Nat :=
  let c6_i32_557 : BitVec 32 := 6#32
  let v1343 : Index := Scalar.indexCast c6_i32_557
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1344 : Index := Scalar.indexCast v1301
  ![6, v1344.toNat]

def k0_chk368 (i : grid0.Coords) (v1347 : IVec S16 32) : Prop :=
  (∀ (k0_h7 : k0_cond7 i = 1#1), ∀ a x, ((![v1347] : Fin 1 → IVec S16 32) a x).toNat < S2560.size a)
theorem k0_idx368_inb : ∀ (i : grid0.Coords) (v1347 : IVec S16 32) (k0_hw368 : k0_chk368 i v1347), ∀ (k0_h7 : k0_cond7 i = 1#1), ∀ a x, ((![v1347] : Fin 1 → IVec S16 32) a x).toNat < S2560.size a := fun i v1347 k0_hw368 k0_h7 => k0_hw368 k0_h7
def k0_off60 (k0_t4 : Fin k0_t4_loop.trips) : Fin 2 → Nat :=
  let c7_i32_559 : BitVec 32 := 7#32
  let v1349 : Index := Scalar.indexCast c7_i32_559
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1350 : Index := Scalar.indexCast v1301
  ![7, v1350.toNat]

def k0_chk369 (i : grid0.Coords) (v1353 : IVec S16 32) : Prop :=
  (∀ (k0_h7 : k0_cond7 i = 1#1), ∀ a x, ((![v1353] : Fin 1 → IVec S16 32) a x).toNat < S2560.size a)
theorem k0_idx369_inb : ∀ (i : grid0.Coords) (v1353 : IVec S16 32) (k0_hw369 : k0_chk369 i v1353), ∀ (k0_h7 : k0_cond7 i = 1#1), ∀ a x, ((![v1353] : Fin 1 → IVec S16 32) a x).toNat < S2560.size a := fun i v1353 k0_hw369 k0_h7 => k0_hw369 k0_h7
def k0_off61 (k0_t4 : Fin k0_t4_loop.trips) : Fin 2 → Nat :=
  let c8_i32_561 : BitVec 32 := 8#32
  let v1355 : Index := Scalar.indexCast c8_i32_561
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1356 : Index := Scalar.indexCast v1301
  ![8, v1356.toNat]

def k0_chk370 (i : grid0.Coords) (v1359 : IVec S16 32) : Prop :=
  (∀ (k0_h7 : k0_cond7 i = 1#1), ∀ a x, ((![v1359] : Fin 1 → IVec S16 32) a x).toNat < S2560.size a)
theorem k0_idx370_inb : ∀ (i : grid0.Coords) (v1359 : IVec S16 32) (k0_hw370 : k0_chk370 i v1359), ∀ (k0_h7 : k0_cond7 i = 1#1), ∀ a x, ((![v1359] : Fin 1 → IVec S16 32) a x).toNat < S2560.size a := fun i v1359 k0_hw370 k0_h7 => k0_hw370 k0_h7
def k0_off62 (k0_t4 : Fin k0_t4_loop.trips) : Fin 2 → Nat :=
  let c9_i32_563 : BitVec 32 := 9#32
  let v1361 : Index := Scalar.indexCast c9_i32_563
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1362 : Index := Scalar.indexCast v1301
  ![9, v1362.toNat]

def k0_chk371 (i : grid0.Coords) (v1365 : IVec S16 32) : Prop :=
  (∀ (k0_h7 : k0_cond7 i = 1#1), ∀ a x, ((![v1365] : Fin 1 → IVec S16 32) a x).toNat < S2560.size a)
theorem k0_idx371_inb : ∀ (i : grid0.Coords) (v1365 : IVec S16 32) (k0_hw371 : k0_chk371 i v1365), ∀ (k0_h7 : k0_cond7 i = 1#1), ∀ a x, ((![v1365] : Fin 1 → IVec S16 32) a x).toNat < S2560.size a := fun i v1365 k0_hw371 k0_h7 => k0_hw371 k0_h7
def k0_off63 (k0_t4 : Fin k0_t4_loop.trips) : Fin 2 → Nat :=
  let c10_i32_565 : BitVec 32 := 10#32
  let v1367 : Index := Scalar.indexCast c10_i32_565
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1368 : Index := Scalar.indexCast v1301
  ![10, v1368.toNat]

def k0_chk372 (i : grid0.Coords) (v1371 : IVec S16 32) : Prop :=
  (∀ (k0_h7 : k0_cond7 i = 1#1), ∀ a x, ((![v1371] : Fin 1 → IVec S16 32) a x).toNat < S2560.size a)
theorem k0_idx372_inb : ∀ (i : grid0.Coords) (v1371 : IVec S16 32) (k0_hw372 : k0_chk372 i v1371), ∀ (k0_h7 : k0_cond7 i = 1#1), ∀ a x, ((![v1371] : Fin 1 → IVec S16 32) a x).toNat < S2560.size a := fun i v1371 k0_hw372 k0_h7 => k0_hw372 k0_h7
def k0_off64 (k0_t4 : Fin k0_t4_loop.trips) : Fin 2 → Nat :=
  let c11_i32_567 : BitVec 32 := 11#32
  let v1373 : Index := Scalar.indexCast c11_i32_567
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1374 : Index := Scalar.indexCast v1301
  ![11, v1374.toNat]

def k0_chk373 (i : grid0.Coords) (v1377 : IVec S16 32) : Prop :=
  (∀ (k0_h7 : k0_cond7 i = 1#1), ∀ a x, ((![v1377] : Fin 1 → IVec S16 32) a x).toNat < S2560.size a)
theorem k0_idx373_inb : ∀ (i : grid0.Coords) (v1377 : IVec S16 32) (k0_hw373 : k0_chk373 i v1377), ∀ (k0_h7 : k0_cond7 i = 1#1), ∀ a x, ((![v1377] : Fin 1 → IVec S16 32) a x).toNat < S2560.size a := fun i v1377 k0_hw373 k0_h7 => k0_hw373 k0_h7
def k0_off65 (k0_t4 : Fin k0_t4_loop.trips) : Fin 2 → Nat :=
  let c12_i32_569 : BitVec 32 := 12#32
  let v1379 : Index := Scalar.indexCast c12_i32_569
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1380 : Index := Scalar.indexCast v1301
  ![12, v1380.toNat]

def k0_chk374 (i : grid0.Coords) (v1383 : IVec S16 32) : Prop :=
  (∀ (k0_h7 : k0_cond7 i = 1#1), ∀ a x, ((![v1383] : Fin 1 → IVec S16 32) a x).toNat < S2560.size a)
theorem k0_idx374_inb : ∀ (i : grid0.Coords) (v1383 : IVec S16 32) (k0_hw374 : k0_chk374 i v1383), ∀ (k0_h7 : k0_cond7 i = 1#1), ∀ a x, ((![v1383] : Fin 1 → IVec S16 32) a x).toNat < S2560.size a := fun i v1383 k0_hw374 k0_h7 => k0_hw374 k0_h7
def k0_off66 (k0_t4 : Fin k0_t4_loop.trips) : Fin 2 → Nat :=
  let c13_i32_571 : BitVec 32 := 13#32
  let v1385 : Index := Scalar.indexCast c13_i32_571
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1386 : Index := Scalar.indexCast v1301
  ![13, v1386.toNat]

def k0_chk375 (i : grid0.Coords) (v1389 : IVec S16 32) : Prop :=
  (∀ (k0_h7 : k0_cond7 i = 1#1), ∀ a x, ((![v1389] : Fin 1 → IVec S16 32) a x).toNat < S2560.size a)
theorem k0_idx375_inb : ∀ (i : grid0.Coords) (v1389 : IVec S16 32) (k0_hw375 : k0_chk375 i v1389), ∀ (k0_h7 : k0_cond7 i = 1#1), ∀ a x, ((![v1389] : Fin 1 → IVec S16 32) a x).toNat < S2560.size a := fun i v1389 k0_hw375 k0_h7 => k0_hw375 k0_h7
def k0_off67 (k0_t4 : Fin k0_t4_loop.trips) : Fin 2 → Nat :=
  let c14_i32_573 : BitVec 32 := 14#32
  let v1391 : Index := Scalar.indexCast c14_i32_573
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1392 : Index := Scalar.indexCast v1301
  ![14, v1392.toNat]

def k0_chk376 (i : grid0.Coords) (v1395 : IVec S16 32) : Prop :=
  (∀ (k0_h7 : k0_cond7 i = 1#1), ∀ a x, ((![v1395] : Fin 1 → IVec S16 32) a x).toNat < S2560.size a)
theorem k0_idx376_inb : ∀ (i : grid0.Coords) (v1395 : IVec S16 32) (k0_hw376 : k0_chk376 i v1395), ∀ (k0_h7 : k0_cond7 i = 1#1), ∀ a x, ((![v1395] : Fin 1 → IVec S16 32) a x).toNat < S2560.size a := fun i v1395 k0_hw376 k0_h7 => k0_hw376 k0_h7
def k0_off68 (k0_t4 : Fin k0_t4_loop.trips) : Fin 2 → Nat :=
  let c15_i32_575 : BitVec 32 := 15#32
  let v1397 : Index := Scalar.indexCast c15_i32_575
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1398 : Index := Scalar.indexCast v1301
  ![15, v1398.toNat]

def k0_chk377 (i : grid0.Coords) (v1401 : IVec S16 32) : Prop :=
  (∀ (k0_h7 : k0_cond7 i = 1#1), ∀ a x, ((![v1401] : Fin 1 → IVec S16 32) a x).toNat < S2560.size a)
theorem k0_idx377_inb : ∀ (i : grid0.Coords) (v1401 : IVec S16 32) (k0_hw377 : k0_chk377 i v1401), ∀ (k0_h7 : k0_cond7 i = 1#1), ∀ a x, ((![v1401] : Fin 1 → IVec S16 32) a x).toNat < S2560.size a := fun i v1401 k0_hw377 k0_h7 => k0_hw377 k0_h7
def k0_off69 (k0_t4 : Fin k0_t4_loop.trips) : Fin 2 → Nat :=
  let c16_i32_577 : BitVec 32 := 16#32
  let v1403 : Index := Scalar.indexCast c16_i32_577
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1404 : Index := Scalar.indexCast v1301
  ![16, v1404.toNat]

def k0_chk378 (i : grid0.Coords) (v1407 : IVec S16 32) : Prop :=
  (∀ (k0_h7 : k0_cond7 i = 1#1), ∀ a x, ((![v1407] : Fin 1 → IVec S16 32) a x).toNat < S2560.size a)
theorem k0_idx378_inb : ∀ (i : grid0.Coords) (v1407 : IVec S16 32) (k0_hw378 : k0_chk378 i v1407), ∀ (k0_h7 : k0_cond7 i = 1#1), ∀ a x, ((![v1407] : Fin 1 → IVec S16 32) a x).toNat < S2560.size a := fun i v1407 k0_hw378 k0_h7 => k0_hw378 k0_h7
def k0_off70 (k0_t4 : Fin k0_t4_loop.trips) : Fin 2 → Nat :=
  let c17_i32_579 : BitVec 32 := 17#32
  let v1409 : Index := Scalar.indexCast c17_i32_579
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1410 : Index := Scalar.indexCast v1301
  ![17, v1410.toNat]

def k0_chk379 (i : grid0.Coords) (v1413 : IVec S16 32) : Prop :=
  (∀ (k0_h7 : k0_cond7 i = 1#1), ∀ a x, ((![v1413] : Fin 1 → IVec S16 32) a x).toNat < S2560.size a)
theorem k0_idx379_inb : ∀ (i : grid0.Coords) (v1413 : IVec S16 32) (k0_hw379 : k0_chk379 i v1413), ∀ (k0_h7 : k0_cond7 i = 1#1), ∀ a x, ((![v1413] : Fin 1 → IVec S16 32) a x).toNat < S2560.size a := fun i v1413 k0_hw379 k0_h7 => k0_hw379 k0_h7
def k0_off71 (k0_t4 : Fin k0_t4_loop.trips) : Fin 2 → Nat :=
  let c18_i32_581 : BitVec 32 := 18#32
  let v1415 : Index := Scalar.indexCast c18_i32_581
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1416 : Index := Scalar.indexCast v1301
  ![18, v1416.toNat]

def k0_chk380 (i : grid0.Coords) (v1419 : IVec S16 32) : Prop :=
  (∀ (k0_h7 : k0_cond7 i = 1#1), ∀ a x, ((![v1419] : Fin 1 → IVec S16 32) a x).toNat < S2560.size a)
theorem k0_idx380_inb : ∀ (i : grid0.Coords) (v1419 : IVec S16 32) (k0_hw380 : k0_chk380 i v1419), ∀ (k0_h7 : k0_cond7 i = 1#1), ∀ a x, ((![v1419] : Fin 1 → IVec S16 32) a x).toNat < S2560.size a := fun i v1419 k0_hw380 k0_h7 => k0_hw380 k0_h7
def k0_off72 (k0_t4 : Fin k0_t4_loop.trips) : Fin 2 → Nat :=
  let c19_i32_583 : BitVec 32 := 19#32
  let v1421 : Index := Scalar.indexCast c19_i32_583
  let c0_i32_542 : BitVec 32 := 0#32
  let c0_i32_538 : BitVec 32 := 0#32
  let c1_i32_539 : BitVec 32 := 1#32
  let arg17 : BitVec 32 := Scf.iv c0_i32_538 c1_i32_539 k0_t4
  let c1_i32_541 : BitVec 32 := 1#32
  let v1298 : BitVec 32 := Scalar.muli arg17 c1_i32_541
  let v1299 : BitVec 32 := Scalar.addi c0_i32_542 v1298
  let c16_i32_543 : BitVec 32 := 16#32
  let v1300 : BitVec 32 := Scalar.muli v1299 c16_i32_543
  let v1301 : BitVec 32 := v1300
  let v1422 : Index := Scalar.indexCast v1301
  ![19, v1422.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000 : Shape := ⟨1, ![1000000]⟩
abbrev S10x20 : Shape := ⟨2, ![10, 20]⟩
abbrev S9 : Shape := ⟨1, ![9]⟩
abbrev S1000000x1 : Shape := ⟨2, ![1000000, 1]⟩
abbrev S1x9 : Shape := ⟨2, ![1, 9]⟩
abbrev S1000000x9 : Shape := ⟨2, ![1000000, 9]⟩
abbrev S_ : Shape := ⟨0, ![]⟩
abbrev S1 : Shape := ⟨1, ![1]⟩
abbrev S1x1 : Shape := ⟨2, ![1, 1]⟩
abbrev S1000000x20 : Shape := ⟨2, ![1000000, 20]⟩

abbrev nBuf : Space → Nat
  | .hbm => 34
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S10x20, .f32⟩
  | .hbm, ⟨2, _⟩ => ⟨S9, .i32⟩
  | .hbm, ⟨3, _⟩ => ⟨S1000000x1, .i32⟩
  | .hbm, ⟨4, _⟩ => ⟨S1x9, .i32⟩
  | .hbm, ⟨5, _⟩ => ⟨S1000000x9, .i32⟩
  | .hbm, ⟨6, _⟩ => ⟨S1000000x9, .i32⟩
  | .hbm, ⟨7, _⟩ => ⟨S1000000x9, .i1⟩
  | .hbm, ⟨8, _⟩ => ⟨S1000000x9, .i32⟩
  | .hbm, ⟨9, _⟩ => ⟨S_, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1, .i32⟩
  | .hbm, ⟨20, _⟩ => ⟨S_, .i32⟩
  | .hbm, ⟨21, _⟩ => ⟨S1000000x1, .i32⟩
  | .hbm, ⟨22, _⟩ => ⟨S1000000x1, .i1⟩
  | .hbm, ⟨23, _⟩ => ⟨S1x1, .i32⟩
  | .hbm, ⟨24, _⟩ => ⟨S1000000x1, .i32⟩
  | .hbm, ⟨25, _⟩ => ⟨S1000000x1, .i1⟩
  | .hbm, ⟨26, _⟩ => ⟨S1000000x1, .i1⟩
  | .hbm, ⟨27, _⟩ => ⟨S_, .i1⟩
  | .hbm, ⟨28, _⟩ => ⟨S1000000, .i1⟩
  | .hbm, ⟨29, _⟩ => ⟨S1000000x20, .f32⟩
  | .hbm, ⟨30, _⟩ => ⟨S1000000x20, .i1⟩
  | .hbm, ⟨31, _⟩ => ⟨S_, .f32⟩
  | .hbm, ⟨32, _⟩ => ⟨S1000000x20, .f32⟩
  | .hbm, ⟨33, _⟩ => ⟨S1000000x20, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v7 : Ref sig .tc := ⟨.hbm, 33, rfl⟩

abbrev nD : Nat := 1
abbrev τ : Topo := Topo.v7x

variable {F : FTy → Type} [FloatOps F]
-- ==== Proof.Spec.lean ====
/-
  What the kernel computes, as functions of the words of `x` and of the flattened table, with the arithmetic of the
  bucket of a word and of a scatter of sixteen lanes at consecutive places.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.ViewIndex
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.Pre_in_range

@[expose] public section

noncomputable section

namespace Cert.Proof.Run

open Cert.KernelIdeal Cert.KernelIdeal.Gen
open Idealize.ShloMosaic

variable {F : FTy → Type}

/-! ## The bucket of a word, the table, the lookup table -/

/-- How many of the nine boundaries 1, 2, 3, 4, 5, 8, 16, 32, 64 are at most `v`. -/
def bucket (v : ℕ) : ℕ :=
  (if 1 ≤ v then 1 else 0) + (if 2 ≤ v then 1 else 0) + (if 3 ≤ v then 1 else 0) + (if 4 ≤ v then 1 else 0)
    + (if 5 ≤ v then 1 else 0) + (if 8 ≤ v then 1 else 0) + (if 16 ≤ v then 1 else 0) + (if 32 ≤ v then 1 else 0)
    + (if 64 ≤ v then 1 else 0)

theorem bucket_le (v : ℕ) : bucket v ≤ 9 := by
  unfold bucket
  split_ifs <;> omega

/-- Entry `k` of the flattened table, the index taken round its 200 entries. -/
def tabAt (tf : Vec F S200 .f32) (k : ℕ) : Elt F .f32 :=
  tf fun a => ⟨k % 200, by obtain rfl : a = 0 := Subsingleton.elim _ _; exact Nat.mod_lt k (by norm_num)⟩

theorem tabAt_of (tf : Vec F S200 .f32) (i : S200.Idx) : tf i = tabAt tf (i 0).val := by
  unfold tabAt
  congr 1
  exact Shape.idx1_ext (Nat.mod_eq_of_lt (i 0).isLt).symm

/-- Word `n` of `x`, the index taken round its million words. -/
def wordAt (X : IVec S1000000 32) (n : ℕ) : BitVec 32 :=
  X fun a => ⟨n % 1000000, by obtain rfl : a = 0 := Subsingleton.elim _ _; exact Nat.mod_lt n (by norm_num)⟩

theorem wordAt_of (X : IVec S1000000 32) (i : S1000000.Idx) : X i = wordAt X (i 0).val := by
  unfold wordAt
  congr 1
  exact Shape.idx1_ext (Nat.mod_eq_of_lt (i 0).isLt).symm

/-- Entry `p` of the finished lookup table: column `p / 128` of the row of the table that value `p % 128` falls in. -/
def lutV (tf : Vec F S200 .f32) (p : ℕ) : Elt F .f32 := tabAt tf (bucket (p % 128) * 20 + p / 128)

/-- The lookup table after `n` of the 160 scatters over `f₀`: scatter `20 g + j` writes column `j` for the values
    `16 g … 16 g + 15`. -/
def lutF (tf : Vec F S200 .f32) (f₀ : Vec F S2560 .f32) (n : ℕ) : Vec F S2560 .f32 := fun i =>
  if (i 0).val % 128 / 16 * 20 + (i 0).val / 128 < n then lutV tf (i 0).val else f₀ i

theorem lutF_zero (tf : Vec F S200 .f32) (f₀ : Vec F S2560 .f32) : lutF tf f₀ 0 = f₀ := by
  funext i; exact if_neg (Nat.not_lt_zero _)

/-- The finished lookup table. -/
def lutFull (tf : Vec F S200 .f32) : Vec F S2560 .f32 := fun i => lutV tf (i 0).val

theorem lutF_full (tf : Vec F S200 .f32) (f₀ : Vec F S2560 .f32) : lutF tf f₀ 160 = lutFull tf := by
  funext i
  refine if_pos ?_
  have : (i 0).val < 2560 := (i 0).isLt
  omega

/-! ## A scatter of lanes at distinct places -/

/-- A fold of single-place updates leaves alone a place none of them names. -/
theorem foldl_upd_miss {ι κ α : Type} (p : ι → ℕ) (idx : κ → ℕ) (v : κ → α) (j : ι) :
    ∀ (l : List κ) (f : ι → α), (∀ k ∈ l, p j ≠ idx k) →
      l.foldl (fun g k => fun j => if p j = idx k then v k else g j) f j = f j
  | [], _, _ => rfl
  | a :: l, f, h => by
    rw [List.foldl_cons, foldl_upd_miss p idx v j l _ fun k hk => h k (List.mem_cons_of_mem _ hk)]
    exact if_neg (h a List.mem_cons_self)

/-- A fold of single-place updates at distinct places puts at each place named the value named with it. -/
theorem foldl_upd_hit {ι κ α : Type} (p : ι → ℕ) (idx : κ → ℕ) (hinj : Function.Injective idx) (v : κ → α) (j : ι) (k : κ)
    (hk : p j = idx k) :
    ∀ (l : List κ) (f : ι → α), k ∈ l → l.foldl (fun g k => fun j => if p j = idx k then v k else g j) f j = v k
  | a :: l, f, h => by
    rw [List.foldl_cons]
    by_cases hl : k ∈ l
    · exact foldl_upd_hit p idx hinj v j k hk l _ hl
    · rcases List.mem_cons.mp h with rfl | h
      · rw [foldl_upd_miss p idx v j l _ fun k' hk' e => hl (hinj (hk.symm.trans e) ▸ hk')]
        exact if_pos hk
      · exact absurd h hl

/-- Lane `k` of a sixteen-lane vector. -/
abbrev lane (k : Fin 16) : S16.Idx := fun a =>
  ⟨k.val, by obtain rfl : a = 0 := Subsingleton.elim _ _; exact k.isLt⟩

/-- One scatter of the lookup table's construction, over the values `16 g … 16 g + 15` and column `j`, takes the table
    from one number of scatters to the next. -/
theorem lut_scatter (tf : Vec F S200 .f32) (f₀ : Vec F S2560 .f32) (n : ℕ) (ix iy : IVec S16 32) [FloatOps F]
    (h1 : ∀ a x, ((![ix] : Fin 1 → IVec S16 32) a x).toNat < S200.size a)
    (h2 : ∀ a x, ((![iy] : Fin 1 → IVec S16 32) a x).toNat < S2560.size a)
    (hn : n < 160)
    (hx : ∀ k : Fin 16, (ix (lane k)).toNat = bucket (16 * (n / 20) + k.val) * 20 + n % 20)
    (hy : ∀ k : Fin 16, (iy (lane k)).toNat = 16 * (n / 20) + k.val + 128 * (n % 20)) :
    storeIdx (F := F) (s := S2560) (d := ![16]) (lutF tf f₀ n) ![iy] (loadIdx (F := F) (s := S200) (t := S16) tf ![ix] h1) (fun _ => 1#1) false h2
      = lutF tf f₀ (n + 1) := by
  have hfold : storeIdx (F := F) (s := S2560) (d := ![16]) (lutF tf f₀ n) ![iy] (loadIdx (F := F) (s := S200) (t := S16) tf ![ix] h1) (fun _ => 1#1) false h2
      = (List.finRange 16).foldl (fun g k => fun j : S2560.Idx =>
          if (j 0).val = (iy (lane k)).toNat then tf (idxAt (s := S200) ![ix] h1 (lane k)) else g j) (lutF tf f₀ n) := by
    unfold storeIdx
    show (List.finRange 16).foldl _ _ = _
    congr 1
    funext g k
    have hl : (Shape.ofLane (d := ![16]) k : S16.Idx) = lane k := by
      refine Shape.idx1_ext ?_
      rfl
    simp only [hl, ↓reduceIte]
    funext j
    have hiff : (∀ a, (j a).val = ((idxAt (s := S2560) ![iy] h2 (lane k)) a).val) ↔ (j 0).val = (iy (lane k)).toNat := by
      constructor
      · intro h; exact h 0
      · intro h a; obtain rfl : a = 0 := Subsingleton.elim _ _; exact h
    by_cases hj : (j 0).val = (iy (lane k)).toNat
    · rw [if_pos hj]; exact if_pos (hiff.mpr hj)
    · rw [if_neg hj]; exact if_neg fun h => hj (hiff.mp h)
  rw [hfold]
  funext j
  have hj : (j 0).val < 2560 := (j 0).isLt
  have hinj : Function.Injective fun k : Fin 16 => (iy (lane k)).toNat := by
    intro k k' e
    simp only [hy] at e
    exact Fin.ext (by omega)
  by_cases hit : ∃ k : Fin 16, (j 0).val = (iy (lane k)).toNat
  · obtain ⟨k, hk⟩ := hit
    rw [foldl_upd_hit (fun j : S2560.Idx => (j 0).val) (fun k => (iy (lane k)).toNat) hinj _ j k hk _ _ (List.mem_finRange k)]
    have hk' := hk
    rw [hy] at hk'
    have hkl := k.isLt
    rw [tabAt_of tf]
    show tabAt tf (ix (lane k)).toNat = _
    rw [hx]
    unfold lutF lutV
    rw [if_pos (by omega)]
    congr 3
    · congr 1; omega
    · omega
  · have hmiss : ∀ k : Fin 16, (j 0).val ≠ (iy (lane k)).toNat := fun k e => hit ⟨k, e⟩
    rw [foldl_upd_miss (fun j : S2560.Idx => (j 0).val) (fun k => (iy (lane k)).toNat) _ j _ _ fun k _ => hmiss k]
    unfold lutF
    by_cases hlt : (j 0).val % 128 / 16 * 20 + (j 0).val / 128 < n
    · rw [if_pos hlt, if_pos (by omega)]
    · rw [if_neg hlt, if_neg]
      intro h
      have e : (j 0).val % 128 / 16 * 20 + (j 0).val / 128 = n := by omega
      have hk := hmiss ⟨(j 0).val % 16, by omega⟩
      rw [hy] at hk
      simp only at hk
      omega

/-! ## The panels -/

/-- Entry of the output at row `j`, column `n`. -/
def outF (tf : Vec F S200 .f32) (X : IVec S1000000 32) : Vec F S20x1000000 .f32 := fun i =>
  lutV tf ((wordAt X (i 1).val).toNat + 128 * (i 0).val)

/-- The words of `x` from `o` on, as a buffer of `n` words. -/
def wordsF {n : ℕ} (X : IVec S1000000 32) (o : ℕ) : IVec ⟨1, ![n]⟩ 32 := fun l => wordAt X (o + (l 0).val)

/-- A panel of the output from column `o` on, its columns below `16 q` done in the first twenty rows, and its first `j`
    rows in the sixteen columns after them; the rest as in `f₀`. -/
def panF {R C : ℕ} (tf : Vec F S200 .f32) (X : IVec S1000000 32) (o : ℕ) (f₀ : Vec F ⟨2, ![R, C]⟩ .f32) (q j : ℕ) :
    Vec F ⟨2, ![R, C]⟩ .f32 := fun i =>
  if ((i 0).val < 20 ∧ (i 1).val < 16 * q) ∨ ((i 0).val < j ∧ 16 * q ≤ (i 1).val ∧ (i 1).val < 16 * q + 16)
    then lutV tf ((wordAt X (o + (i 1).val)).toNat + 128 * (i 0).val) else f₀ i

theorem panF_zero {R C : ℕ} (tf : Vec F S200 .f32) (X : IVec S1000000 32) (o : ℕ) (f₀ : Vec F ⟨2, ![R, C]⟩ .f32) :
    panF tf X o f₀ 0 0 = f₀ := by
  funext i
  exact if_neg (by omega)

theorem panF_next {R C : ℕ} (tf : Vec F S200 .f32) (X : IVec S1000000 32) (o : ℕ) (f₀ : Vec F ⟨2, ![R, C]⟩ .f32) (q : ℕ) :
    panF tf X o f₀ q 20 = panF tf X o f₀ (q + 1) 0 := by
  funext i
  unfold panF
  congr 1
  exact propext ⟨by omega, by omega⟩

end Cert.Proof.Run

end
-- ==== Proof.Rules.lean ====
/-
  The launch as the library's theorem sees it, and the rules the tile's program is walked with: a memref's contents as
  one reads it, a check, a gather and a scatter of sixteen lanes, a row of a panel, a copy begun and a copy waited for.
-/
module

public import proofs.«01_k».proof.Proof.Spec

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The resource algebra: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile's thread -/

abbrev cV (L : grid0.Coords) : Fin τ.nSC := (L 0).castLE hcore0
abbrev jV (L : grid0.Coords) : Fin τ.nSub := (L 1).castLE hsub0
/-- The thread of the tile with coordinates `L` on device `d`. -/
abbrev thr (d : Dev nD) (L : grid0.Coords) : Thread nD τ := V d (cV L) (jV L)

variable (d : Dev nD) (L : grid0.Coords)

section Rules

variable {sp sp' : Space} {s s' t : Shape} {e e' : EltTy}

/-- The whole buffer of a memref, held at a share, in which the memref reads `g`. -/
def has (m : Memref sig .scVector sp s e) (q : PosShare TreeShare) (g : s.Idx → Elt F e) : sProp 𝕄 :=
  iprop(∃ f : Buf (Elt F) (m.view.loc (thr d L)), ⌜m.view.read (Elt F) f = g⌝ ∗ (m.view.loc (thr d L) ↦{q} f))

/-- A copy under way on a semaphore, after whose wait `R` is at hand. -/
def pend (sm : SemLoc sig) (N : ℕ) (R : sProp 𝕄) : sProp 𝕄 :=
  iprop(∃ D : sProp 𝕄, Transfers.Flight countersEmb (thr d L) sm (default : HIx 1) N D ∗ (D -∗ R))

/-- What the tile owes, with the waits it has made so far. -/
def owed (O : CellTallies nD τ sig (HIx 1)) (W : Waits sig (HIx 1)) : sProp 𝕄 :=
  iprop(∃ W', ⌜∀ p ∈ W', p ∈ W ∨ p.2 = none⌝ ∗ owes (thr d L) O W')

variable [FloatOps F] {α : Type}
variable {Q : α → sProp (MT nD τ sig (HIx 1) (Elt F) ℕ UU ℕ)}

local notation "WP" => wp (M := 𝕄) frame (wpE (defs₀ (F := F)) 𝒱₀ (thr d L) none) Set.univ

omit [FloatOps F] in
theorem pend_mono {sm : SemLoc sig} {N : ℕ} {R R' : sProp 𝕄} (h : R ⊢ R') : pend d L sm N R ⊢ pend d L sm N R' := by
  unfold pend
  iintro ⟨%D, HF, HR⟩
  iexists D
  isplitl [HF]; · iexact HF
  iintro HD
  iapply h
  iapply HR $$ HD

/-- A check whose proposition holds. -/
theorem wp_check {P : Prop} {dc : Decidable P} {k : PLift P → Prog (TpuEff nD τ sig (Elt F) Λ₀ (thr d L).2) α} (h : P) :
    WP (k ⟨h⟩) Q ⊢ WP (Prog.lift (TpuEff.assume P dc) >>= k) Q :=
  wp_assume 𝒱₀ (thr d L) none Set.univ h

omit [FloatOps F] in
theorem read_access_whole' (m : Memref sig .scVector sp s e) (f : m.view.ty.Contents (Elt F)) :
    (m.access (.whole s)).read (Elt F) f = m.view.read (Elt F) f := by
  funext x
  show _root_.cast _ (f _) = _root_.cast _ (f _)
  congr 2
  exact congrArg m.view.emb (Rect.emb_whole_apply s x)

/-- A gather of a table held reads it at the lanes' indices. -/
theorem wp_gather {m : Memref sig .scVector .vmem s e} {idxs : Fin s.rank → IVec t 32} {h : ∀ a x, (idxs a x).toNat < s.size a}
    {hl : m.view.Loads} {k : Vec F t e → Prog (TpuEff nD τ sig (Elt F) Λ₀ (thr d L).2) α} {q : PosShare TreeShare} {g : s.Idx → Elt F e} :
    has d L m q g ⊢ iprop((has d L m q g -∗ WP (k (loadIdx g idxs h)) Q) -∗ WP (SparseCore.vectorLoadIdx m idxs h hl >>= k) Q) := by
  unfold has
  iintro ⟨%f, %hf, H⟩ Hk
  iapply (SparseCore.wp_vectorLoadIdx (defs := defs₀ (F := F)) 𝒱₀ (thr d L) none Set.univ (base := m) (idxs := idxs) (h := h) (hl := hl) (k := k)
    (S := Finset.univ) (Finset.subset_univ _)) $$ H
  iintro H
  rw [read_access_whole', hf]
  iapply Hk
  iexists f
  isplitr [H]
  · ipureintro; exact hf
  · iexact H

/-- The scatter that takes the lookup table from `n` to `n + 1`. -/
theorem wp_lut_scatter {m : Memref sig .scVector .vmem S2560 .f32} {tf : Vec F S200 .f32} {f₀ : Vec F S2560 .f32} (n : ℕ)
    {ix iy : IVec S16 32} {h1 : ∀ a x, ((![ix] : Fin 1 → IVec S16 32) a x).toNat < S200.size a}
    {h2 : ∀ a x, ((![iy] : Fin 1 → IVec S16 32) a x).toNat < S2560.size a} {hs : (m.access (.whole S2560)).Stores Finset.univ}
    {k : PUnit → Prog (TpuEff nD τ sig (Elt F) Λ₀ (thr d L).2) α} (hn : n < 160)
    (hx : ∀ k : Fin 16, (ix (lane k)).toNat = bucket (16 * (n / 20) + k.val) * 20 + n % 20)
    (hy : ∀ k : Fin 16, (iy (lane k)).toNat = 16 * (n / 20) + k.val + 128 * (n % 20)) :
    has d L m fullShare (lutF tf f₀ n)
      ⊢ iprop((has d L m fullShare (lutF tf f₀ (n + 1)) -∗ WP (k ⟨⟩) Q)
        -∗ WP (SparseCore.vectorStoreIdx (d := ![16]) m ![iy] (loadIdx (F := F) (s := S200) (t := S16) tf ![ix] h1) (fun _ => 1#1) false h2 hs >>= k) Q) := by
  unfold has
  show _ ⊢ iprop(_ -∗ WP (Prog.op (TpuEff.load m (Rect.whole S2560) (View.loadsAt_rect hs.loads)) fun f' => .op (.store m (.whole S2560)
    (storeIdx f' ![iy] (loadIdx (F := F) (s := S200) (t := S16) tf ![ix] h1) (fun _ => 1#1) false h2) Finset.univ hs (.inl rfl)) k) Q)
  iintro ⟨%f, %hf, H⟩ Hk
  iapply (wp_load_rect (defs := defs₀ (F := F)) 𝒱₀ (thr d L) none Set.univ (m := m) (r := Rect.whole S2560) (hl := View.loadsAt_rect hs.loads)
    (k := fun f' => .op (.store m (.whole S2560) (storeIdx f' ![iy] (loadIdx (F := F) (s := S200) (t := S16) tf ![ix] h1) (fun _ => 1#1) false h2) Finset.univ hs (.inl rfl)) k)
    (S := Finset.univ) (q := fullShare) (f := f) (Finset.subset_univ _)) $$ H
  iintro H
  rw [read_access_whole', hf, lut_scatter tf f₀ n ix iy h1 h2 hn hx hy]
  iapply (wp_store (defs := defs₀ (F := F)) 𝒱₀ (thr d L) none Set.univ (m := m) (r := .whole S2560) (Mk := Finset.univ)
    (hx := hs) (hm := .inl rfl) (k := k) (f := f) (S := Finset.univ) (Finset.subset_univ _)) $$ H
  iintro H
  iapply Hk
  iexists (m.access (.whole S2560)).write (Elt F) f (lutF tf f₀ (n + 1)) Finset.univ
  isplitr [H]
  · ipureintro
    rw [← read_access_whole', View.read_write_univ]
  · iexact H

/-- Sixteen words loaded from a buffer of the words of `x` from `o` on. -/
theorem wp_words {n : ℕ} {m : Memref sig .scVector .vmem ⟨1, ![n]⟩ .i32} {X : IVec S1000000 32} {o q : ℕ} {off : Fin 1 → ℕ} (hoff : off = ![16 * q])
    {inb : ∀ a, off a + S16.size a ≤ (⟨1, ![n]⟩ : Shape).size a} {hl : m.view.LoadsAt (Rect.unit (s := ⟨1, ![n]⟩) off S16.size inb).toLoadRect}
    {k : IVec S16 32 → Prog (TpuEff nD τ sig (Elt F) Λ₀ (thr d L).2) α} :
    has d L m fullShare (wordsF (n := n) X o) ⊢ iprop((has d L m fullShare (wordsF (n := n) X o) -∗ WP (k (wordsF (n := 16) X (o + 16 * q))) Q)
        -∗ WP (Prog.lift (TpuEff.load m (Rect.unit (s := ⟨1, ![n]⟩) off S16.size inb).toLoadRect hl) >>= k) Q) := by
  subst hoff
  unfold has
  iintro ⟨%f, %hf, H⟩ Hk
  iapply (wp_load_rect (defs := defs₀ (F := F)) 𝒱₀ (thr d L) none Set.univ (m := m) (r := Rect.unit (s := ⟨1, ![n]⟩) ![16 * q] S16.size inb)
    (hl := hl) (k := k) (S := Finset.univ) (q := fullShare) (f := f) (Finset.subset_univ _)) $$ H
  iintro H
  have hr : (m.access (Rect.unit (s := ⟨1, ![n]⟩) ![16 * q] S16.size inb)).read (Elt F) f = wordsF (n := 16) X (o + 16 * q) := by
    funext x
    have e : (m.access (Rect.unit (s := ⟨1, ![n]⟩) ![16 * q] S16.size inb)).read (Elt F) f x
        = m.view.read (Elt F) f ((Rect.unit (s := ⟨1, ![n]⟩) ![16 * q] S16.size inb).emb x) := rfl
    rw [e, hf]
    show wordAt X (o + _) = wordAt X (o + 16 * q + _)
    congr 1
    show o + (16 * q + 1 * (x 0).val) = _
    omega
  rw [hr]
  iapply Hk
  iexists f
  isplitr [H]
  · ipureintro; exact hf
  · iexact H

/-- Row `j` of the sixteen columns `16 q …` of a panel: the load the program makes of it, and the store. -/
theorem wp_row {R C : ℕ} {m : Memref sig .scVector .vmem ⟨2, ![R, C]⟩ .f32} {tf : Vec F S200 .f32} {X : IVec S1000000 32} {o : ℕ}
    {f₀ : Vec F ⟨2, ![R, C]⟩ .f32} {q : ℕ} (j : ℕ) (hj : j < 20) {off off' : Fin 2 → ℕ} (hoff : off = ![j, 16 * q])
    {inb : ∀ a, off a + S1x16.size a ≤ (⟨2, ![R, C]⟩ : Shape).size a} {inb' : ∀ a, off' a + S1x16.size a ≤ (⟨2, ![R, C]⟩ : Shape).size a}
    {hl : m.view.LoadsAt (Rect.unit (s := ⟨2, ![R, C]⟩) off' S1x16.size inb').toLoadRect}
    {hx : (m.access (Rect.unit (s := ⟨2, ![R, C]⟩) off S1x16.size inb)).Stores Finset.univ}
    {hm : (Finset.univ : Finset (Rect.unit (s := ⟨2, ![R, C]⟩) off S1x16.size inb).shape.Idx) = Finset.univ ∨ _}
    {ix : IVec S16 32} {h : ∀ a x, ((![ix] : Fin 1 → IVec S16 32) a x).toNat < S2560.size a}
    (hix : ∀ l : Fin 16, (ix (lane l)).toNat = (wordAt X (o + 16 * q + l.val)).toNat + 128 * j)
    {k : PUnit → Prog (TpuEff nD τ sig (Elt F) Λ₀ (thr d L).2) α} :
    has d L m fullShare (panF tf X o f₀ q j)
      ⊢ iprop((has d L m fullShare (panF tf X o f₀ q (j + 1)) -∗ WP (k ⟨⟩) Q)
        -∗ WP (Prog.lift (TpuEff.load m (Rect.unit (s := ⟨2, ![R, C]⟩) off' S1x16.size inb').toLoadRect hl) >>= fun _ =>
            Prog.lift (TpuEff.store m (Rect.unit (s := ⟨2, ![R, C]⟩) off S1x16.size inb)
              (shapeCast S1x16 (loadIdx (F := F) (s := S2560) (t := S16) (lutFull tf) ![ix] h) shapeCasts_S16_S1x16) Finset.univ hx hm) >>= k) Q) := by
  subst hoff
  unfold has
  iintro ⟨%f, %hf, H⟩ Hk
  iapply (wp_load_rect (defs := defs₀ (F := F)) 𝒱₀ (thr d L) none Set.univ (m := m) (r := Rect.unit (s := ⟨2, ![R, C]⟩) off' S1x16.size inb')
    (hl := hl) (k := fun _ => Prog.lift (TpuEff.store m (Rect.unit (s := ⟨2, ![R, C]⟩) ![j, 16 * q] S1x16.size inb)
              (shapeCast S1x16 (loadIdx (F := F) (s := S2560) (t := S16) (lutFull tf) ![ix] h) shapeCasts_S16_S1x16) Finset.univ hx hm) >>= k)
    (S := Finset.univ) (q := fullShare) (f := f) (Finset.subset_univ _)) $$ H
  iintro H
  iapply (wp_store (defs := defs₀ (F := F)) 𝒱₀ (thr d L) none Set.univ (m := m) (r := Rect.unit (s := ⟨2, ![R, C]⟩) ![j, 16 * q] S1x16.size inb)
    (w := shapeCast S1x16 (loadIdx (F := F) (s := S2560) (t := S16) (lutFull tf) ![ix] h) shapeCasts_S16_S1x16) (Mk := Finset.univ)
    (hx := hx) (hm := hm) (k := k) (f := f) (S := Finset.univ) (Finset.subset_univ _)) $$ H
  iintro H
  iapply Hk
  iexists (m.access (Rect.unit (s := ⟨2, ![R, C]⟩) ![j, 16 * q] S1x16.size inb)).write (Elt F) f
    (shapeCast S1x16 (loadIdx (F := F) (s := S2560) (t := S16) (lutFull tf) ![ix] h) shapeCasts_S16_S1x16) Finset.univ
  isplitr [H]
  · ipureintro
    funext i
    have hi0 : (i 0).val < R := (i 0).isLt
    have hi1 : (i 1).val < C := (i 1).isLt
    by_cases hin : (i 0).val = j ∧ 16 * q ≤ (i 1).val ∧ (i 1).val < 16 * q + 16
    · have hb : (i 1).val - 16 * q < 16 := by omega
      let x : S1x16.Idx := fun a => match a with
        | 0 => (⟨0, Nat.one_pos⟩ : Fin 1)
        | 1 => (⟨(i 1).val - 16 * q, hb⟩ : Fin 16)
      have hxi : (Rect.unit (s := ⟨2, ![R, C]⟩) ![j, 16 * q] S1x16.size inb).emb x = i := by
        funext a
        refine Fin.ext ?_
        match a with
        | 0 => show j + 1 * 0 = (i 0).val; omega
        | 1 => show 16 * q + 1 * ((i 1).val - 16 * q) = (i 1).val; omega
      have e := View.read_slice_write_emb (v := m.view) (Val := Elt F) (Rect.unit (s := ⟨2, ![R, C]⟩) ![j, 16 * q] S1x16.size inb) f
        (shapeCast S1x16 (loadIdx (F := F) (s := S2560) (t := S16) (lutFull tf) ![ix] h) shapeCasts_S16_S1x16) (M := Finset.univ) (Finset.mem_univ x)
      rw [hxi] at e
      refine e.trans ?_
      refine (shapeCast_addUnit_apply ![16] (loadIdx (F := F) (s := S2560) (t := S16) (lutFull tf) ![ix] h) shapeCasts_S16_S1x16 x).trans ?_
      have hl : (fun a : Fin 1 => x a.succ : S16.Idx) = lane ⟨(i 1).val - 16 * q, hb⟩ :=
        funext fun a => by obtain rfl : a = 0 := Subsingleton.elim _ _; rfl
      rw [hl]
      unfold panF
      rw [if_pos (by omega)]
      show lutV tf (ix (lane ⟨(i 1).val - 16 * q, hb⟩)).toNat = _
      rw [hix]
      congr 4
      · simp only; omega
      · omega
    · refine (View.read_slice_write_of_not_mem (v := m.view) (Val := Elt F) (Rect.unit (s := ⟨2, ![R, C]⟩) ![j, 16 * q] S1x16.size inb) f
        (shapeCast S1x16 (loadIdx (F := F) (s := S2560) (t := S16) (lutFull tf) ![ix] h) shapeCasts_S16_S1x16) Finset.univ (y := i) ?_).trans ?_
      rotate_left
      · rw [hf]
        unfold panF
        congr 1
        exact propext ⟨by omega, by omega⟩
      · intro hmem
        obtain ⟨x, -, rfl⟩ := Finset.mem_map.mp hmem
        have h0 : (x 0).val < 1 := (x 0).isLt
        have h1 : (x 1).val < 16 := (x 1).isLt
        refine hin ⟨?_, ?_, ?_⟩
        · show j + 1 * (x 0).val = j; omega
        · show 16 * q ≤ 16 * q + 1 * (x 1).val; omega
        · show 16 * q + 1 * (x 1).val < 16 * q + 16; omega
  · iexact H

/-! ## Copies -/

/-- A copy within the tile's reach begun: the source lent whole at a share, the destination's elements held. -/
theorem wp_begin {src : Memref sig .scVector sp s e} {dst : Memref sig .scVector sp' s e} {sm : SemLoc sig}
    {hsrc : src.view.WordExact} {hdst : dst.view.WordExact} {hsem : DmaTarget.Typed (nD := nD) (τ := τ) (p := (thr d L).2) sp sm (.here dst)}
    {k : PUnit → Prog (TpuEff nD τ sig (Elt F) Λ₀ (thr d L).2) α} {q : PosShare TreeShare} {fs : Buf (Elt F) (src.view.loc (thr d L))}
    {Sd : Finset (Idx (dst.view.loc (thr d L)))} {fd : Buf (Elt F) (dst.view.loc (thr d L))} (N : ℕ) (hN : dst.view.amount sm = N) (hs : 0 < s.numel)
    (hSd : dst.view.set ⊆ Sd) {R : sProp 𝕄}
    (hR : iprop((src.view.loc (thr d L) ↦{q} fs) ∗ (dst.view.loc (thr d L) ↦[Sd]{fullShare} dst.view.write (Elt F) fd (src.view.read (Elt F) fs) Finset.univ)) ⊢ R) :
    iprop((src.view.loc (thr d L) ↦{q} fs) ∗ (dst.view.loc (thr d L) ↦[Sd]{fullShare} fd) ∗ semVal (thr d L, sm) 0)
      ⊢ iprop((pend d L sm N R -∗ WP (k ⟨⟩) Q) -∗ WP (Prog.lift (TpuEff.enqueueDma src (.here dst) sm hsrc hdst hsem) >>= k) Q) := by
  iintro ⟨Hs, Hd, Hv⟩ Hk
  ihave Hs' := (pointsTo_split_subset (q := q) (f := fs) (S := Finset.univ) (Finset.subset_univ src.view.set)).1 $$ Hs
  icases Hs' with ⟨Hs, Hr⟩
  iapply (Transfers.wp_dmaLocal countersEmb (defs := defs₀ (F := F)) 𝒱₀ (thr d L) none (src := src) (dst := dst) (via := .same) (sm := sm)
    (hsrc := hsrc) (hdst := hdst) (hsem := hsem) (k := k) (q := q) (fs := fs) (Sd := Sd) (fd := fd) (default : HIx 1) N hN
    (hN ▸ View.amount_pos _ _ hs) hSd) $$ [Hs Hd Hv]
  · isplitl [Hs]; · iexact Hs
    isplitl [Hd]; · iexact Hd
    iexact Hv
  iintro HF
  iapply Hk
  unfold pend
  iexists _
  isplitl [HF]; · iexact HF
  iintro ⟨Hd, Hs⟩
  iapply hR
  isplitl [Hs Hr]
  · iapply (pointsTo_split_subset (q := q) (f := fs) (S := Finset.univ) (Finset.subset_univ src.view.set)).2
    isplitl [Hs]; · iexact Hs
    iexact Hr
  · iexact Hd

/-- A copy waited for. -/
theorem wp_end {sem : DmaSem sig} {srcw : Memref sig .scVector sp s e} {dstw : Memref sig .scVector sp' s' e'} {hsrc : srcw.view.WordExact}
    {hdst : dstw.view.WordExact} {k : PUnit → Prog (TpuEff nD τ sig (Elt F) Λ₀ (thr d L).2) α} (N : ℕ) (hN : dstw.view.dmaCredit = N) {R : sProp 𝕄}
    {O : CellTallies nD τ sig (HIx 1)} {W : Waits sig (HIx 1)} :
    iprop(pend d L (.dma sem) N R ∗ owed d L O W ∗ Transfers.MayWaits (thr d L) (default : HIx 1) O)
      ⊢ iprop((iprop(R ∗ semVal (thr d L, .dma sem) 0 ∗ owed d L O W) -∗ WP (k ⟨⟩) Q)
        -∗ WP (Prog.lift (TpuEff.waitDma2 sem srcw dstw hsrc hdst) >>= k) Q) := by
  unfold pend owed
  iintro ⟨⟨%D, HF, HR⟩, ⟨%W', %hW', HO⟩, Hmw⟩ Hk
  ihave Hm := (Transfers.MayWaits.elim (SemLoc.dma sem)) $$ Hmw
  iapply (Transfers.wp_waitLocalO countersEmb (defs := defs₀ (F := F)) 𝒱₀ (thr d L) none (srcw := srcw) (dstw := dstw) (hsrc := hsrc) (hdst := hdst) (k := k)
    (default : HIx 1) hN) $$ [HF HO Hm]
  · isplitl [HF]; · iexact HF
    isplitl [HO]; · iexact HO
    iexact Hm
  iintro ⟨HD, Hv, HO⟩
  iapply Hk
  isplitl [HD HR]; · iapply HR $$ HD
  isplitl [Hv]; · iexact Hv
  iexists insert (SemLoc.dma sem, default) W'
  isplitr [HO]
  · ipureintro
    intro p hp
    rcases Finset.mem_insert.mp hp with rfl | hp
    · exact Or.inr rfl
    · exact hW' p hp
  · iexact HO

end Rules

/-! ## The tile's memrefs -/

abbrev xV : Memref sig .scVector .hbm S1000000 .i32 := Memref.whole main_arg0_scv
abbrev tV : Memref sig .scVector .hbm S200 .f32 := Memref.whole main_v0_scv
abbrev oV : Memref sig .scVector .hbm S20x1000000 .f32 := Memref.whole main_v1_scv
abbrev bT : Memref sig .scVector .vmem S200 .f32 := Memref.whole cc0_scratch0
abbrev bL : Memref sig .scVector .vmem S2560 .f32 := Memref.whole cc0_scratch1
abbrev bX0 : Memref sig .scVector .vmem S1024 .i32 := Memref.whole cc0_scratch2
abbrev bX1 : Memref sig .scVector .vmem S1024 .i32 := Memref.whole cc0_scratch3
abbrev bP0 : Memref sig .scVector .vmem S24x1024 .f32 := Memref.whole cc0_scratch4
abbrev bP1 : Memref sig .scVector .vmem S24x1024 .f32 := Memref.whole cc0_scratch5
abbrev bPt : Memref sig .scVector .vmem S20x576 .f32 := Memref.whole cc0_scratch6
abbrev bXt : Memref sig .scVector .vmem S576 .i32 := Memref.whole cc0_scratch7

/-- The body of the loop over pairs of chunks, at the tile's memrefs. -/
abbrev pairBody [FloatOps F] (v1 : BitVec 32) (u1 u2 u3 : IVec S16 32) :=
  k0_t1_body (F := F) L xV (Memref.isWhole_whole _) tV (Memref.isWhole_whole _) oV (Memref.isWhole_whole _) bT (Memref.isWhole_whole _) bL (Memref.isWhole_whole _) bX0 (Memref.isWhole_whole _) bX1 (Memref.isWhole_whole _) bP0 (Memref.isWhole_whole _) bP1 (Memref.isWhole_whole _) bPt (Memref.isWhole_whole _) bXt (Memref.isWhole_whole _)
    cc0_scratch8 cc0_scratch9 cc0_scratch10 cc0_scratch11 cc0_scoped0 cc0_scoped1 cc0_scoped2 v1 u1 u2 u3
/-- The body of the loop over a panel of the first buffer. -/
abbrev panBody0 [FloatOps F] (v1 : BitVec 32) (u1 u2 u3 : IVec S16 32) (t : Fin k0_t1_loop.trips) (h : k0_cond1 L t = 1#1) :=
  k0_t2_body (F := F) L xV (Memref.isWhole_whole _) tV (Memref.isWhole_whole _) oV (Memref.isWhole_whole _) bT (Memref.isWhole_whole _) bL (Memref.isWhole_whole _) bX0 (Memref.isWhole_whole _) bX1 (Memref.isWhole_whole _) bP0 (Memref.isWhole_whole _) bP1 (Memref.isWhole_whole _) bPt (Memref.isWhole_whole _) bXt (Memref.isWhole_whole _)
    cc0_scratch8 cc0_scratch9 cc0_scratch10 cc0_scratch11 cc0_scoped0 cc0_scoped1 cc0_scoped2 v1 u1 u2 u3 t h
/-- The body of the loop over a panel of the second buffer. -/
abbrev panBody1 [FloatOps F] (v1 : BitVec 32) (u1 u2 u3 : IVec S16 32) (t : Fin k0_t1_loop.trips) (h : k0_cond4 L t = 1#1) :=
  k0_t3_body (F := F) L xV (Memref.isWhole_whole _) tV (Memref.isWhole_whole _) oV (Memref.isWhole_whole _) bT (Memref.isWhole_whole _) bL (Memref.isWhole_whole _) bX0 (Memref.isWhole_whole _) bX1 (Memref.isWhole_whole _) bP0 (Memref.isWhole_whole _) bP1 (Memref.isWhole_whole _) bPt (Memref.isWhole_whole _) bXt (Memref.isWhole_whole _)
    cc0_scratch8 cc0_scratch9 cc0_scratch10 cc0_scratch11 cc0_scoped0 cc0_scoped1 cc0_scoped2 v1 u1 u2 u3 t h
/-- The body of the loop over the last, narrow panel. -/
abbrev panBodyT [FloatOps F] (h : k0_cond7 L = 1#1) :=
  k0_t4_body (F := F) L xV (Memref.isWhole_whole _) tV (Memref.isWhole_whole _) oV (Memref.isWhole_whole _) bT (Memref.isWhole_whole _) bL (Memref.isWhole_whole _) bX0 (Memref.isWhole_whole _) bX1 (Memref.isWhole_whole _) bP0 (Memref.isWhole_whole _) bP1 (Memref.isWhole_whole _) bPt (Memref.isWhole_whole _) bXt (Memref.isWhole_whole _)
    cc0_scratch8 cc0_scratch9 cc0_scratch10 cc0_scratch11 cc0_scoped0 cc0_scoped1 cc0_scoped2 h

/-- What the tile does once its lookup table is made, up to the end of its chunks. -/
abbrev ringProg [FloatOps F] (v1 : BitVec 32) (u1 u2 u3 : IVec S16 32) : Prog (TpuEff nD τ sig (Elt F) Λ₀ (thr d L).2) (BitVec 32) := do
  Prog.lift (.enqueueDma (xV.slice (Rect.unit (s := S1000000) (k0_off1 L) S1024.size (k0_off1_inb L)) (fun _ => rfl)) (.here bX0) (.dma cc0_scratch10.sem)
    (View.wordExact_bits rfl) (Memref.isWhole_whole _).wordExact ⟨Or.inl rfl, trivial⟩)
  Scf.Loop.for k0_t1_loop k0_t1_ok ⟨⟩ (pairBody L v1 u1 u2 u3)
  pure 31#32

/-- What the tile does after its chunks: the last, narrow panel, on the one tile that has it, and the wait for the last copy out of the first
    panel buffer. -/
abbrev tailProg [FloatOps F] : Prog (TpuEff nD τ sig (Elt F) Λ₀ (thr d L).2) PUnit := do
  if k0_h7 : k0_cond7 L = 1#1 then do
    Prog.lift (.enqueueDma (xV.slice (Rect.unit (s := S1000000) ![999424] S576.size inb_S1000000_S576_999424) (fun _ => rfl)) (.here bXt) (.dma cc0_scoped1.sem)
      (View.wordExact_bits rfl) (Memref.isWhole_whole _).wordExact ⟨Or.inl rfl, trivial⟩)
    Prog.lift (.waitDma2 cc0_scoped1.sem (xV.slice (Rect.unit (s := S1000000) ![999424] S576.size inb_S1000000_S576_999424) (fun _ => rfl)) bXt
      (View.wordExact_bits rfl) (Memref.isWhole_whole _).wordExact)
    Scf.Loop.for k0_t4_loop (k0_t4_ok L k0_h7) ⟨⟩ (panBodyT L k0_h7)
    Prog.lift (.enqueueDma bPt (.here (oV.slice (Rect.unit (s := S20x1000000) ![0, 999424] S20x576.size inb_S20x1000000_S20x576_0_999424) (fun _ => rfl)))
      (.dma cc0_scoped2.sem) (Memref.isWhole_whole _).wordExact (View.wordExact_bits rfl) ⟨Or.inl rfl, trivial⟩)
    Prog.lift (.waitDma2 cc0_scoped2.sem bPt (oV.slice (Rect.unit (s := S20x1000000) ![0, 999424] S20x576.size inb_S20x1000000_S20x576_0_999424) (fun _ => rfl))
      (Memref.isWhole_whole _).wordExact (View.wordExact_bits rfl))
    pure ⟨⟩
  else do
    pure ⟨⟩
  Prog.lift (.waitDma2 cc0_scratch8.sem (bP0.slice (Rect.unit (s := S24x1024) ![0, 0] S20x1024.size inb_S24x1024_S20x1024_0_0) (fun _ => rfl))
    (oV.slice (Rect.unit (s := S20x1000000) ![0, 0] S20x1024.size inb_S20x1000000_S20x1024_0_0) (fun _ => rfl)) (View.wordExact_bits rfl) (View.wordExact_bits rfl))
  pure ⟨⟩

end Cert.Proof.Run

end
-- ==== Proof.Lut.lean ====
/-
  The construction of the lookup table: the 160 gathers and scatters, part by part of the program, up to the point where the
  table is whole.
-/
module

public import proofs.«01_k».proof.Proof.Rules

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) [FloatOps F]

local notation "WP" => wp (M := MT nD τ sig (HIx 1) (Elt F) ℕ UU ℕ) frame (wpE (defs₀ (F := F)) 𝒱₀ (thr d L) none) Set.univ

section Steps

variable {α β : Type}
variable {Q : α → sProp (MT nD τ sig (HIx 1) (Elt F) ℕ UU ℕ)}
variable {Γ R : sProp (MT nD τ sig (HIx 1) (Elt F) ℕ UU ℕ)}
variable {tf : Vec F S200 .f32} {f₀ : Vec F S2560 .f32}

/-- The state of the construction after `n` scatters: the table, the lookup table so far, and what else is held. -/
def lutAt (tf : Vec F S200 .f32) (f₀ : Vec F S2560 .f32) (n : ℕ) (R : sProp 𝕄) : sProp 𝕄 :=
  iprop(has d L bT fullShare tf ∗ has d L bL fullShare (lutF tf f₀ n) ∗ R)

theorem step_bind {p : Prog (TpuEff nD τ sig (Elt F) Λ₀ (thr d L).2) β} {k : β → Prog (TpuEff nD τ sig (Elt F) Λ₀ (thr d L).2) α}
    (h : Γ ⊢ WP p fun a => WP (k a) Q) : Γ ⊢ WP (p >>= k) Q := by
  rw [wp_bind]; exact h

theorem step_pure {a : α} (h : Γ ⊢ Q a) : Γ ⊢ WP (pure a) Q := by
  refine h.trans ?_
  rw [wp_pure]
  iintro H
  imodintro
  iexact H

theorem step_check {P : Prop} {dc : Decidable P} {k : PLift P → Prog (TpuEff nD τ sig (Elt F) Λ₀ (thr d L).2) α} (h : P)
    (hk : Γ ⊢ WP (k ⟨h⟩) Q) : Γ ⊢ WP (Prog.lift (TpuEff.assume P dc) >>= k) Q :=
  hk.trans (wp_check d L h)

theorem step_gather {n : ℕ} {ix : IVec S16 32} {h : ∀ a x, ((![ix] : Fin 1 → IVec S16 32) a x).toNat < S200.size a} {hl : bT.view.Loads}
    {k : Vec F S16 .f32 → Prog (TpuEff nD τ sig (Elt F) Λ₀ (thr d L).2) α}
    (hk : lutAt d L tf f₀ n R ⊢ WP (k (loadIdx (F := F) (s := S200) (t := S16) tf ![ix] h)) Q) :
    lutAt d L tf f₀ n R ⊢ WP (SparseCore.vectorLoadIdx bT ![ix] h hl >>= k) Q := by
  refine Entails.trans (Q := iprop(has d L bT fullShare tf ∗ (has d L bL fullShare (lutF tf f₀ n) ∗ R))) .rfl ?_
  iintro ⟨Ht, Hr⟩
  iapply (wp_gather d L (m := bT) (idxs := ![ix]) (h := h) (hl := hl) (k := k) (q := fullShare) (g := tf)) $$ Ht
  iintro Ht
  iapply hk
  unfold lutAt
  isplitl [Ht]; · iexact Ht
  iexact Hr

theorem step_scatter {n : ℕ} {ix iy : IVec S16 32} {h1 : ∀ a x, ((![ix] : Fin 1 → IVec S16 32) a x).toNat < S200.size a}
    {h2 : ∀ a x, ((![iy] : Fin 1 → IVec S16 32) a x).toNat < S2560.size a} {hs : (bL.access (.whole S2560)).Stores Finset.univ}
    {k : PUnit → Prog (TpuEff nD τ sig (Elt F) Λ₀ (thr d L).2) α} (hn : n < 160)
    (hxy : ∀ k : Fin 16, (ix (lane k)).toNat = bucket (16 * (n / 20) + k.val) * 20 + n % 20
      ∧ (iy (lane k)).toNat = 16 * (n / 20) + k.val + 128 * (n % 20))
    (hk : lutAt d L tf f₀ (n + 1) R ⊢ WP (k ⟨⟩) Q) :
    lutAt d L tf f₀ n R
      ⊢ WP (SparseCore.vectorStoreIdx (d := ![16]) bL ![iy] (loadIdx (F := F) (s := S200) (t := S16) tf ![ix] h1) (fun _ => 1#1) false h2 hs >>= k) Q := by
  unfold lutAt
  iintro ⟨Ht, Hl, HR⟩
  iapply (wp_lut_scatter d L (m := bL) (h1 := h1) (h2 := h2) (hs := hs) (k := k) n hn (fun k => (hxy k).1) (fun k => (hxy k).2)) $$ Hl
  iintro Hl
  iapply hk
  unfold lutAt
  isplitl [Ht]; · iexact Ht
  isplitl [Hl]; · iexact Hl
  iexact HR

end Steps

variable {Q : PUnit → sProp (MT nD τ sig (HIx 1) (Elt F) ℕ UU ℕ)}
variable {R : sProp (MT nD τ sig (HIx 1) (Elt F) ℕ UU ℕ)}
variable {tf : Vec F S200 .f32} {f₀ : Vec F S2560 .f32}

set_option maxHeartbeats 40000000 in
set_option maxRecDepth 100000 in
/-- The tile's program up to the wait for its last copy: the table fetched, the lookup table made by 160 scatters, the rest. -/
theorem walk_part49 {Γ : sProp 𝕄}
    (h10 : ∀ Q' : _ → sProp 𝕄, (∀ v1, lutAt d L tf f₀ 0 R ⊢ Q' ⟨v1, k0_pay49, k0_pay50, k0_pay51⟩) → Γ ⊢ WP (k0_part10 (F := F) L xV (Memref.isWhole_whole _) tV (Memref.isWhole_whole _) oV (Memref.isWhole_whole _) bT (Memref.isWhole_whole _) bL (Memref.isWhole_whole _) bX0 (Memref.isWhole_whole _) bX1 (Memref.isWhole_whole _) bP0 (Memref.isWhole_whole _) bP1 (Memref.isWhole_whole _) bPt (Memref.isWhole_whole _) bXt (Memref.isWhole_whole _)
    cc0_scratch8 cc0_scratch9 cc0_scratch10 cc0_scratch11 cc0_scoped0 cc0_scoped1 cc0_scoped2) Q')
    (hr : ∀ v1 u1 u2 u3, lutAt d L tf f₀ 160 R ⊢ WP (ringProg d L v1 u1 u2 u3) fun _ => WP (tailProg d L) Q) :
    Γ ⊢ WP (k0_part49 (F := F) L xV (Memref.isWhole_whole _) tV (Memref.isWhole_whole _) oV (Memref.isWhole_whole _) bT (Memref.isWhole_whole _) bL (Memref.isWhole_whole _) bX0 (Memref.isWhole_whole _) bX1 (Memref.isWhole_whole _) bP0 (Memref.isWhole_whole _) bP1 (Memref.isWhole_whole _) bPt (Memref.isWhole_whole _) bXt (Memref.isWhole_whole _)
    cc0_scratch8 cc0_scratch9 cc0_scratch10 cc0_scratch11 cc0_scoped0 cc0_scoped1 cc0_scoped2) Q := by
  rw [k0_part49_eq_skeleton]; unfold k0_part49_skel
  refine step_bind d L (h10 _ fun v1 => ?_)
  repeat (first
    | (with_reducible refine step_check d L ?_ ?_
       · decide +kernel)
    | (with_reducible refine step_gather d L ?_)
    | (with_reducible refine step_scatter d L ?_ ?_ ?_
       · decide +kernel
       · decide +kernel)
    | (with_reducible refine step_pure d L ?_
       dsimp -zeta only)
    | (with_reducible refine step_bind d L ?_
       first
         | (rw [k0_part11_eq_skeleton]; unfold k0_part11_skel)
         | (rw [k0_part12_eq_skeleton]; unfold k0_part12_skel)
         | (rw [k0_part13_eq_skeleton]; unfold k0_part13_skel)
         | (rw [k0_part14_eq_skeleton]; unfold k0_part14_skel)
         | (rw [k0_part15_eq_skeleton]; unfold k0_part15_skel)
         | (rw [k0_part16_eq_skeleton]; unfold k0_part16_skel)
         | (rw [k0_part17_eq_skeleton]; unfold k0_part17_skel)
         | (rw [k0_part18_eq_skeleton]; unfold k0_part18_skel)
         | (rw [k0_part19_eq_skeleton]; unfold k0_part19_skel)
         | (rw [k0_part20_eq_skeleton]; unfold k0_part20_skel)
         | (rw [k0_part21_eq_skeleton]; unfold k0_part21_skel)
         | (rw [k0_part22_eq_skeleton]; unfold k0_part22_skel)
         | (rw [k0_part23_eq_skeleton]; unfold k0_part23_skel)
         | (rw [k0_part24_eq_skeleton]; unfold k0_part24_skel)
         | (rw [k0_part25_eq_skeleton]; unfold k0_part25_skel)
         | (rw [k0_part26_eq_skeleton]; unfold k0_part26_skel)
         | (rw [k0_part27_eq_skeleton]; unfold k0_part27_skel)
         | (rw [k0_part28_eq_skeleton]; unfold k0_part28_skel)
         | (rw [k0_part29_eq_skeleton]; unfold k0_part29_skel)
         | (rw [k0_part30_eq_skeleton]; unfold k0_part30_skel)
         | (rw [k0_part31_eq_skeleton]; unfold k0_part31_skel)
         | (rw [k0_part32_eq_skeleton]; unfold k0_part32_skel)
         | (rw [k0_part33_eq_skeleton]; unfold k0_part33_skel)
         | (rw [k0_part34_eq_skeleton]; unfold k0_part34_skel)
         | (rw [k0_part35_eq_skeleton]; unfold k0_part35_skel)
         | (rw [k0_part36_eq_skeleton]; unfold k0_part36_skel)
         | (rw [k0_part37_eq_skeleton]; unfold k0_part37_skel)
         | (rw [k0_part38_eq_skeleton]; unfold k0_part38_skel)
         | (rw [k0_part39_eq_skeleton]; unfold k0_part39_skel)
         | (rw [k0_part40_eq_skeleton]; unfold k0_part40_skel)
         | (rw [k0_part41_eq_skeleton]; unfold k0_part41_skel)
         | (rw [k0_part42_eq_skeleton]; unfold k0_part42_skel)
         | (rw [k0_part43_eq_skeleton]; unfold k0_part43_skel)
         | (rw [k0_part44_eq_skeleton]; unfold k0_part44_skel)
         | (rw [k0_part45_eq_skeleton]; unfold k0_part45_skel)
         | (rw [k0_part46_eq_skeleton]; unfold k0_part46_skel)
         | (rw [k0_part47_eq_skeleton]; unfold k0_part47_skel)
         | (rw [k0_part48_eq_skeleton]; unfold k0_part48_skel)))
  exact hr _ _ _ _

end Cert.Proof.Run

end
-- ==== Proof.Panel.lean ====
/-
  A panel of the output made from sixteen columns at a time: the three loops of the program, each over its own buffers.
-/
module

public import proofs.«01_k».proof.Proof.Lut

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) [FloatOps F]

local notation "WP" => wp (M := MT nD τ sig (HIx 1) (Elt F) ℕ UU ℕ) frame (wpE (defs₀ (F := F)) 𝒱₀ (thr d L) none) Set.univ

section Steps

variable {α : Type}
variable {Q : α → sProp (MT nD τ sig (HIx 1) (Elt F) ℕ UU ℕ)}
variable {Γ R : sProp (MT nD τ sig (HIx 1) (Elt F) ℕ UU ℕ)}
variable {n R₀ C : ℕ} {mx : Memref sig .scVector .vmem ⟨1, ![n]⟩ .i32} {mp : Memref sig .scVector .vmem ⟨2, ![R₀, C]⟩ .f32}
variable {tf : Vec F S200 .f32} {X : IVec S1000000 32} {o q j : ℕ} {f₀ : Vec F ⟨2, ![R₀, C]⟩ .f32}

/-- The state of a panel: the lookup table, the words of the panel's columns, the panel so far, and what else is held. -/
def panAt (mx : Memref sig .scVector .vmem ⟨1, ![n]⟩ .i32) (mp : Memref sig .scVector .vmem ⟨2, ![R₀, C]⟩ .f32) (tf : Vec F S200 .f32)
    (X : IVec S1000000 32) (o : ℕ) (f₀ : Vec F ⟨2, ![R₀, C]⟩ .f32) (q j : ℕ) (R : sProp 𝕄) : sProp 𝕄 :=
  iprop(has d L bL fullShare (lutFull tf) ∗ has d L mx fullShare (wordsF (n := n) X o) ∗ has d L mp fullShare (panF tf X o f₀ q j) ∗ R)

/-- The lanes of an index vector of the program: the words' values and a constant. -/
theorem lane_toNat (hX : ∀ n, (wordAt X n).toNat < 128) {ix : IVec S16 32} {c : BitVec 32} (hc : c.toNat ≤ 2432) {b : ℕ}
    (e : ∀ l : Fin 16, ix (lane l) = wordAt X (b + l.val) + c) (l : Fin 16) :
    (ix (lane l)).toNat = (wordAt X (b + l.val)).toNat + c.toNat := by
  have h := hX (b + l.val)
  rw [e, BitVec.toNat_add]
  exact Nat.mod_eq_of_lt (by omega)

/-- Such lanes are within the lookup table. -/
theorem lane_lt (hX : ∀ n, (wordAt X n).toNat < 128) {ix : IVec S16 32} {c : BitVec 32} (hc : c.toNat ≤ 2432) {b : ℕ}
    (e : ∀ l : Fin 16, ix (lane l) = wordAt X (b + l.val) + c) :
    ∀ a x, ((![ix] : Fin 1 → IVec S16 32) a x).toNat < S2560.size a := by
  intro a x
  obtain rfl : a = 0 := Subsingleton.elim _ _
  obtain ⟨l, rfl⟩ : ∃ l : Fin 16, x = lane l := ⟨x 0, Shape.idx1_ext rfl⟩
  have h := hX (b + l.val)
  show (ix (lane l)).toNat < 2560
  rw [lane_toNat hX hc e]
  omega

theorem step_words {off : Fin 1 → ℕ} (hoff : off = ![16 * q])
    {inb : ∀ a, off a + S16.size a ≤ (⟨1, ![n]⟩ : Shape).size a} {hl : mx.view.LoadsAt (Rect.unit (s := ⟨1, ![n]⟩) off S16.size inb).toLoadRect}
    {k : IVec S16 32 → Prog (TpuEff nD τ sig (Elt F) Λ₀ (thr d L).2) α}
    (hk : panAt d L mx mp tf X o f₀ q j R ⊢ WP (k (wordsF (n := 16) X (o + 16 * q))) Q) :
    panAt d L mx mp tf X o f₀ q j R ⊢ WP (Prog.lift (TpuEff.load mx (Rect.unit (s := ⟨1, ![n]⟩) off S16.size inb).toLoadRect hl) >>= k) Q := by
  refine Entails.trans (Q := iprop(has d L bL fullShare (lutFull tf) ∗ has d L mx fullShare (wordsF (n := n) X o)
    ∗ has d L mp fullShare (panF tf X o f₀ q j) ∗ R)) .rfl ?_
  iintro ⟨Hl, Hx, Hr⟩
  iapply (wp_words d L (m := mx) (X := X) (o := o) (q := q) hoff (inb := inb) (hl := hl) (k := k)) $$ Hx
  iintro Hx
  iapply hk
  unfold panAt
  isplitl [Hl]; · iexact Hl
  isplitl [Hx]; · iexact Hx
  iexact Hr

theorem step_look {ix : IVec S16 32} {h : ∀ a x, ((![ix] : Fin 1 → IVec S16 32) a x).toNat < S2560.size a} {hl : bL.view.Loads}
    {k : Vec F S16 .f32 → Prog (TpuEff nD τ sig (Elt F) Λ₀ (thr d L).2) α}
    (hk : panAt d L mx mp tf X o f₀ q j R ⊢ WP (k (loadIdx (F := F) (s := S2560) (t := S16) (lutFull tf) ![ix] h)) Q) :
    panAt d L mx mp tf X o f₀ q j R ⊢ WP (SparseCore.vectorLoadIdx bL ![ix] h hl >>= k) Q := by
  refine Entails.trans (Q := iprop(has d L bL fullShare (lutFull tf) ∗ (has d L mx fullShare (wordsF (n := n) X o)
    ∗ has d L mp fullShare (panF tf X o f₀ q j) ∗ R))) .rfl ?_
  iintro ⟨Hl, Hr⟩
  iapply (wp_gather d L (m := bL) (idxs := ![ix]) (h := h) (hl := hl) (k := k) (q := fullShare) (g := lutFull tf)) $$ Hl
  iintro Hl
  iapply hk
  unfold panAt
  isplitl [Hl]; · iexact Hl
  iexact Hr

/-- The same at the end of a part. -/
theorem step_look_last {Q : Vec F S16 .f32 → sProp (MT nD τ sig (HIx 1) (Elt F) ℕ UU ℕ)} {ix : IVec S16 32}
    {h : ∀ a x, ((![ix] : Fin 1 → IVec S16 32) a x).toNat < S2560.size a} {hl : bL.view.Loads}
    (hk : panAt d L mx mp tf X o f₀ q j R ⊢ Q (loadIdx (F := F) (s := S2560) (t := S16) (lutFull tf) ![ix] h)) :
    panAt d L mx mp tf X o f₀ q j R ⊢ WP (SparseCore.vectorLoadIdx bL ![ix] h hl) Q := by
  have e := step_look d L (mx := mx) (mp := mp) (tf := tf) (X := X) (o := o) (f₀ := f₀) (q := q) (j := j) (R := R) (Q := Q) (h := h) (hl := hl)
    (k := fun v => pure v) (step_pure d L hk)
  rwa [bind_pure] at e

theorem step_row (hX : ∀ n, (wordAt X n).toNat < 128) (hj : j < 20) {off off' : Fin 2 → ℕ} (hoff : off = ![j, 16 * q])
    {inb : ∀ a, off a + S1x16.size a ≤ (⟨2, ![R₀, C]⟩ : Shape).size a} {inb' : ∀ a, off' a + S1x16.size a ≤ (⟨2, ![R₀, C]⟩ : Shape).size a}
    {hl : mp.view.LoadsAt (Rect.unit (s := ⟨2, ![R₀, C]⟩) off' S1x16.size inb').toLoadRect}
    {hx : (mp.access (Rect.unit (s := ⟨2, ![R₀, C]⟩) off S1x16.size inb)).Stores Finset.univ}
    {hm : (Finset.univ : Finset (Rect.unit (s := ⟨2, ![R₀, C]⟩) off S1x16.size inb).shape.Idx) = Finset.univ ∨ _}
    {ix : IVec S16 32} {h : ∀ a x, ((![ix] : Fin 1 → IVec S16 32) a x).toNat < S2560.size a}
    (e : ∀ l : Fin 16, ix (lane l) = wordAt X (o + 16 * q + l.val) + BitVec.ofNat 32 (128 * j))
    {k : PUnit → Prog (TpuEff nD τ sig (Elt F) Λ₀ (thr d L).2) α}
    (hk : panAt d L mx mp tf X o f₀ q (j + 1) R ⊢ WP (k ⟨⟩) Q) :
    panAt d L mx mp tf X o f₀ q j R
      ⊢ WP (Prog.lift (TpuEff.load mp (Rect.unit (s := ⟨2, ![R₀, C]⟩) off' S1x16.size inb').toLoadRect hl) >>= fun _ : Vec F S1x16 .f32 =>
            Prog.lift (TpuEff.store mp (Rect.unit (s := ⟨2, ![R₀, C]⟩) off S1x16.size inb)
              (shapeCast S1x16 (loadIdx (F := F) (s := S2560) (t := S16) (lutFull tf) ![ix] h) shapeCasts_S16_S1x16) Finset.univ hx hm) >>= k) Q := by
  have hc : (BitVec.ofNat 32 (128 * j)).toNat = 128 * j := by
    rw [BitVec.toNat_ofNat]; exact Nat.mod_eq_of_lt (by omega)
  have hix : ∀ l : Fin 16, (ix (lane l)).toNat = (wordAt X (o + 16 * q + l.val)).toNat + 128 * j := fun l =>
    (lane_toNat hX (by omega) e l).trans (by rw [hc])
  unfold panAt
  iintro ⟨Hl, Hx, Hp, HR⟩
  iapply (wp_row d L (m := mp) j hj hoff (inb := inb) (inb' := inb') (hl := hl) (hx := hx) (hm := hm) (h := h) hix (k := k)) $$ Hp
  iintro Hp
  iapply hk
  unfold panAt
  isplitl [Hl]; · iexact Hl
  isplitl [Hx]; · iexact Hx
  isplitl [Hp]; · iexact Hp
  iexact HR

/-- A loop over a panel, from what a trip of it does. -/
theorem pan_loop {l : Scf.Loop 32} {ok : l.OK} {body : Fin l.trips → PUnit → Prog (TpuEff nD τ sig (Elt F) Λ₀ (thr d L).2) PUnit}
    (hb : ∀ t a, panAt d L mx mp tf X o f₀ t.val 0 R ⊢ WP (body t a) fun _ => panAt d L mx mp tf X o f₀ t.val 20 R)
    {k : PUnit → Prog (TpuEff nD τ sig (Elt F) Λ₀ (thr d L).2) α}
    (hk : panAt d L mx mp tf X o f₀ l.trips 0 R ⊢ WP (k ⟨⟩) Q) :
    panAt d L mx mp tf X o f₀ 0 0 R ⊢ WP (Scf.Loop.for l ok ⟨⟩ body >>= k) Q := by
  iintro H
  iapply (Scf.wp_for_bind frame (wpE (defs₀ (F := F)) 𝒱₀ (thr d L) none) Set.univ l.lb l.ub l.st ok PUnit.unit body
    (fun t _ => panAt d L mx mp tf X o f₀ t 0 R) ?_) $$ H
  · intro t a
    refine (hb t a).trans (wp_mono _ _ _ fun _ => ?_)
    show panAt d L mx mp tf X o f₀ t.val 20 R ⊢ panAt d L mx mp tf X o f₀ (t.val + 1) 0 R
    unfold panAt
    rw [panF_next]
  · iintro %a H
    iapply hk $$ H

end Steps

variable {R : sProp (MT nD τ sig (HIx 1) (Elt F) ℕ UU ℕ)}
variable {tf : Vec F S200 .f32} {X : IVec S1000000 32} {o : ℕ}

set_option maxHeartbeats 4000000 in
set_option maxRecDepth 100000 in
/-- A trip of the first panel buffer's loop. -/
theorem pan0_trip (hX : ∀ n, (wordAt X n).toNat < 128) {f₀ : Vec F S24x1024 .f32} (v1 : BitVec 32) (u1 u2 u3 : IVec S16 32) (t1 : Fin k0_t1_loop.trips)
    (h1 : k0_cond1 L t1 = 1#1) (t : Fin k0_t2_loop.trips) (a : PUnit) :
    panAt d L bX0 bP0 tf X o f₀ t.val 0 R ⊢ WP (panBody0 (F := F) L v1 u1 u2 u3 t1 h1 t a) fun _ => panAt d L bX0 bP0 tf X o f₀ t.val 20 R := by
  unfold panBody0 k0_t2_body
  repeat (first
    | (with_reducible refine step_check d L ?_ ?_
       · exact fun _ => lane_lt hX (by decide) (fun _ => rfl))
    | (with_reducible refine step_words d L ?_ ?_
       · revert t; decide +kernel)
    | (with_reducible refine step_look d L ?_)
    | (with_reducible refine step_look_last d L ?_
       dsimp -zeta only)
    | (with_reducible refine step_row d L hX ?_ ?_ ?_ ?_
       · decide
       · revert t; decide +kernel
       · exact fun _ => rfl)
    | (with_reducible refine step_pure d L ?_
       dsimp -zeta only)
    | (with_reducible refine step_bind d L ?_
       first
        | (rw [k0_part1_eq_skeleton]; unfold k0_part1_skel)
        | (rw [k0_part2_eq_skeleton]; unfold k0_part2_skel)
        | (rw [k0_part3_eq_skeleton]; unfold k0_part3_skel)))
  exact step_pure d L .rfl

set_option maxHeartbeats 4000000 in
set_option maxRecDepth 100000 in
/-- A trip of the second panel buffer's loop. -/
theorem pan1_trip (hX : ∀ n, (wordAt X n).toNat < 128) {f₀ : Vec F S24x1024 .f32} (v1 : BitVec 32) (u1 u2 u3 : IVec S16 32) (t1 : Fin k0_t1_loop.trips)
    (h1 : k0_cond4 L t1 = 1#1) (t : Fin k0_t3_loop.trips) (a : PUnit) :
    panAt d L bX1 bP1 tf X o f₀ t.val 0 R ⊢ WP (panBody1 (F := F) L v1 u1 u2 u3 t1 h1 t a) fun _ => panAt d L bX1 bP1 tf X o f₀ t.val 20 R := by
  unfold panBody1 k0_t3_body
  repeat (first
    | (with_reducible refine step_check d L ?_ ?_
       · exact fun _ => lane_lt hX (by decide) (fun _ => rfl))
    | (with_reducible refine step_words d L ?_ ?_
       · revert t; decide +kernel)
    | (with_reducible refine step_look d L ?_)
    | (with_reducible refine step_look_last d L ?_
       dsimp -zeta only)
    | (with_reducible refine step_row d L hX ?_ ?_ ?_ ?_
       · decide
       · revert t; decide +kernel
       · exact fun _ => rfl)
    | (with_reducible refine step_pure d L ?_
       dsimp -zeta only)
    | (with_reducible refine step_bind d L ?_
       first
        | (rw [k0_part4_eq_skeleton]; unfold k0_part4_skel)
        | (rw [k0_part5_eq_skeleton]; unfold k0_part5_skel)
        | (rw [k0_part6_eq_skeleton]; unfold k0_part6_skel)))
  exact step_pure d L .rfl

set_option maxHeartbeats 4000000 in
set_option maxRecDepth 100000 in
/-- A trip of the last panel's loop. -/
theorem panT_trip (hX : ∀ n, (wordAt X n).toNat < 128) {f₀ : Vec F S20x576 .f32} (h1 : k0_cond7 L = 1#1) (t : Fin k0_t4_loop.trips) (a : PUnit) :
    panAt d L bXt bPt tf X o f₀ t.val 0 R ⊢ WP (panBodyT (F := F) L h1 t a) fun _ => panAt d L bXt bPt tf X o f₀ t.val 20 R := by
  unfold panBodyT k0_t4_body
  repeat (first
    | (with_reducible refine step_check d L ?_ ?_
       · exact fun _ => lane_lt hX (by decide) (fun _ => rfl))
    | (with_reducible refine step_words d L ?_ ?_
       · revert t; decide +kernel)
    | (with_reducible refine step_look d L ?_)
    | (with_reducible refine step_look_last d L ?_
       dsimp -zeta only)
    | (with_reducible refine step_row d L hX ?_ ?_ ?_ ?_
       · decide
       · revert t; decide +kernel
       · exact fun _ => rfl)
    | (with_reducible refine step_pure d L ?_
       dsimp -zeta only)
    | (with_reducible refine step_bind d L ?_
       first
        | (rw [k0_part7_eq_skeleton]; unfold k0_part7_skel)
        | (rw [k0_part8_eq_skeleton]; unfold k0_part8_skel)
        | (rw [k0_part9_eq_skeleton]; unfold k0_part9_skel)))
  exact step_pure d L .rfl

end Cert.Proof.Run

end
-- ==== Proof.Copies.lean ====
/-
  The tile's copies as the loop over its chunks uses them — words of `x` in, a panel out — and the parts of the output
  that a tile owns, chunk by chunk.
-/
module

public import proofs.«01_k».proof.Proof.Panel

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) [FloatOps F]

local notation "WP" => wp (M := MT nD τ sig (HIx 1) (Elt F) ℕ UU ℕ) frame (wpE (defs₀ (F := F)) 𝒱₀ (thr d L) none) Set.univ

/-! ## The tile's parts of the output -/

/-- The columns `o … o + n - 1` of the output. -/
def colS (o n : ℕ) : Finset S20x1000000.Idx := Finset.univ.filter fun i => o ≤ (i 1).val ∧ (i 1).val < o + n

/-- The columns of tile `w`'s chunks from chunk `n` on, and those before. -/
def todoS (w n : ℕ) : Finset S20x1000000.Idx :=
  Finset.univ.filter fun i => (i 1).val < 999424 ∧ (i 1).val / 1024 % 32 = w ∧ n ≤ (i 1).val / 1024 / 32
def doneS (w n : ℕ) : Finset S20x1000000.Idx :=
  Finset.univ.filter fun i => (i 1).val < 999424 ∧ (i 1).val / 1024 % 32 = w ∧ (i 1).val / 1024 / 32 < n

/-- The number of tile `w`'s chunks, and where its chunk `n` begins. -/
abbrev nch (w : ℕ) : ℕ := if w < 16 then 31 else 30
abbrev beg (w n : ℕ) : ℕ := 1024 * (w + 32 * n)

theorem chunk_sub_todo {w n : ℕ} (hw : w < 32) (hn : n < nch w) : colS (beg w n) 1024 ⊆ todoS w n := by
  intro i hi
  simp only [colS, todoS, beg, Finset.mem_filter, Finset.mem_univ, _root_.true_and] at hi ⊢
  unfold nch at hn
  split at hn <;> omega

theorem todo_sdiff {w n : ℕ} (hw : w < 32) : todoS w n \ colS (beg w n) 1024 = todoS w (n + 1) := by
  ext i
  simp only [colS, todoS, beg, Finset.mem_sdiff, Finset.mem_filter, Finset.mem_univ, _root_.true_and]
  omega

theorem chunk_sub_done {w n : ℕ} (hw : w < 32) (hn : n < nch w) : colS (beg w n) 1024 ⊆ doneS w (n + 1) := by
  intro i hi
  simp only [colS, doneS, beg, Finset.mem_filter, Finset.mem_univ, _root_.true_and] at hi ⊢
  unfold nch at hn
  split at hn <;> omega

theorem done_sdiff {w n : ℕ} (hw : w < 32) : doneS w (n + 1) \ colS (beg w n) 1024 = doneS w n := by
  ext i
  simp only [colS, doneS, beg, Finset.mem_sdiff, Finset.mem_filter, Finset.mem_univ, _root_.true_and]
  omega

/-- The columns `o … o + n - 1` of the finished output, as a panel. -/
def colsF {n : ℕ} (tf : Vec F S200 .f32) (X : IVec S1000000 32) (o : ℕ) : Vec F ⟨2, ![20, n]⟩ .f32 := fun x =>
  lutV tf ((wordAt X (o + (x 1).val)).toNat + 128 * (x 0).val)

variable {α : Type}
variable {Q : α → sProp (MT nD τ sig (HIx 1) (Elt F) ℕ UU ℕ)}
variable {tf : Vec F S200 .f32} {X : IVec S1000000 32}

/-- Elements of the output held in full. -/
abbrev oP (Sd : Finset S20x1000000.Idx) (f : Vec F S20x1000000 .f32) : sProp 𝕄 := oV.view.loc (thr d L) ↦[Sd]{fullShare} f
/-- `x` held at a share. -/
abbrev xP (q : PosShare TreeShare) (X : IVec S1000000 32) : sProp 𝕄 := xV.view.loc (thr d L) ↦{q} X

/-- What the tile owes, and that it may wait. -/
def mayOwe (O : CellTallies nD τ sig (HIx 1)) (W : Waits sig (HIx 1)) : sProp 𝕄 :=
  iprop(owed d L O W ∗ Transfers.MayWaits (thr d L) (default : HIx 1) O)

variable {O : CellTallies nD τ sig (HIx 1)} {W : Waits sig (HIx 1)}

section
variable {sp sp' : Space} {s s' : Shape} {e e' : EltTy}

theorem wp_wait {sem : DmaSem sig} {srcw : Memref sig .scVector sp s e} {dstw : Memref sig .scVector sp' s' e'} {hsrc : srcw.view.WordExact}
    {hdst : dstw.view.WordExact} {k : PUnit → Prog (TpuEff nD τ sig (Elt F) Λ₀ (thr d L).2) α} (N : ℕ) (hN : dstw.view.dmaCredit = N)
    {R : sProp 𝕄} :
    iprop(pend d L (.dma sem) N R ∗ mayOwe d L O W)
      ⊢ iprop((iprop(R ∗ semVal (thr d L, .dma sem) 0 ∗ mayOwe d L O W) -∗ WP (k ⟨⟩) Q)
        -∗ WP (Prog.lift (TpuEff.waitDma2 sem srcw dstw hsrc hdst) >>= k) Q) := by
  unfold mayOwe
  iintro ⟨Hp, HO, #Hm⟩ Hk
  iapply (wp_end d L (sem := sem) (srcw := srcw) (dstw := dstw) (hsrc := hsrc) (hdst := hdst) (k := k) N hN (R := R) (O := O) (W := W)) $$ [Hp HO]
  · isplitl [Hp]; · iexact Hp
    isplitl [HO]; · iexact HO
    iexact Hm
  iintro ⟨HR, Hv, HO⟩
  iapply Hk
  isplitl [HR]; · iexact HR
  isplitl [Hv]; · iexact Hv
  isplitl [HO]; · iexact HO
  iexact Hm
end

/-- Words of `x` fetched into a buffer. -/
theorem wp_fetch {n : ℕ} {mx : Memref sig .scVector .vmem ⟨1, ![n]⟩ .i32} {sm : SemLoc sig} {off : Fin 1 → ℕ} {o : ℕ} (hoff : off = ![o])
    {inb : ∀ a, off a + (⟨1, ![n]⟩ : Shape).size a ≤ S1000000.size a} {hpf}
    {hsrc : (xV.slice (Rect.unit (s := S1000000) off (⟨1, ![n]⟩ : Shape).size inb) hpf).view.WordExact} {hdst : mx.view.WordExact}
    {hsem : DmaTarget.Typed (nD := nD) (τ := τ) (p := (thr d L).2) Space.hbm sm (.here mx)}
    {k : PUnit → Prog (TpuEff nD τ sig (Elt F) Λ₀ (thr d L).2) α} {q : PosShare TreeShare} (N : ℕ) (hN : mx.view.amount sm = N) (hn : 0 < n) :
    iprop(xP d L q X ∗ (∃ f, mx.view.loc (thr d L) ↦{fullShare} f) ∗ semVal (thr d L, sm) 0)
      ⊢ iprop((pend d L sm N iprop(xP d L q X ∗ has d L mx fullShare (wordsF (n := n) X o)) -∗ WP (k ⟨⟩) Q) -∗ WP (Prog.lift (TpuEff.enqueueDma (xV.slice (Rect.unit (s := S1000000) off (⟨1, ![n]⟩ : Shape).size inb) hpf) (.here mx) sm hsrc hdst hsem) >>= k) Q) := by
  subst hoff
  iintro ⟨Hx, ⟨%f, Hm⟩, Hv⟩ Hk
  iapply (wp_begin d L (src := xV.slice (Rect.unit (s := S1000000) ![o] (⟨1, ![n]⟩ : Shape).size inb) hpf) (dst := mx) (sm := sm) (hsrc := hsrc) (hdst := hdst)
    (hsem := hsem) (k := k) (q := q) (fs := X) (Sd := Finset.univ) (fd := f) N hN (by simpa [Shape.numel] using hn) (Finset.subset_univ _)
    (R := iprop(xP d L q X ∗ has d L mx fullShare (wordsF (n := n) X o))) ?_) $$ [Hx Hm Hv]
  · iintro ⟨Hs, Hd⟩
    isplitl [Hs]; · iexact Hs
    unfold has
    iexists _
    isplitr [Hd]
    rotate_left
    · iexact Hd
    · ipureintro
      rw [View.read_write_univ]
      funext x
      show X _ = wordAt X (o + (x 0).val)
      rw [wordAt_of X]
      congr 1
      show o + 1 * (x 0).val = _
      omega
  · isplitl [Hx]; · iexact Hx
    isplitl [Hm]; · iexact Hm
    iexact Hv
  · iexact Hk

/-- A panel copied out to its columns. -/
theorem wp_out {n : ℕ} {ms : Memref sig .scVector .vmem ⟨2, ![20, n]⟩ .f32} {sm : SemLoc sig} {off : Fin 2 → ℕ} {o : ℕ} (hoff : off = ![0, o])
    {inb : ∀ a, off a + (⟨2, ![20, n]⟩ : Shape).size a ≤ S20x1000000.size a} {hpf} {hsrc : ms.view.WordExact}
    {hdst : (oV.slice (Rect.unit (s := S20x1000000) off (⟨2, ![20, n]⟩ : Shape).size inb) hpf).view.WordExact}
    {hsem : DmaTarget.Typed (nD := nD) (τ := τ) (p := (thr d L).2) Space.vmem sm
      (.here (oV.slice (Rect.unit (s := S20x1000000) off (⟨2, ![20, n]⟩ : Shape).size inb) hpf))}
    {k : PUnit → Prog (TpuEff nD τ sig (Elt F) Λ₀ (thr d L).2) α} {fo : Vec F S20x1000000 .f32} (N : ℕ)
    (hN : (oV.slice (Rect.unit (s := S20x1000000) off (⟨2, ![20, n]⟩ : Shape).size inb) hpf).view.amount sm = N) (hn : 0 < n)
    {R : sProp 𝕄} (hR : iprop(∃ g, has d L ms fullShare g) ⊢ R) :
    iprop(has d L ms fullShare (colsF (n := n) tf X o) ∗ oP d L (colS o n) fo ∗ semVal (thr d L, sm) 0)
      ⊢ iprop((pend d L sm N iprop(R ∗ oP d L (colS o n) (outF tf X)) -∗ WP (k ⟨⟩) Q) -∗ WP (Prog.lift (TpuEff.enqueueDma ms (.here (oV.slice (Rect.unit (s := S20x1000000) off (⟨2, ![20, n]⟩ : Shape).size inb) hpf)) sm hsrc hdst hsem) >>= k) Q) := by
  subst hoff
  have hset : (oV.slice (Rect.unit (s := S20x1000000) ![0, o] (⟨2, ![20, n]⟩ : Shape).size inb) hpf).view.set ⊆ colS o n := by
    intro i hi
    obtain ⟨x, -, rfl⟩ := Finset.mem_map.mp hi
    have h1 : (x 1).val < n := (x 1).isLt
    simp only [colS, Finset.mem_filter, Finset.mem_univ, _root_.true_and]
    constructor
    · show o ≤ o + 1 * (x 1).val; omega
    · show o + 1 * (x 1).val < o + n; omega
  conv_lhs => unfold has
  iintro ⟨⟨%f, %hf, Hm⟩, Ho, Hv⟩ Hk
  iapply (wp_begin d L (src := ms) (dst := oV.slice (Rect.unit (s := S20x1000000) ![0, o] (⟨2, ![20, n]⟩ : Shape).size inb) hpf) (sm := sm) (hsrc := hsrc)
    (hdst := hdst) (hsem := hsem) (k := k) (q := fullShare) (fs := f) (Sd := colS o n) (fd := fo) N hN (by simpa [Shape.numel] using hn) hset
    (R := iprop(R ∗ oP d L (colS o n) (outF tf X))) ?_) $$ [Hm Ho Hv]
  · iintro ⟨Hs, Hd⟩
    isplitl [Hs]
    · iapply hR
      unfold has
      iexists ms.view.read (Elt F) f, f
      isplitr [Hs]
      · ipureintro; rfl
      · iexact Hs
    · rw [hf]
      iapply (Entails.of_eq (pointsTo_congr ?_)) $$ Hd
      intro i hi
      simp only [colS, Finset.mem_filter, Finset.mem_univ, _root_.true_and] at hi
      have h0 : (i 0).val < 20 := (i 0).isLt
      let x : (⟨2, ![20, n]⟩ : Shape).Idx := fun a => match a with
        | 0 => (⟨(i 0).val, h0⟩ : Fin 20)
        | 1 => (⟨(i 1).val - o, by omega⟩ : Fin n)
      have hx : (oV.slice (Rect.unit (s := S20x1000000) ![0, o] (⟨2, ![20, n]⟩ : Shape).size inb) hpf).view.emb x = i := by
        funext a
        refine Fin.ext ?_
        match a with
        | 0 => show 0 + 1 * (i 0).val = (i 0).val; omega
        | 1 => show o + 1 * ((i 1).val - o) = (i 1).val; omega
      have e := View.write_emb_of_mem (Val := Elt F) (v := (oV.slice (Rect.unit (s := S20x1000000) ![0, o] (⟨2, ![20, n]⟩ : Shape).size inb) hpf).view)
        fo (colsF (n := n) tf X o) (Finset.mem_univ x)
      rw [hx] at e
      refine e.trans ?_
      show lutV tf ((wordAt X (o + ((i 1).val - o))).toNat + 128 * (i 0).val) = lutV tf ((wordAt X (i 1).val).toNat + 128 * (i 0).val)
      rw [Nat.add_sub_cancel' hi.1]
  · isplitl [Hm]; · iexact Hm
    isplitl [Ho]; · iexact Ho
    iexact Hv
  · iexact Hk

end Cert.Proof.Run

end
-- ==== Proof.Ring.lean ====
/-
  The loop over a tile's chunks: the two sides take turns, each with its buffer of words, its panel and its semaphores.
-/
module

public import proofs.«01_k».proof.Proof.Copies

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) [FloatOps F]

local notation "WP" => wp (M := MT nD τ sig (HIx 1) (Elt F) ℕ UU ℕ) frame (wpE (defs₀ (F := F)) 𝒱₀ (thr d L) none) Set.univ

/-- A side of the loop: a buffer of words and the semaphore of the copies into it, a panel and the semaphore of the copies
    out of it, and the share of `x` its copies read. -/
structure Side where
  mx : Memref sig .scVector .vmem S1024 .i32
  mp : Memref sig .scVector .vmem S24x1024 .f32
  xs : DmaSem sig
  os : DmaSem sig
  sh : PosShare TreeShare

/-- What a copy of a panel is worth to its wait. -/
abbrev NO : ℕ := (oV.slice (Rect.unit (s := S20x1000000) ![0, 0] S20x1024.size inb_S20x1000000_S20x1024_0_0) (fun _ => rfl)).view.dmaCredit

section Half

variable {α : Type}
variable {Q : α → sProp (MT nD τ sig (HIx 1) (Elt F) ℕ UU ℕ)}
variable {tf : Vec F S200 .f32} {X : IVec S1000000 32} {fo : Vec F S20x1000000 .f32}
variable {O : CellTallies nD τ sig (HIx 1)} {W : Waits sig (HIx 1)}

/-- A side with no copy of words under way; one with a copy of the words from `o` on, if `c`. -/
def xFree (A : Side) (X : IVec S1000000 32) : sProp 𝕄 :=
  iprop(xP d L A.sh X ∗ (∃ f, A.mx.view.loc (thr d L) ↦{fullShare} f) ∗ semVal (thr d L, .dma A.xs) 0)
def xSide (A : Side) (X : IVec S1000000 32) (c : Prop) [Decidable c] (o : ℕ) : sProp 𝕄 :=
  if c then pend d L (.dma A.xs) A.mx.view.dmaCredit iprop(xP d L A.sh X ∗ has d L A.mx fullShare (wordsF (n := 1024) X o)) else xFree d L A X

/-- A side's panel at any contents; a side with a copy of a panel to the columns from `o` on under way, if `c`. -/
def pBuf (A : Side) : sProp 𝕄 := iprop(∃ g, has d L A.mp fullShare g)
def oSide (A : Side) (tf : Vec F S200 .f32) (X : IVec S1000000 32) (c : Prop) [Decidable c] (o : ℕ) : sProp 𝕄 :=
  if c then pend d L (.dma A.os) NO iprop(pBuf d L A ∗ oP d L (colS o 1024) (outF tf X)) else iprop(pBuf d L A ∗ semVal (thr d L, .dma A.os) 0)

/-- The next words fetched, if there are any. -/
theorem wp_ite_fetch {A : Side} {c : BitVec 1} {P : Prop} [Decidable P] (hc : c = 1#1 ↔ P) {off : Fin 1 → ℕ} {o : ℕ} (hoff : P → off = ![o])
    {inb : c = 1#1 → ∀ a, off a + S1024.size a ≤ S1000000.size a} {hpf : ∀ h : c = 1#1, ∀ a, (Rect.unit (s := S1000000) off S1024.size (inb h)).stride a = 1}
    {hsrc : ∀ h : c = 1#1, (xV.slice (Rect.unit (s := S1000000) off S1024.size (inb h)) (hpf h)).view.WordExact} {hdst : c = 1#1 → A.mx.view.WordExact}
    {hsem : c = 1#1 → DmaTarget.Typed (nD := nD) (τ := τ) (p := (thr d L).2) Space.hbm (.dma A.xs) (.here A.mx)}
    {j : Prog (TpuEff nD τ sig (Elt F) Λ₀ (thr d L).2) α} :
    xFree d L A X ⊢ iprop((xSide d L A X P o -∗ WP (j) Q) -∗ WP (if h : c = 1#1 then
        (Prog.lift (TpuEff.enqueueDma (xV.slice (Rect.unit (s := S1000000) off S1024.size (inb h)) (hpf h)) (.here A.mx) (.dma A.xs) (hsrc h) (hdst h) (hsem h))
          >>= fun _ => j) else j) Q) := by
  unfold xSide
  by_cases h : c = 1#1
  · rw [dif_pos h, if_pos (hc.mp h)]
    unfold xFree
    exact wp_fetch d L (hoff (hc.mp h)) _ rfl (by decide) (k := fun _ => j)
  · rw [dif_neg h, if_neg fun p => h (hc.mpr p)]
    iintro H Hk
    iapply Hk $$ H

/-- The side's panel awaited, if it is under way. -/
theorem wp_ite_wait {A : Side} {c : BitVec 1} {P : Prop} [Decidable P] (hc : c = 1#1 ↔ P) {o : ℕ}
    {s3 : c = 1#1 → Memref sig .scVector .vmem S20x1024 .f32} {d3 : c = 1#1 → Memref sig .scVector .hbm S20x1024 .f32}
    {h3 : ∀ h : c = 1#1, (s3 h).view.WordExact} {h3' : ∀ h : c = 1#1, (d3 h).view.WordExact} (hN : ∀ h, (d3 h).view.dmaCredit = NO)
    {j : Prog (TpuEff nD τ sig (Elt F) Λ₀ (thr d L).2) α} :
    iprop(oSide d L A tf X P o ∗ mayOwe d L O W)
      ⊢ iprop((iprop(pBuf d L A ∗ semVal (thr d L, .dma A.os) 0 ∗ (if P then oP d L (colS o 1024) (outF tf X) else emp) ∗ mayOwe d L O W) -∗ WP (j) Q)
        -∗ WP (if h : c = 1#1 then (Prog.lift (TpuEff.waitDma2 A.os (s3 h) (d3 h) (h3 h) (h3' h)) >>= fun _ => j) else j) Q) := by
  unfold oSide
  by_cases h : c = 1#1
  · rw [dif_pos h, if_pos (hc.mp h), if_pos (hc.mp h)]
    iintro H Hk
    iapply (wp_wait d L (sem := A.os) NO (hN h) (hsrc := h3 h) (hdst := h3' h) (k := fun _ => j)
      (R := iprop(pBuf d L A ∗ oP d L (colS o 1024) (outF tf X))) (O := O) (W := W)) $$ H
    iintro ⟨⟨Hb, Ho⟩, Hv, HO⟩
    iapply Hk
    isplitl [Hb]; · iexact Hb
    isplitl [Hv]; · iexact Hv
    isplitl [Ho]; · iexact Ho
    iexact HO
  · rw [dif_neg h, if_neg fun p => h (hc.mpr p), if_neg fun p => h (hc.mpr p)]
    iintro ⟨⟨Hb, Hv⟩, HO⟩ Hk
    iapply Hk
    isplitl [Hb]; · iexact Hb
    isplitl [Hv]; · iexact Hv
    isplitr [HO]; · iempintro
    iexact HO

/-- The done part of the output takes in the chunk that has arrived. -/
theorem done_merge {w n : ℕ} (hw : w < 32) (hn : n < nch w) :
    iprop((if 2 ≤ n then oP d L (colS (beg w (n - 2)) 1024) (outF tf X) else emp) ∗ oP d L (doneS w (n - 2)) (outF tf X))
      ⊢ oP d L (doneS w (n + 1 - 2)) (outF tf X) := by
  by_cases h : 2 ≤ n
  · rw [if_pos h, show n + 1 - 2 = n - 2 + 1 by omega]
    refine BIBase.Entails.trans ?_ (pointsTo_split_subset (chunk_sub_done hw (show n - 2 < nch w by omega))).2
    rw [done_sdiff hw]
  · rw [if_neg h, show n + 1 - 2 = n - 2 by omega]
    iintro ⟨-, H⟩
    iexact H

/-- The panel of a chunk, done, as the columns of the output. -/
theorem panel_cols {mp : Memref sig .scVector .vmem S24x1024 .f32} {f₀ : Vec F S24x1024 .f32} {o : ℕ} {inb} {hpf} :
    has d L mp fullShare (panF tf X o f₀ 64 0)
      ⊢ has d L (mp.slice (Rect.unit (s := S24x1024) ![0, 0] S20x1024.size inb) hpf) fullShare (colsF (n := 1024) tf X o) := by
  unfold has
  iintro ⟨%f, %hf, H⟩
  iexists f
  isplitr [H]
  rotate_left
  · iexact H
  · ipureintro
    funext x
    have h0 : (x 0).val < 20 := (x 0).isLt
    have h1 : (x 1).val < 1024 := (x 1).isLt
    show mp.view.read (Elt F) f ((Rect.unit (s := S24x1024) ![0, 0] S20x1024.size inb).emb x) = _
    rw [hf]
    unfold panF colsF
    have e0 : (((Rect.unit (s := S24x1024) ![0, 0] S20x1024.size inb).emb x) 0).val = (x 0).val := by
      show 0 + 1 * (x 0).val = _; omega
    have e1 : (((Rect.unit (s := S24x1024) ![0, 0] S20x1024.size inb).emb x) 1).val = (x 1).val := by
      show 0 + 1 * (x 1).val = _; omega
    rw [e0, e1, if_pos (by omega)]

theorem panel_back {mp : Memref sig .scVector .vmem S24x1024 .f32} {inb} {hpf} :
    iprop(∃ g, has d L (mp.slice (Rect.unit (s := S24x1024) ![0, 0] S20x1024.size inb) hpf) fullShare g) ⊢ (iprop(∃ g, has d L mp fullShare g) : sProp 𝕄) := by
  unfold has
  iintro ⟨%g, %f, %hf, H⟩
  iexists mp.view.read (Elt F) f, f
  isplitr [H]
  · ipureintro; rfl
  · iexact H

/-- The state of the loop as side `A` takes chunk `n`, with what else is held. -/
def ringAt (A B : Side) (w : ℕ) (tf : Vec F S200 .f32) (X : IVec S1000000 32) (fo : Vec F S20x1000000 .f32)
    (O : CellTallies nD τ sig (HIx 1)) (W : Waits sig (HIx 1)) (R : sProp 𝕄) (n : ℕ) : sProp 𝕄 :=
  iprop(has d L bL fullShare (lutFull tf) ∗ xSide d L A X (n < nch w) (beg w n) ∗ xFree d L B X
    ∗ oSide d L A tf X (2 ≤ n) (beg w (n - 2)) ∗ oSide d L B tf X (1 ≤ n) (beg w (n - 1))
    ∗ oP d L (doneS w (n - 2)) (outF tf X) ∗ oP d L (todoS w n) fo ∗ mayOwe d L O W ∗ R)

/-- What a panel's loop does, for any continuation. -/
def PanLoop (A : Side) (tf : Vec F S200 .f32) (X : IVec S1000000 32) (p : Prog (TpuEff nD τ sig (Elt F) Λ₀ (thr d L).2) PUnit) : Prop :=
  ∀ (o : ℕ) (f₀ : Vec F S24x1024 .f32) (R : sProp 𝕄),
    panAt d L A.mx A.mp tf X o f₀ 0 0 R ⊢ WP p fun _ => panAt d L A.mx A.mp tf X o f₀ 64 0 R

/-- Half of a trip: a chunk by one side. -/
theorem half {A B : Side} {w n : ℕ} (hw : w < 32) (hn : n < nch w) {R : sProp 𝕄} {c2 c3 : BitVec 1} (h2 : c2 = 1#1 ↔ n + 1 < nch w) (h3 : c3 = 1#1 ↔ 2 ≤ n)
    {srcw : Memref sig .scVector .hbm S1024 .i32} {hs} {hd}
    {off2 : Fin 1 → ℕ} (hoff2 : n + 1 < nch w → off2 = ![beg w (n + 1)])
    {inb : c2 = 1#1 → ∀ a, off2 a + S1024.size a ≤ S1000000.size a} {hpf : ∀ h : c2 = 1#1, ∀ a, (Rect.unit (s := S1000000) off2 S1024.size (inb h)).stride a = 1}
    {hsrc : ∀ h : c2 = 1#1, (xV.slice (Rect.unit (s := S1000000) off2 S1024.size (inb h)) (hpf h)).view.WordExact} {hdst : c2 = 1#1 → B.mx.view.WordExact}
    {hsem : c2 = 1#1 → DmaTarget.Typed (nD := nD) (τ := τ) (p := (thr d L).2) Space.hbm (.dma B.xs) (.here B.mx)}
    {s3 : c3 = 1#1 → Memref sig .scVector .vmem S20x1024 .f32} {d3 : c3 = 1#1 → Memref sig .scVector .hbm S20x1024 .f32}
    {hs3 : ∀ h : c3 = 1#1, (s3 h).view.WordExact} {hd3 : ∀ h : c3 = 1#1, (d3 h).view.WordExact} (hN : ∀ h, (d3 h).view.dmaCredit = NO)
    {p : Prog (TpuEff nD τ sig (Elt F) Λ₀ (thr d L).2) PUnit} (hp : PanLoop d L A tf X p)
    {offo : Fin 2 → ℕ} (hoffo : offo = ![0, beg w n])
    {inbo : ∀ a, offo a + S20x1024.size a ≤ S20x1000000.size a} {hpfo} {inbp} {hpfp}
    {hsrco : (A.mp.slice (Rect.unit (s := S24x1024) ![0, 0] S20x1024.size inbp) hpfp).view.WordExact}
    {hdsto : (oV.slice (Rect.unit (s := S20x1000000) offo S20x1024.size inbo) hpfo).view.WordExact}
    {hsemo : DmaTarget.Typed (nD := nD) (τ := τ) (p := (thr d L).2) Space.vmem (.dma A.os) (.here (oV.slice (Rect.unit (s := S20x1000000) offo S20x1024.size inbo) hpfo))}
    {j : Prog (TpuEff nD τ sig (Elt F) Λ₀ (thr d L).2) α}
    (hk : ringAt d L B A w tf X fo O W R (n + 1) ⊢ WP (j) Q) :
    ringAt d L A B w tf X fo O W R n ⊢ WP (Prog.lift (TpuEff.waitDma2 A.xs srcw A.mx hs hd) >>= fun _ =>
      if h : c2 = 1#1 then
        (Prog.lift (TpuEff.enqueueDma (xV.slice (Rect.unit (s := S1000000) off2 S1024.size (inb h)) (hpf h)) (.here B.mx) (.dma B.xs) (hsrc h) (hdst h) (hsem h))
          >>= fun _ => if h : c3 = 1#1 then (Prog.lift (TpuEff.waitDma2 A.os (s3 h) (d3 h) (hs3 h) (hd3 h)) >>= fun _ =>
              p >>= fun _ => Prog.lift (TpuEff.enqueueDma (A.mp.slice (Rect.unit (s := S24x1024) ![0, 0] S20x1024.size inbp) hpfp)
                (.here (oV.slice (Rect.unit (s := S20x1000000) offo S20x1024.size inbo) hpfo)) (.dma A.os) hsrco hdsto hsemo) >>= fun _ => j)
            else p >>= fun _ => Prog.lift (TpuEff.enqueueDma (A.mp.slice (Rect.unit (s := S24x1024) ![0, 0] S20x1024.size inbp) hpfp)
                (.here (oV.slice (Rect.unit (s := S20x1000000) offo S20x1024.size inbo) hpfo)) (.dma A.os) hsrco hdsto hsemo) >>= fun _ => j)
      else if h : c3 = 1#1 then (Prog.lift (TpuEff.waitDma2 A.os (s3 h) (d3 h) (hs3 h) (hd3 h)) >>= fun _ =>
              p >>= fun _ => Prog.lift (TpuEff.enqueueDma (A.mp.slice (Rect.unit (s := S24x1024) ![0, 0] S20x1024.size inbp) hpfp)
                (.here (oV.slice (Rect.unit (s := S20x1000000) offo S20x1024.size inbo) hpfo)) (.dma A.os) hsrco hdsto hsemo) >>= fun _ => j)
            else p >>= fun _ => Prog.lift (TpuEff.enqueueDma (A.mp.slice (Rect.unit (s := S24x1024) ![0, 0] S20x1024.size inbp) hpfp)
                (.here (oV.slice (Rect.unit (s := S20x1000000) offo S20x1024.size inbo) hpfo)) (.dma A.os) hsrco hdsto hsemo) >>= fun _ => j) Q := by
  conv_lhs => unfold ringAt xSide
  rw [if_pos hn]
  iintro ⟨Hl, HxA, HxB, HoA, HoB, Hd, Ht, HO, HR⟩
  iapply (wp_wait d L (sem := A.xs) A.mx.view.dmaCredit rfl (hsrc := hs) (hdst := hd)
    (R := iprop(xP d L A.sh X ∗ has d L A.mx fullShare (wordsF (n := 1024) X (beg w n)))) (O := O) (W := W)) $$ [HxA HO]
  · isplitl [HxA]; · iexact HxA
    iexact HO
  iintro ⟨⟨HxA, Hw⟩, HsA, HO⟩
  iapply (wp_ite_fetch d L (A := B) (X := X) h2 hoff2 (inb := inb) (hpf := hpf) (hsrc := hsrc) (hdst := hdst) (hsem := hsem)
    (j := if h : c3 = 1#1 then (Prog.lift (TpuEff.waitDma2 A.os (s3 h) (d3 h) (hs3 h) (hd3 h)) >>= fun _ =>
              p >>= fun _ => Prog.lift (TpuEff.enqueueDma (A.mp.slice (Rect.unit (s := S24x1024) ![0, 0] S20x1024.size inbp) hpfp)
                (.here (oV.slice (Rect.unit (s := S20x1000000) offo S20x1024.size inbo) hpfo)) (.dma A.os) hsrco hdsto hsemo) >>= fun _ => j)
            else p >>= fun _ => Prog.lift (TpuEff.enqueueDma (A.mp.slice (Rect.unit (s := S24x1024) ![0, 0] S20x1024.size inbp) hpfp)
                (.here (oV.slice (Rect.unit (s := S20x1000000) offo S20x1024.size inbo) hpfo)) (.dma A.os) hsrco hdsto hsemo) >>= fun _ => j)) $$ HxB
  iintro HxB
  iapply (wp_ite_wait d L (A := A) (tf := tf) (X := X) h3 (o := beg w (n - 2)) (h3 := hs3) (h3' := hd3) hN (O := O) (W := W)
    (j := p >>= fun _ => Prog.lift (TpuEff.enqueueDma (A.mp.slice (Rect.unit (s := S24x1024) ![0, 0] S20x1024.size inbp) hpfp)
                (.here (oV.slice (Rect.unit (s := S20x1000000) offo S20x1024.size inbo) hpfo)) (.dma A.os) hsrco hdsto hsemo) >>= fun _ => j)) $$ [HoA HO]
  · isplitl [HoA]; · iexact HoA
    iexact HO
  iintro ⟨Hb, Hv, Hc, HO⟩
  ihave Hd := (done_merge d L (tf := tf) (X := X) hw hn) $$ [Hc Hd]
  · isplitl [Hc]; · iexact Hc
    iexact Hd
  ihave Ht' := (pointsTo_split_subset (chunk_sub_todo hw hn)).1 $$ Ht
  rw [todo_sdiff hw]
  icases Ht' with ⟨Hc, Ht⟩
  unfold pBuf
  icases Hb with ⟨%f₀, Hb⟩
  rw [wp_bind]
  iapply (wp_mono _ _ _ ?_)
  rotate_left
  · iapply (hp (beg w n) f₀ iprop(xP d L A.sh X ∗ semVal (thr d L, .dma A.xs) 0 ∗ xSide d L B X (n + 1 < nch w) (beg w (n + 1)) ∗ semVal (thr d L, .dma A.os) 0
      ∗ oSide d L B tf X (1 ≤ n) (beg w (n - 1)) ∗ oP d L (doneS w (n + 1 - 2)) (outF tf X) ∗ oP d L (colS (beg w n) 1024) fo ∗ oP d L (todoS w (n + 1)) fo
      ∗ mayOwe d L O W ∗ R))
    unfold panAt
    rw [panF_zero]
    isplitl [Hl]; · iexact Hl
    isplitl [Hw]; · iexact Hw
    isplitl [Hb]; · iexact Hb
    isplitl [HxA]; · iexact HxA
    isplitl [HsA]; · iexact HsA
    isplitl [HxB]; · iexact HxB
    isplitl [Hv]; · iexact Hv
    isplitl [HoB]; · iexact HoB
    isplitl [Hd]; · iexact Hd
    isplitl [Hc]; · iexact Hc
    isplitl [Ht]; · iexact Ht
    isplitl [HO]; · iexact HO
    iexact HR
  · intro _
    unfold panAt
    iintro ⟨Hl, Hw, Hb, HxA, HsA, HxB, Hv, HoB, Hd, Hc, Ht, HO, HR⟩
    ihave Hb := (panel_cols d L (tf := tf) (X := X) (inb := inbp) (hpf := hpfp)) $$ Hb
    iapply (wp_out d L (ms := A.mp.slice (Rect.unit (s := S24x1024) ![0, 0] S20x1024.size inbp) hpfp) (sm := .dma A.os) (tf := tf) (X := X) hoffo (inb := inbo) (hpf := hpfo)
      (hsrc := hsrco) (hdst := hdsto) (hsem := hsemo) (k := fun _ => j) (fo := fo) NO rfl (by decide) (R := pBuf d L A) (panel_back d L)) $$ [Hb Hc Hv]
    · isplitl [Hb]; · iexact Hb
      isplitl [Hc]; · iexact Hc
      iexact Hv
    iintro Hp
    iapply hk
    unfold ringAt
    isplitl [Hl]; · iexact Hl
    isplitl [HxB]; · iexact HxB
    isplitl [HxA Hw HsA]
    · unfold xFree has
      icases Hw with ⟨%f, -, Hw⟩
      isplitl [HxA]; · iexact HxA
      isplitl [Hw]
      · iexists f; iexact Hw
      iexact HsA
    isplitl [HoB]
    · iapply (Entails.of_eq (show oSide d L B tf X (1 ≤ n) (beg w (n - 1)) = oSide d L B tf X (2 ≤ n + 1) (beg w (n + 1 - 2)) from by
        rw [show n + 1 - 2 = n - 1 by omega]; unfold oSide; congr 1; exact propext ⟨by omega, by omega⟩)) $$ HoB
    isplitl [Hp]
    · unfold oSide
      rw [if_pos (by omega)]
      iexact Hp
    isplitl [Hd]; · iexact Hd
    isplitl [Ht]; · iexact Ht
    isplitl [HO]; · iexact HO
    iexact HR

end Half

end Cert.Proof.Run

end
-- ==== Proof.Walk.lean ====
/-
  The tile's program from the finished lookup table on: the loop over pairs of chunks, the last, narrow panel, and the
  waits for the last copies.
-/
module

public import proofs.«01_k».proof.Proof.Ring

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) [FloatOps F]

local notation "WP" => wp (M := MT nD τ sig (HIx 1) (Elt F) ℕ UU ℕ) frame (wpE (defs₀ (F := F)) 𝒱₀ (thr d L) none) Set.univ

/-- The tile's number. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  show 2 * (L 1).val + (L 0).val < 32
  omega

/-! ## What the program's conditions say -/

theorem cond1_iff : ∀ (L : grid0.Coords) (t : Fin k0_t1_loop.trips), k0_cond1 L t = 1#1 ↔ 2 * t.val < nch (wid L) := by decide +kernel
theorem cond2_iff : ∀ (L : grid0.Coords) (t : Fin k0_t1_loop.trips), k0_cond2 L t = 1#1 ↔ 2 * t.val + 1 < nch (wid L) := by decide +kernel
theorem cond3_iff : ∀ (t : Fin k0_t1_loop.trips), k0_cond3 t = 1#1 ↔ 2 ≤ 2 * t.val := by decide +kernel
theorem cond4_iff : ∀ (L : grid0.Coords) (t : Fin k0_t1_loop.trips), k0_cond4 L t = 1#1 ↔ 2 * t.val + 1 < nch (wid L) := by decide +kernel
theorem cond5_iff : ∀ (L : grid0.Coords) (t : Fin k0_t1_loop.trips), k0_cond5 L t = 1#1 ↔ 2 * t.val + 1 + 1 < nch (wid L) := by decide +kernel
theorem cond6_iff : ∀ (t : Fin k0_t1_loop.trips), k0_cond6 t = 1#1 ↔ 2 ≤ 2 * t.val + 1 := by decide +kernel
theorem cond7_iff : ∀ (L : grid0.Coords), k0_cond7 L = 1#1 ↔ wid L = 31 := by decide +kernel
theorem trips1 : k0_t1_loop.trips = 16 := by decide +kernel
theorem trips2 : k0_t2_loop.trips = 64 := by decide +kernel
theorem trips3 : k0_t3_loop.trips = 64 := by decide +kernel
theorem trips4 : k0_t4_loop.trips = 36 := by decide +kernel

/-- The two sides. -/
abbrev S0 (q : PosShare TreeShare) : Side := ⟨bX0, bP0, cc0_scratch10.sem, cc0_scratch8.sem, q.left⟩
abbrev S1 (q : PosShare TreeShare) : Side := ⟨bX1, bP1, cc0_scratch11.sem, cc0_scratch9.sem, q.right⟩

variable {tf : Vec F S200 .f32} {X : IVec S1000000 32} {fo : Vec F S20x1000000 .f32}
variable {O : CellTallies nD τ sig (HIx 1)} {W : Waits sig (HIx 1)}
variable {R : sProp (MT nD τ sig (HIx 1) (Elt F) ℕ UU ℕ)}

theorem pan0_loop (hX : ∀ n, (wordAt X n).toNat < 128) (q : PosShare TreeShare) (v1 : BitVec 32) (u1 u2 u3 : IVec S16 32) (t : Fin k0_t1_loop.trips)
    (h1 : k0_cond1 L t = 1#1) : PanLoop d L (S0 q) tf X (Scf.Loop.for k0_t2_loop (k0_t2_ok L t h1) ⟨⟩ (panBody0 L v1 u1 u2 u3 t h1)) := by
  intro o f₀ R
  have h := pan_loop d L (ok := k0_t2_ok L t h1) (pan0_trip d L hX (R := R) (tf := tf) (o := o) (f₀ := f₀) v1 u1 u2 u3 t h1) (k := fun _ => pure PUnit.unit)
    (step_pure d L (Q := fun _ => panAt d L bX0 bP0 tf X o f₀ k0_t2_loop.trips 0 R) .rfl)
  rw [trips2] at h
  rwa [bind_pure] at h

theorem pan1_loop (hX : ∀ n, (wordAt X n).toNat < 128) (q : PosShare TreeShare) (v1 : BitVec 32) (u1 u2 u3 : IVec S16 32) (t : Fin k0_t1_loop.trips)
    (h4 : k0_cond4 L t = 1#1) : PanLoop d L (S1 q) tf X (Scf.Loop.for k0_t3_loop (k0_t3_ok L t h4) ⟨⟩ (panBody1 L v1 u1 u2 u3 t h4)) := by
  intro o f₀ R
  have h := pan_loop d L (ok := k0_t3_ok L t h4) (pan1_trip d L hX (R := R) (tf := tf) (o := o) (f₀ := f₀) v1 u1 u2 u3 t h4) (k := fun _ => pure PUnit.unit)
    (step_pure d L (Q := fun _ => panAt d L bX1 bP1 tf X o f₀ k0_t3_loop.trips 0 R) .rfl)
  rw [trips3] at h
  rwa [bind_pure] at h

/-- The state before trip `i` of the loop over pairs. -/
def pairAt (q : PosShare TreeShare) (tf : Vec F S200 .f32) (X : IVec S1000000 32) (fo : Vec F S20x1000000 .f32)
    (O : CellTallies nD τ sig (HIx 1)) (W : Waits sig (HIx 1)) (R : sProp 𝕄) (i : ℕ) : sProp 𝕄 :=
  if i < 16 then ringAt d L (S0 q) (S1 q) (wid L) tf X fo O W R (2 * i)
  else if wid L < 16 then ringAt d L (S1 q) (S0 q) (wid L) tf X fo O W R 31
  else ringAt d L (S0 q) (S1 q) (wid L) tf X fo O W R 30

set_option maxHeartbeats 4000000 in
set_option maxRecDepth 100000 in
theorem pair_trip (hX : ∀ n, (wordAt X n).toNat < 128) (q : PosShare TreeShare) (v1 : BitVec 32) (u1 u2 u3 : IVec S16 32) (t : Fin k0_t1_loop.trips) (a : PUnit) :
    pairAt d L q tf X fo O W R t.val ⊢ WP (pairBody (F := F) L v1 u1 u2 u3 t a) fun _ => pairAt d L q tf X fo O W R (t.val + 1) := by
  have ht : t.val < 16 := lt_of_lt_of_eq t.isLt trips1
  have hw := wid_lt L
  unfold pairAt
  rw [if_pos ht]
  unfold pairBody k0_t1_body
  dsimp only
  by_cases h1 : k0_cond1 L t = 1#1
  · rw [dif_pos h1]
    have hn := (cond1_iff L t).mp h1
    refine half d L (A := S0 q) (B := S1 q) hw hn (cond2_iff L t) (cond3_iff t) (fun _ => ?_) ?_ (pan0_loop d L hX q v1 u1 u2 u3 t h1) ?_ ?_
    · rw [k0_off3_eq]; congr 1; unfold beg wid; omega
    · exact fun _ => rfl
    · rw [k0_off26_eq]; congr 2; unfold beg wid; omega
    by_cases h4 : k0_cond4 L t = 1#1
    · rw [dif_pos h4]
      have hn' := (cond4_iff L t).mp h4
      refine half d L (A := S1 q) (B := S0 q) hw hn' (cond5_iff L t) (cond6_iff t) (fun _ => ?_) ?_ (pan1_loop d L hX q v1 u1 u2 u3 t h4) ?_ ?_
      · rw [k0_off28_eq]; congr 1; unfold beg wid; omega
      · exact fun _ => rfl
      · rw [k0_off51_eq]; congr 2; unfold beg wid; omega
      have : t.val + 1 < 16 := by unfold nch at hn'; split at hn' <;> omega
      refine step_pure d L ?_
      rw [if_pos this]
      exact .rfl
    · rw [dif_neg h4]
      have hn' := mt (cond4_iff L t).mpr h4
      refine step_pure d L ?_
      have h : ¬t.val + 1 < 16 ∧ wid L < 16 ∧ 2 * t.val + 1 = 31 := by unfold nch at hn hn'; split at hn <;> simp_all <;> omega
      rw [if_neg h.1, if_pos h.2.1, h.2.2]
  · rw [dif_neg h1]
    have hn := mt (cond1_iff L t).mpr h1
    have h4 : ¬k0_cond4 L t = 1#1 := fun h => by have := (cond4_iff L t).mp h; omega
    rw [dif_neg h4]
    refine step_pure d L ?_
    have h : ¬t.val + 1 < 16 ∧ ¬wid L < 16 ∧ 2 * t.val = 30 := by unfold nch at hn; split at hn <;> omega
    rw [if_neg h.1, if_neg h.2.1, h.2.2]

end Cert.Proof.Run

end
-- ==== Proof.Tile.lean ====
/-
  The tile's whole program: the table fetched, the lookup table made, the chunks in pairs, the last narrow panel, and
  the waits for the last copies.
-/
module

public import proofs.«01_k».proof.Proof.Walk

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) [FloatOps F]

local notation "WP" => wp (M := MT nD τ sig (HIx 1) (Elt F) ℕ UU ℕ) frame (wpE (defs₀ (F := F)) 𝒱₀ (thr d L) none) Set.univ

section Walk

variable {tf : Vec F S200 .f32} {X : IVec S1000000 32} {fo : Vec F S20x1000000 .f32}
variable {O : CellTallies nD τ sig (HIx 1)} {W : Waits sig (HIx 1)}
variable {R : sProp (MT nD τ sig (HIx 1) (Elt F) ℕ UU ℕ)}
variable {Q : PUnit → sProp (MT nD τ sig (HIx 1) (Elt F) ℕ UU ℕ)}

/-- A side's panel buffer with no copy under way. -/
def pFree (A : Side) : sProp 𝕄 := iprop(pBuf d L A ∗ semVal (thr d L, .dma A.os) 0)
/-- A side's panel on its way to the columns of chunk `n`. -/
def pOut (A : Side) (tf : Vec F S200 .f32) (X : IVec S1000000 32) (n : ℕ) : sProp 𝕄 :=
  pend d L (.dma A.os) NO iprop(pBuf d L A ∗ oP d L (colS (beg (wid L) n) 1024) (outF tf X))

/-- The chunk whose copy the first side still waits for at the end, and how many chunks are known to be done. -/
abbrev lastC (w : ℕ) : ℕ := if w < 16 then 30 else 28
abbrev doneC (w : ℕ) : ℕ := if w < 16 then 29 else 28

/-- The state before the loop over pairs, and after it. -/
def startAt (q : PosShare TreeShare) (tf : Vec F S200 .f32) (X : IVec S1000000 32) (fo : Vec F S20x1000000 .f32)
    (O : CellTallies nD τ sig (HIx 1)) (W : Waits sig (HIx 1)) (R : sProp 𝕄) : sProp 𝕄 :=
  iprop(has d L bL fullShare (lutFull tf) ∗ xFree d L (S0 q) X ∗ xFree d L (S1 q) X ∗ pFree d L (S0 q) ∗ pFree d L (S1 q)
    ∗ oP d L (todoS (wid L) 0) fo ∗ mayOwe d L O W ∗ R)
def finAt (q : PosShare TreeShare) (tf : Vec F S200 .f32) (X : IVec S1000000 32)
    (O : CellTallies nD τ sig (HIx 1)) (W : Waits sig (HIx 1)) (R : sProp 𝕄) : sProp 𝕄 :=
  iprop(has d L bL fullShare (lutFull tf) ∗ xFree d L (S0 q) X ∗ xFree d L (S1 q) X ∗ pOut d L (S0 q) tf X (lastC (wid L)) ∗ pOut d L (S1 q) tf X 29
    ∗ oP d L (doneS (wid L) (doneC (wid L))) (outF tf X) ∗ mayOwe d L O W ∗ R)

theorem pair_fin (q : PosShare TreeShare) : pairAt d L q tf X fo O W R 16 ⊢ finAt d L q tf X O W R := by
  unfold pairAt finAt
  rw [if_neg (by decide)]
  by_cases hw : wid L < 16
  · rw [if_pos hw]
    unfold ringAt xSide oSide lastC doneC pOut nch
    rw [if_pos hw, if_pos hw, if_neg (by decide), if_pos (by decide), if_pos (by decide), if_pos hw]
    iintro ⟨Hl, Hx1, Hx0, Ho1, Ho0, Hd, -, HO, HR⟩
    isplitl [Hl]; · iexact Hl
    isplitl [Hx0]; · iexact Hx0
    isplitl [Hx1]; · iexact Hx1
    isplitl [Ho0]; · iexact Ho0
    isplitl [Ho1]; · iexact Ho1
    isplitl [Hd]; · iexact Hd
    isplitl [HO]; · iexact HO
    iexact HR
  · rw [if_neg hw]
    unfold ringAt xSide oSide lastC doneC pOut nch
    rw [if_neg hw, if_neg hw, if_neg (by decide), if_pos (by decide), if_pos (by decide), if_neg hw]
    iintro ⟨Hl, Hx0, Hx1, Ho0, Ho1, Hd, -, HO, HR⟩
    isplitl [Hl]; · iexact Hl
    isplitl [Hx0]; · iexact Hx0
    isplitl [Hx1]; · iexact Hx1
    isplitl [Ho0]; · iexact Ho0
    isplitl [Ho1]; · iexact Ho1
    isplitl [Hd]; · iexact Hd
    isplitl [HO]; · iexact HO
    iexact HR

theorem oP_empty (f : Vec F S20x1000000 .f32) : (oP d L ∅ f : sProp 𝕄) = iprop(emp) := pointsTo_empty

theorem ring_walk (hX : ∀ n, (wordAt X n).toNat < 128) (q : PosShare TreeShare) (v1 : BitVec 32) (u1 u2 u3 : IVec S16 32) :
    startAt d L q tf X fo O W R ⊢ WP (ringProg d L v1 u1 u2 u3) fun _ => finAt d L q tf X O W R := by
  unfold startAt pFree
  iintro ⟨Hl, Hx0, Hx1, Ho0, Ho1, Ht, HO, HR⟩
  conv_lhs => unfold xFree
  iapply (wp_fetch d L (n := 1024) (mx := bX0) (o := beg (wid L) 0) (X := X) (q := q.left)
    (by rw [k0_off1_eq]; congr 1; unfold beg wid; omega) _ rfl (by decide)) $$ Hx0
  iintro Hp
  iapply (Scf.wp_for_bind frame (wpE (defs₀ (F := F)) 𝒱₀ (thr d L) none) Set.univ k0_t1_loop.lb k0_t1_loop.ub k0_t1_loop.st k0_t1_ok PUnit.unit
    (pairBody (F := F) L v1 u1 u2 u3) (fun t _ => pairAt d L q tf X fo O W R t) (fun t a => pair_trip d L hX q v1 u1 u2 u3 t a)) $$ [Hl Hp Hx1 Ho0 Ho1 Ht HO HR]
  · unfold pairAt ringAt xFree
    rw [if_pos (by decide)]
    isplitl [Hl]; · iexact Hl
    isplitl [Hp]
    · unfold xSide
      rw [if_pos (by unfold nch; split <;> decide)]
      iexact Hp
    isplitl [Hx1]; · iexact Hx1
    isplitl [Ho0]
    · unfold oSide
      rw [if_neg (by decide)]
      iexact Ho0
    isplitl [Ho1]
    · unfold oSide
      rw [if_neg (by decide)]
      iexact Ho1
    isplitr [Ht HO HR]
    · rw [show doneS (wid L) (2 * 0 - 2) = ∅ from Finset.filter_false_of_mem fun i _ h => absurd h.2.2 (Nat.not_lt_zero _), oP_empty]
      iempintro
    isplitl [Ht]; · iexact Ht
    isplitl [HO]; · iexact HO
    iexact HR
  · iintro %a H
    iapply (step_pure d L .rfl)
    iapply (pair_fin d L q)
    iexact H

/-- The columns of the last, narrow panel, on the tile that has it. -/
def tailS (w : ℕ) : Finset S20x1000000.Idx := Finset.univ.filter fun i => 999424 ≤ (i 1).val ∧ w = 31

theorem tailS_eq {w : ℕ} (h : w = 31) : tailS w = colS 999424 576 := by
  ext i
  have : (i 1).val < 1000000 := (i 1).isLt
  simp only [tailS, colS, Finset.mem_filter, Finset.mem_univ, _root_.true_and]
  omega

/-- What the last, narrow panel needs. -/
def tailR (f : Vec F S20x1000000 .f32) : sProp 𝕄 :=
  iprop((∃ f, bXt.view.loc (thr d L) ↦{fullShare} f) ∗ semVal (thr d L, .dma cc0_scoped1.sem) 0 ∗ (∃ g, has d L bPt fullShare g)
    ∗ semVal (thr d L, .dma cc0_scoped2.sem) 0 ∗ oP d L (tailS (wid L)) f)

/-- The narrow panel, done, as the columns of the output. -/
theorem panT_cols {f₀ : Vec F S20x576 .f32} {o : ℕ} : panF tf X o f₀ 36 0 = colsF (n := 576) tf X o := by
  funext x
  have h0 : (x 0).val < 20 := (x 0).isLt
  have h1 : (x 1).val < 576 := (x 1).isLt
  unfold panF colsF
  rw [if_pos (by omega)]

set_option maxHeartbeats 4000000 in
theorem tail_walk (hX : ∀ n, (wordAt X n).toNat < 128) (q : PosShare TreeShare)
    (hk : iprop(has d L bL fullShare (lutFull tf) ∗ xFree d L (S0 q) X ∗ xFree d L (S1 q) X ∗ (pFree d L (S0 q) ∗ oP d L (colS (beg (wid L) (lastC (wid L))) 1024) (outF tf X))
      ∗ pOut d L (S1 q) tf X 29 ∗ oP d L (doneS (wid L) (doneC (wid L))) (outF tf X) ∗ mayOwe d L O W ∗ tailR d L (outF tf X) ∗ R) ⊢ Q ⟨⟩) :
    finAt d L q tf X O W iprop(tailR d L fo ∗ R) ⊢ WP (tailProg d L) Q := by
  have hend : finAt d L q tf X O W iprop(tailR d L (outF tf X) ∗ R) ⊢ WP (do
      Prog.lift (.waitDma2 cc0_scratch8.sem (bP0.slice (Rect.unit (s := S24x1024) ![0, 0] S20x1024.size inb_S24x1024_S20x1024_0_0) (fun _ => rfl))
        (oV.slice (Rect.unit (s := S20x1000000) ![0, 0] S20x1024.size inb_S20x1000000_S20x1024_0_0) (fun _ => rfl)) (View.wordExact_bits rfl) (View.wordExact_bits rfl))
      pure ⟨⟩ : Prog (TpuEff nD τ sig (Elt F) Λ₀ (thr d L).2) PUnit) Q := by
    unfold pOut at hk
    unfold finAt pOut
    iintro ⟨Hl, Hx0, Hx1, Ho0, Ho1, Hd, HO, Ht, HR⟩
    iapply (wp_wait d L (sem := (S0 q).os) NO rfl (R := iprop(pBuf d L (S0 q) ∗ oP d L (colS (beg (wid L) (lastC (wid L))) 1024) (outF tf X))) (O := O) (W := W)) $$ [Ho0 HO]
    · isplitl [Ho0]; · iexact Ho0
      iexact HO
    iintro ⟨⟨Hb, Hc⟩, Hv, HO⟩
    iapply (step_pure d L .rfl)
    iapply hk
    isplitl [Hl]; · iexact Hl
    isplitl [Hx0]; · iexact Hx0
    isplitl [Hx1]; · iexact Hx1
    isplitl [Hb Hv Hc]
    · isplitr [Hc]
      · unfold pFree
        isplitl [Hb]; · iexact Hb
        iexact Hv
      iexact Hc
    isplitl [Ho1]; · iexact Ho1
    isplitl [Hd]; · iexact Hd
    isplitl [HO]; · iexact HO
    isplitl [Ht]; · iexact Ht
    iexact HR
  unfold tailProg
  by_cases h7 : k0_cond7 L = 1#1
  · simp only [dif_pos h7]
    have hw := (cond7_iff L).mp h7
    unfold finAt
    iintro ⟨Hl, Hx0, Hx1, Ho0, Ho1, Hd, HO, Ht, HR⟩
    unfold tailR
    icases Ht with ⟨Hxt, Hs1, ⟨%f₀, Hpt⟩, Hs2, Hot⟩
    unfold xFree
    icases Hx0 with ⟨Hx, Hx0⟩
    iapply (wp_fetch d L (n := 576) (mx := bXt) (o := 999424) (X := X) (q := q.left) rfl _ rfl (by decide)) $$ [Hx Hxt Hs1]
    · isplitl [Hx]; · iexact Hx
      isplitl [Hxt]; · iexact Hxt
      iexact Hs1
    iintro Hp
    iapply (wp_wait d L (sem := cc0_scoped1.sem) _ rfl (R := iprop(xP d L q.left X ∗ has d L bXt fullShare (wordsF (n := 576) X 999424))) (O := O) (W := W)) $$ [Hp HO]
    · isplitl [Hp]; · iexact Hp
      iexact HO
    iintro ⟨⟨Hx, Hxt⟩, Hs1, HO⟩
    iapply (pan_loop d L (ok := k0_t4_ok L h7) (mx := bXt) (mp := bPt) (tf := tf) (o := 999424) (f₀ := f₀)
      (panT_trip d L hX h7) (R := iprop(xP d L q.left X ∗ semVal (thr d L, .dma cc0_scoped1.sem) 0 ∗ mayOwe d L O W
        ∗ iprop((∃ f, bX0.view.loc (thr d L) ↦{fullShare} f) ∗ semVal (thr d L, .dma cc0_scratch10.sem) 0)
        ∗ xFree d L (S1 q) X ∗ pOut d L (S0 q) tf X (lastC (wid L)) ∗ pOut d L (S1 q) tf X 29
        ∗ oP d L (doneS (wid L) (doneC (wid L))) (outF tf X) ∗ semVal (thr d L, .dma cc0_scoped2.sem) 0 ∗ oP d L (tailS (wid L)) fo ∗ R)) ?_)
    · rw [trips4]
      unfold panAt
      rw [panT_cols]
      iintro ⟨Hl, Hxt, Hpt, Hx, Hs1, HO, Hx0, Hx1, Ho0, Ho1, Hd, Hs2, Hot, HR⟩
      rw [tailS_eq hw]
      iapply (wp_out d L (n := 576) (ms := bPt) (sm := .dma cc0_scoped2.sem) (tf := tf) (X := X) (o := 999424) rfl _ rfl (by decide)
        (R := iprop(∃ g, has d L bPt fullShare g)) .rfl) $$ [Hpt Hot Hs2]
      · isplitl [Hpt]; · iexact Hpt
        isplitl [Hot]; · iexact Hot
        iexact Hs2
      iintro Hp
      iapply (wp_wait d L (sem := cc0_scoped2.sem) _ rfl (R := iprop((∃ g, has d L bPt fullShare g) ∗ oP d L (colS 999424 576) (outF tf X))) (O := O) (W := W)) $$ [Hp HO]
      · isplitl [Hp]; · iexact Hp
        iexact HO
      iintro ⟨⟨Hpt, Hot⟩, Hs2, HO⟩
      iapply hend
      unfold finAt tailR xFree
      rw [tailS_eq hw]
      isplitl [Hl]; · iexact Hl
      isplitl [Hx Hx0]
      · isplitl [Hx]; · iexact Hx
        iexact Hx0
      isplitl [Hx1]; · iexact Hx1
      isplitl [Ho0]; · iexact Ho0
      isplitl [Ho1]; · iexact Ho1
      isplitl [Hd]; · iexact Hd
      isplitl [HO]; · iexact HO
      isplitr [HR]
      · isplitl [Hxt]
        · unfold has
          icases Hxt with ⟨%f, -, Hxt⟩
          iexists f; iexact Hxt
        isplitl [Hs1]; · iexact Hs1
        isplitl [Hpt]; · iexact Hpt
        isplitl [Hs2]; · iexact Hs2
        iexact Hot
      iexact HR
    · unfold panAt xFree
      rw [panF_zero]
      isplitl [Hl]; · iexact Hl
      isplitl [Hxt]; · iexact Hxt
      isplitl [Hpt]; · iexact Hpt
      isplitl [Hx]; · iexact Hx
      isplitl [Hs1]; · iexact Hs1
      isplitl [HO]; · iexact HO
      isplitl [Hx0]; · iexact Hx0
      isplitl [Hx1]; · iexact Hx1
      isplitl [Ho0]; · iexact Ho0
      isplitl [Ho1]; · iexact Ho1
      isplitl [Hd]; · iexact Hd
      isplitl [Hs2]; · iexact Hs2
      isplitl [Hot]; · iexact Hot
      iexact HR
  · simp only [dif_neg h7]
    refine BIBase.Entails.trans ?_ hend
    have he : tailS (wid L) = ∅ := Finset.filter_false_of_mem fun i _ h => h7 ((cond7_iff L).mpr h.2)
    unfold tailR
    rw [he, oP_empty, oP_empty]

/-- The chunks' columns together. -/
theorem done_step {n : ℕ} (hn : n < nch (wid L)) :
    iprop(oP d L (colS (beg (wid L) n) 1024) (outF tf X) ∗ oP d L (doneS (wid L) n) (outF tf X)) ⊢ (oP d L (doneS (wid L) (n + 1)) (outF tf X) : sProp 𝕄) := by
  refine BIBase.Entails.trans ?_ (pointsTo_split_subset (chunk_sub_done (wid_lt L) hn)).2
  rw [done_sdiff (wid_lt L)]

theorem done_all (w : ℕ) : doneS w (nch w) = todoS w 0 := by
  ext i
  simp only [doneS, todoS, nch, Finset.mem_filter, Finset.mem_univ, _root_.true_and]
  split <;> omega

theorem chunks_done : iprop(oP d L (colS (beg (wid L) (lastC (wid L))) 1024) (outF tf X) ∗ oP d L (colS (beg (wid L) 29) 1024) (outF tf X)
      ∗ oP d L (doneS (wid L) (doneC (wid L))) (outF tf X)) ⊢ (oP d L (todoS (wid L) 0) (outF tf X) : sProp 𝕄) := by
  rw [← done_all]
  by_cases hw : wid L < 16
  · have e : nch (wid L) = 31 := if_pos hw
    rw [show lastC (wid L) = 30 from if_pos hw, show doneC (wid L) = 29 from if_pos hw, e]
    iintro ⟨H30, H29, H⟩
    iapply (done_step d L (n := 30) (by omega))
    isplitl [H30]; · iexact H30
    iapply (done_step d L (n := 29) (by omega))
    isplitl [H29]; · iexact H29
    iexact H
  · have e : nch (wid L) = 30 := if_neg hw
    rw [show lastC (wid L) = 28 from if_neg hw, show doneC (wid L) = 28 from if_neg hw, e]
    iintro ⟨H28, H29, H⟩
    iapply (done_step d L (n := 29) (by omega))
    isplitl [H29]; · iexact H29
    iapply (done_step d L (n := 28) (by omega))
    isplitl [H28]; · iexact H28
    iexact H

/-- The table held at a share. -/
abbrev tP (q : PosShare TreeShare) (tf : Vec F S200 .f32) : sProp 𝕄 := tV.view.loc (thr d L) ↦{q} tf

/-- The table's fetch. -/
theorem fetch_walk {q' : PosShare TreeShare} {f₀ : Vec F S2560 .f32} (Q' : _ → sProp 𝕄)
    (h : ∀ v1, lutAt d L tf f₀ 0 iprop(tP d L q' tf ∗ semVal (thr d L, .dma cc0_scoped0.sem) 0 ∗ mayOwe d L O W ∗ R) ⊢ Q' ⟨v1, k0_pay49, k0_pay50, k0_pay51⟩) :
    iprop(tP d L q' tf ∗ (∃ f, bT.view.loc (thr d L) ↦{fullShare} f) ∗ semVal (thr d L, .dma cc0_scoped0.sem) 0 ∗ has d L bL fullShare f₀ ∗ mayOwe d L O W ∗ R)
      ⊢ WP (k0_part10 (F := F) L xV (Memref.isWhole_whole _) tV (Memref.isWhole_whole _) oV (Memref.isWhole_whole _) bT (Memref.isWhole_whole _) bL (Memref.isWhole_whole _) bX0 (Memref.isWhole_whole _) bX1 (Memref.isWhole_whole _) bP0 (Memref.isWhole_whole _) bP1 (Memref.isWhole_whole _) bPt (Memref.isWhole_whole _) bXt (Memref.isWhole_whole _)
    cc0_scratch8 cc0_scratch9 cc0_scratch10 cc0_scratch11 cc0_scoped0 cc0_scoped1 cc0_scoped2) Q' := by
  rw [k0_part10_eq_skeleton]; unfold k0_part10_skel
  iintro ⟨Ht, ⟨%f, Hb⟩, Hs, Hl, HO, HR⟩
  iapply (wp_begin d L (src := tV) (dst := bT) (sm := .dma cc0_scoped0.sem) (q := q') (fs := tf) (Sd := Finset.univ) (fd := f) _ rfl (by decide)
    (Finset.subset_univ _) (R := iprop(tP d L q' tf ∗ has d L bT fullShare tf)) ?_) $$ [Ht Hb Hs]
  · iintro ⟨Ht, Hb⟩
    isplitl [Ht]; · iexact Ht
    unfold has
    iexists _
    isplitr [Hb]
    rotate_left
    · iexact Hb
    · ipureintro
      rw [View.read_write_univ]
      rfl
  · isplitl [Ht]; · iexact Ht
    isplitl [Hb]; · iexact Hb
    iexact Hs
  iintro Hp
  iapply (wp_wait d L (sem := cc0_scoped0.sem) _ rfl (R := iprop(tP d L q' tf ∗ has d L bT fullShare tf)) (O := O) (W := W)) $$ [Hp HO]
  · isplitl [Hp]; · iexact Hp
    iexact HO
  iintro ⟨⟨Ht, Hb⟩, Hs, HO⟩
  iapply (step_pure d L .rfl)
  iapply (h _)
  unfold lutAt
  rw [lutF_zero]
  isplitl [Hb]; · iexact Hb
  isplitl [Hl]; · iexact Hl
  isplitl [Ht]; · iexact Ht
  isplitl [Hs]; · iexact Hs
  isplitl [HO]; · iexact HO
  iexact HR

/-- What the tile holds of its own besides the table's and the lookup table's buffers, and its part of the output. -/
def keepR (q : PosShare TreeShare) (X : IVec S1000000 32) (f : Vec F S20x1000000 .f32) : sProp 𝕄 :=
  iprop(xFree d L (S0 q) X ∗ xFree d L (S1 q) X ∗ pFree d L (S0 q) ∗ pFree d L (S1 q) ∗ oP d L (todoS (wid L) 0) f ∗ tailR d L f)

set_option maxHeartbeats 4000000 in
set_option maxRecDepth 100000 in
/-- The whole of it. -/
theorem body_walk (hX : ∀ n, (wordAt X n).toNat < 128) (q q' : PosShare TreeShare) {f₀ : Vec F S2560 .f32} :
    iprop(tP d L q' tf ∗ (∃ f, bT.view.loc (thr d L) ↦{fullShare} f) ∗ semVal (thr d L, .dma cc0_scoped0.sem) 0 ∗ has d L bL fullShare f₀ ∗ mayOwe d L O W ∗ keepR d L q X fo)
      ⊢ WP (cc0__body (F := F) L xV (Memref.isWhole_whole _) tV (Memref.isWhole_whole _) oV (Memref.isWhole_whole _) bT (Memref.isWhole_whole _) bL (Memref.isWhole_whole _) bX0 (Memref.isWhole_whole _) bX1 (Memref.isWhole_whole _) bP0 (Memref.isWhole_whole _) bP1 (Memref.isWhole_whole _) bPt (Memref.isWhole_whole _) bXt (Memref.isWhole_whole _)
    cc0_scratch8 cc0_scratch9 cc0_scratch10 cc0_scratch11 cc0_scoped0 cc0_scoped1 cc0_scoped2) fun _ =>
        iprop(tP d L q' tf ∗ has d L bT fullShare tf ∗ semVal (thr d L, .dma cc0_scoped0.sem) 0 ∗ has d L bL fullShare (lutFull tf) ∗ mayOwe d L O W
          ∗ keepR d L q X (outF tf X)) := by
  rw [cc0__body_eq_skeleton]; unfold cc0__body_skel
  refine step_bind d L (walk_part49 d L (f₀ := f₀) (fun Q' h => fetch_walk d L Q' h) fun v1 u1 u2 u3 => ?_)
  have hs : lutAt d L tf f₀ 160 iprop(tP d L q' tf ∗ semVal (thr d L, .dma cc0_scoped0.sem) 0 ∗ mayOwe d L O W ∗ keepR d L q X fo)
      ⊢ startAt d L q tf X fo O W iprop(tailR d L fo ∗ tP d L q' tf ∗ has d L bT fullShare tf ∗ semVal (thr d L, .dma cc0_scoped0.sem) 0) := by
    unfold lutAt startAt keepR
    rw [lutF_full]
    iintro ⟨Hb, Hl, Ht, Hs, HO, Hx0, Hx1, Ho0, Ho1, Ho, HT⟩
    isplitl [Hl]; · iexact Hl
    isplitl [Hx0]; · iexact Hx0
    isplitl [Hx1]; · iexact Hx1
    isplitl [Ho0]; · iexact Ho0
    isplitl [Ho1]; · iexact Ho1
    isplitl [Ho]; · iexact Ho
    isplitl [HO]; · iexact HO
    isplitl [HT]; · iexact HT
    isplitl [Ht]; · iexact Ht
    isplitl [Hb]; · iexact Hb
    iexact Hs
  refine hs.trans ((ring_walk d L hX q v1 u1 u2 u3).trans (wp_mono _ _ _ fun _ => tail_walk d L hX q ?_))
  iintro ⟨Hl, Hx0, Hx1, ⟨Ho0, Hc⟩, Ho1, Hd, HO, HT, Ht, Hb, Hs⟩
  unfold pOut
  iapply (wp_wait d L (sem := (S1 q).os)
    (dstw := oV.slice (Rect.unit (s := S20x1000000) ![0, 1024] S20x1024.size inb_S20x1000000_S20x1024_0_1024) (fun _ => rfl)) NO rfl (R := iprop(pBuf d L (S1 q) ∗ oP d L (colS (beg (wid L) 29) 1024) (outF tf X))) (O := O) (W := W)) $$ [Ho1 HO]
  · isplitl [Ho1]; · iexact Ho1
    iexact HO
  iintro ⟨⟨Hp, Hc'⟩, Hv, HO⟩
  iapply (step_pure d L .rfl)
  unfold keepR
  isplitl [Ht]; · iexact Ht
  isplitl [Hb]; · iexact Hb
  isplitl [Hs]; · iexact Hs
  isplitl [Hl]; · iexact Hl
  isplitl [HO]; · iexact HO
  isplitl [Hx0]; · iexact Hx0
  isplitl [Hx1]; · iexact Hx1
  isplitl [Ho0]; · iexact Ho0
  isplitl [Hp Hv]
  · unfold pFree
    isplitl [Hp]; · iexact Hp
    iexact Hv
  isplitl [Hc Hc' Hd]
  · iapply (chunks_done d L)
    isplitl [Hc]; · iexact Hc
    isplitl [Hc']; · iexact Hc'
    iexact Hd
  iexact HT

end Walk

end Cert.Proof.Run

end
-- ==== Proof.Task.lean ====
/-
  The tile's task as the launch asks for it: from its shares of the arrays, its part of the output and what it owns,
  to the same with its part of the output done.
-/
module

public import proofs.«01_k».proof.Proof.Tile

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) [FloatOps F]

local notation "WP" => wp (M := MT nD τ sig (HIx 1) (Elt F) ℕ UU ℕ) frame (wpE (defs₀ (F := F)) 𝒱₀ (thr d L) none) Set.univ

/-! ## What a tile owns -/

/-- The semaphores and the buffers the tile's program uses. -/
def semsS : Finset (SemLoc sig) :=
  {.dma cc0_scoped0.sem, .dma cc0_scoped1.sem, .dma cc0_scoped2.sem, .dma cc0_scratch8.sem, .dma cc0_scratch9.sem, .dma cc0_scratch10.sem, .dma cc0_scratch11.sem}
def bufsS : Finset (Ref sig .scVector) :=
  {cc0_scratch0, cc0_scratch1, cc0_scratch2, cc0_scratch3, cc0_scratch4, cc0_scratch5, cc0_scratch6, cc0_scratch7}

/-- Where they are. -/
def semsE : SemLoc sig ↪ GSem nD τ sig := ⟨fun s => (thr d L, s), fun _ _ h => (Prod.mk.inj h).2⟩
def bufsE : Ref sig .scVector ↪ DevRef τ sig := ⟨(Proc.scVector (cV L) (jV L)).devRef, Proc.devRef_injective _⟩

theorem sems_sub : semsS.map (semsE d L) ⊆ ownCells (thr d L) := by
  intro g hg
  obtain ⟨s, hs, rfl⟩ := Finset.mem_map.mp hg
  exact mem_ownCells.mpr ⟨rfl, (show ∀ s ∈ semsS, s.isScoped .scVector = true by decide) s hs⟩

theorem bufs_sub : bufsS.map (bufsE L) ⊆ ownRefs (τ := τ) (.scVector (cV L) (jV L)) := by
  intro b hb
  obtain ⟨r, hr, rfl⟩ := Finset.mem_map.mp hb
  simp only [bufsS, Finset.mem_insert, Finset.mem_singleton] at hr
  rcases hr with rfl | rfl | rfl | rfl | rfl | rfl | rfl | rfl <;> exact SparseCore.Cfg.mem_ownRefs_of_owner (p := Proc.scVector (cV L) (jV L)) rfl

abbrev anyP (b : Ref sig .scVector) : sProp 𝕄 := iprop(∃ f, (thr d L).loc b ↦{fullShare} f)
abbrev semP (s : DmaSem sig) : sProp 𝕄 := semVal (thr d L, .dma s) 0

theorem ownSems0_V : (ownSems0 (thr d L) : sProp 𝕄)
    = iprop((semP d L cc0_scoped0.sem ∗ semP d L cc0_scoped1.sem ∗ semP d L cc0_scoped2.sem ∗ semP d L cc0_scratch8.sem ∗ semP d L cc0_scratch9.sem
        ∗ semP d L cc0_scratch10.sem ∗ semP d L cc0_scratch11.sem)
      ∗ bigSep (ownCells (thr d L) \ semsS.map (semsE d L)) fun g => semVal g 0) := by
  unfold SparseCore.Cfg.ownSems0
  rw [bigSep_sdiff_split (sems_sub d L), bigSep_map]
  unfold semsS
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

theorem ownBufs_V : (ownBufs (thr d L) : sProp 𝕄)
    = iprop((anyP d L cc0_scratch0 ∗ anyP d L cc0_scratch1 ∗ anyP d L cc0_scratch2 ∗ anyP d L cc0_scratch3 ∗ anyP d L cc0_scratch4 ∗ anyP d L cc0_scratch5
        ∗ anyP d L cc0_scratch6 ∗ anyP d L cc0_scratch7)
      ∗ bigSep (ownRefs (τ := τ) (.scVector (cV L) (jV L)) \ bufsS.map (bufsE L)) fun b => iprop(∃ f, ((d, b) : Loc nD τ sig) ↦{fullShare} f)) := by
  unfold SparseCore.Cfg.ownBufs
  refine (bigSep_sdiff_split (bufs_sub L)).trans ?_
  rw [bigSep_map]
  unfold bufsS
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

section
variable {sp : Space} {s : Shape} {e : EltTy}

theorem has_of {m : Memref sig .scVector sp s e} {q : PosShare TreeShare} :
    iprop(∃ f, m.view.loc (thr d L) ↦{q} f) ⊢ (iprop(∃ g, has d L m q g) : sProp 𝕄) := by
  unfold has
  iintro ⟨%f, H⟩
  iexists m.view.read (Elt F) f, f
  isplitr [H]
  · ipureintro; rfl
  · iexact H

theorem of_has {m : Memref sig .scVector sp s e} {q : PosShare TreeShare} :
    iprop(∃ g, has d L m q g) ⊢ (iprop(∃ f, m.view.loc (thr d L) ↦{q} f) : sProp 𝕄) := by
  unfold has
  iintro ⟨%g, %f, -, H⟩
  iexists f
  iexact H
end

/-! ## The tile's part of the output -/

/-- The tile that makes column `n`, and the columns a tile makes. -/
def own (n : ℕ) : ℕ := if n < 999424 then n / 1024 % 32 else 31
def partS (w : ℕ) : Finset S20x1000000.Idx := Finset.univ.filter fun i => own (i 1).val = w

theorem tail_sub (w : ℕ) : tailS w ⊆ partS w := by
  intro i hi
  simp only [tailS, partS, own, Finset.mem_filter, Finset.mem_univ, _root_.true_and] at hi ⊢
  rw [if_neg (by omega), hi.2]

theorem part_sdiff (w : ℕ) : partS w \ tailS w = todoS w 0 := by
  ext i
  simp only [tailS, partS, todoS, own, Finset.mem_sdiff, Finset.mem_filter, Finset.mem_univ, _root_.true_and]
  split <;> omega

theorem part_split (w : ℕ) (f : Vec F S20x1000000 .f32) :
    (oP d L (partS w) f : sProp 𝕄) ⊣⊢ iprop(oP d L (tailS w) f ∗ oP d L (todoS w 0) f) := by
  have h := pointsTo_split_subset (q := fullShare) (f := f) (ℓ := oV.view.loc (thr d L)) (Val := Elt F) (Ix := HIx 1) (Name := ℕ) (Lvl := ℕ) (U := UU) (tail_sub w)
  rw [part_sdiff] at h
  exact h

section Task

variable {X : IVec S1000000 32} {tf : Vec F S200 .f32} {fo : Vec F S20x1000000 .f32}

/-- What a tile is given of the arrays, its part of the output at `f`. -/
def share (q : PosShare TreeShare) (tf : Vec F S200 .f32) (X : IVec S1000000 32) (f : Vec F S20x1000000 .f32) : sProp 𝕄 :=
  iprop(xP d L q X ∗ tP d L q tf ∗ oP d L (partS (wid L)) f)

set_option maxHeartbeats 4000000 in
theorem tile_body (hF : (K (F := F)).Facts) (hX : ∀ n, (wordAt X n).toNat < 128) (q : PosShare TreeShare)
    (O : CellTallies nD τ sig (HIx 1)) (W : Waits sig (HIx 1)) (hO : ∀ g, O g none = 0) :
    iprop(levAts (K (F := F)).L (K (F := F)).lev ∗ emp ∗ share d L q tf X fo ∗ scopedBufs (thr d L) ∗ scopedSems0 (thr d L) ∗ owes (thr d L) O W)
      ⊢ WP (cc0__body (F := F) L xV (Memref.isWhole_whole _) tV (Memref.isWhole_whole _) oV (Memref.isWhole_whole _) bT (Memref.isWhole_whole _) bL (Memref.isWhole_whole _) bX0 (Memref.isWhole_whole _) bX1 (Memref.isWhole_whole _) bP0 (Memref.isWhole_whole _) bP1 (Memref.isWhole_whole _) bPt (Memref.isWhole_whole _) bXt (Memref.isWhole_whole _)
    cc0_scratch8 cc0_scratch9 cc0_scratch10 cc0_scratch11 cc0_scoped0 cc0_scoped1 cc0_scoped2) fun _ =>
        iprop(share d L q tf X (outF tf X) ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold share
  iintro ⟨#Hlv, -, ⟨Hx, Ht, Ho⟩, ⟨⟨HT, HL, Hx0, Hx1, Hp0, Hp1, Hpt, Hxt⟩, Hbufs⟩, ⟨⟨Hs0, Hs1, Hs2, Ho0, Ho1, Hi0, Hi1⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (pointsTo_share (PosShare.mem_left_op_right q)).1 $$ Hx
  icases Hx' with ⟨Hxl, Hxr⟩
  ihave Ho' := (part_split d L _ _).1 $$ Ho
  icases Ho' with ⟨Htl, Hch⟩
  ihave HL' := (has_of d L (m := bL)) $$ HL
  icases HL' with ⟨%f₀, HL⟩
  iapply (wp_wand _ _ _) $$ [Ht HT Hs0 HL HO Hmw Hxl Hx0 Hi0 Hxr Hx1 Hi1 Hp0 Ho0 Hp1 Ho1 Hch Hxt Hs1 Hpt Hs2 Htl]
  · iapply (body_walk d L (tf := tf) (fo := fo) (O := O) (W := W) hX q q (f₀ := f₀))
    isplitl [Ht]; · iexact Ht
    isplitl [HT]; · iexact HT
    isplitl [Hs0]; · iexact Hs0
    isplitl [HL]; · iexact HL
    isplitl [HO Hmw]
    · unfold mayOwe owed
      isplitl [HO]
      · iexists W
        isplitr [HO]
        · ipureintro; exact fun p hp => Or.inl hp
        · iexact HO
      · iexact Hmw
    unfold keepR xFree pFree pBuf tailR
    isplitl [Hxl Hx0 Hi0]
    · isplitl [Hxl]; · iexact Hxl
      isplitl [Hx0]; · iexact Hx0
      iexact Hi0
    isplitl [Hxr Hx1 Hi1]
    · isplitl [Hxr]; · iexact Hxr
      isplitl [Hx1]; · iexact Hx1
      iexact Hi1
    isplitl [Hp0 Ho0]
    · isplitl [Hp0]
      · iapply (has_of d L (m := bP0)) $$ Hp0
      iexact Ho0
    isplitl [Hp1 Ho1]
    · isplitl [Hp1]
      · iapply (has_of d L (m := bP1)) $$ Hp1
      iexact Ho1
    isplitl [Hch]; · iexact Hch
    isplitl [Hxt]; · iexact Hxt
    isplitl [Hs1]; · iexact Hs1
    isplitl [Hpt]
    · iapply (has_of d L (m := bPt)) $$ Hpt
    isplitl [Hs2]; · iexact Hs2
    iexact Htl
  · unfold keepR xFree pFree pBuf tailR mayOwe owed
    iintro %_ ⟨Ht, HT, Hs0, HL, ⟨HO, -⟩, ⟨Hxl, Hx0, Hi0⟩, ⟨Hxr, Hx1, Hi1⟩, ⟨Hp0, Ho0⟩, ⟨Hp1, Ho1⟩, Hch, Hxt, Hs1, Hpt, Hs2, Htl⟩
    isplitl [Hxl Hxr Ht Htl Hch]
    · isplitl [Hxl Hxr]
      · iapply (pointsTo_share (PosShare.mem_left_op_right q)).2
        isplitl [Hxl]; · iexact Hxl
        iexact Hxr
      isplitl [Ht]; · iexact Ht
      iapply (part_split d L _ _).2
      isplitl [Htl]; · iexact Htl
      iexact Hch
    isplitl [HT HL Hx0 Hx1 Hp0 Hp1 Hpt Hxt Hbufs]
    · isplitr [Hbufs]
      · isplitl [HT]
        · iapply (of_has d L (m := bT)); iexists _; iexact HT
        isplitl [HL]
        · iapply (of_has d L (m := bL)); iexists _; iexact HL
        isplitl [Hx0]; · iexact Hx0
        isplitl [Hx1]; · iexact Hx1
        isplitl [Hp0]
        · iapply (of_has d L (m := bP0)) $$ Hp0
        isplitl [Hp1]
        · iapply (of_has d L (m := bP1)) $$ Hp1
        isplitl [Hpt]
        · iapply (of_has d L (m := bPt)) $$ Hpt
        iexact Hxt
      iexact Hbufs
    isplitl [Hs0 Hs1 Hs2 Ho0 Ho1 Hi0 Hi1 Hsems]
    · isplitr [Hsems]
      · isplitl [Hs0]; · iexact Hs0
        isplitl [Hs1]; · iexact Hs1
        isplitl [Hs2]; · iexact Hs2
        isplitl [Ho0]; · iexact Ho0
        isplitl [Ho1]; · iexact Ho1
        isplitl [Hi0]; · iexact Hi0
        iexact Hi1
      iexact Hsems
    iexact HO

end Task

end Cert.Proof.Run

end
-- ==== Proof.Launch.lean ====
/-
  The launch: the thirty-two tiles' shares of the three arrays, dealt by @main and brought
  back, the reshape before the call and the transpose after it.
-/
module

public import proofs.«01_k».proof.Proof.Task

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.ShareLeaves (leaf pointsTo_leaves)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

abbrev xLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev x' : DevRef τ sig := Proc.devRef .tc (main_arg0 : Ref sig .tc)
abbrev a' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev S5 : Finset (DevRef τ sig) := {x', a', t', o', r'}

abbrev opFlat : HloOp τ sig (Elt F) := StableHlo.reshape main_arg1 main_v0 (rfl : (.f32 : EltTy) = .f32) shapeCasts_S10x20_S200
abbrev opTurn : HloOp τ sig (Elt F) :=
  StableHlo.unary main_v1 main_v2
    ((transpose S1000000x20 [1, 0] · transposes_S20x1000000_S1000000x20_1_0) : (⟨S20x1000000, .f32⟩ : BufTy).Contents (Elt F) → (⟨S1000000x20, .f32⟩ : BufTy).Contents (Elt F))

theorem hFlat : (opFlat (F := F)).bufs ⊆ S5 := show ({a', t'} : Finset (DevRef τ sig)) ⊆ S5 by decide
theorem hTurn : (opTurn (F := F)).bufs ⊆ S5 := show ({o', r'} : Finset (DevRef τ sig)) ⊆ S5 by decide

theorem held_S5 (d : Dev nD) (W : Valuation τ sig (Elt F)) :
    (held (T d) S5 W : sProp 𝕄) = iprop((xLoc d ↦{fullShare} W x') ∗ (aLoc d ↦{fullShare} W a') ∗ (tLoc d ↦{fullShare} W t')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (aLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-! ## The contents through @main -/

section Contents

variable (m : (ℓ : Loc nD τ sig) → Buf (Elt F) ℓ) (d : Dev nD)

/-- The contents at the launch; after the reshape; after the call; after the transpose. -/
def V0 : Valuation τ sig (Elt F) := fun b => m (d, b)
def V1 : Valuation τ sig (Elt F) := (opFlat (F := F)).result (V0 m d)
/-- The flattened table. -/
def flat : Vec F S200 .f32 := V1 m d t'
/-- What the tiles leave together. -/
def outAll : Vec F S20x1000000 .f32 := outF (flat m d) (m (xLoc d))
def V2 : Valuation τ sig (Elt F) := Function.update (V1 m d) o' (outAll m d)
def V3 : Valuation τ sig (Elt F) := (opTurn (F := F)).result (V2 m d)
/-- The result. -/
def resV : Vec F S1000000x20 .f32 := V3 m d r'

theorem unscoped_held : (unscopedBufs d (fun b => m ((SparseCore.T d).loc b)) : sProp 𝕄) = held (T d) S5 (V0 m d) := by
  rw [unscopedBufs_eq, held_S5]; rfl

theorem V1_of {b : DevRef τ sig} (h : b ≠ t') : V1 m d b = m (d, b) :=
  (opFlat (F := F)).result_of_not_mem (V0 m d) (b := b) (fun hb => h (Finset.mem_singleton.mp hb))
theorem V2_of {b : DevRef τ sig} (h : b ≠ o') : V2 m d b = V1 m d b := Function.update_of_ne h _ _
theorem V2_o : V2 m d o' = outAll m d := Function.update_self _ _ _
theorem V3_of {b : DevRef τ sig} (h : b ≠ r') : V3 m d b = V2 m d b :=
  (opTurn (F := F)).result_of_not_mem (V2 m d) (b := b) (fun hb => h (Finset.mem_singleton.mp hb))

theorem flat_eq (i : S200.Idx) : flat m d i = shapeCast S200 (m (aLoc d) : Vec F S10x20 .f32) shapeCasts_S10x20_S200 i := by
  unfold flat V1
  rw [StableHlo.reshape_result]
  rfl

theorem resV_eq : resV m d = transpose S1000000x20 [1, 0] (outAll m d) transposes_S20x1000000_S1000000x20_1_0 := by
  unfold resV V3
  rw [StableHlo.unary_result, V2_o]

end Contents

/-! ## The tiles' shares -/

/-- The pairs of a subcore and a core, numbered. -/
def kEq : Fin 16 × Fin 2 ≃ Fin (2 ^ 5) := finProdFinEquiv
/-- The number of the tile of core `c`, subcore `i`. -/
def kOf (c : Fin 2) (i : Fin 16) : Fin (2 ^ 5) := kEq (i, c)
theorem kOf_val (c : Fin 2) (i : Fin 16) : (kOf c i).val = 2 * i.val + c.val := by
  show c.val + 2 * i.val = _
  omega

section Shares

variable (d : Dev nD)

/-- Tile `k`'s share: of the words and the table to read, and its own columns of the output at `f`. -/
abbrev tileSh (k : Fin (2 ^ 5)) (X : Buf (Elt F) (xLoc d)) (tf : Buf (Elt F) (tLoc d)) (f : Buf (Elt F) (oLoc d)) : sProp 𝕄 :=
  iprop((xLoc d ↦{leaf 5 fullShare k} X) ∗ (tLoc d ↦{leaf 5 fullShare k} tf) ∗ (oLoc d ↦[partS k.val]{fullShare} f))

theorem own_lt {n : ℕ} : own n < 2 ^ 5 := by
  unfold own
  split <;> omega

theorem parts_disjoint : ∀ i ∈ (Finset.univ : Finset (Fin (2 ^ 5))), ∀ j ∈ (Finset.univ : Finset (Fin (2 ^ 5))), i ≠ j → Disjoint (partS i.val) (partS j.val) := by
  intro i _ j _ h
  refine Finset.disjoint_left.2 fun a ha hb => h (Fin.ext ?_)
  simp only [partS, Finset.mem_filter, Finset.mem_univ, _root_.true_and] at ha hb
  exact ha.symm.trans hb

theorem parts_cover : (Finset.univ : Finset (Fin (2 ^ 5))).biUnion (fun k => partS k.val) = Finset.univ := by
  ext i
  simp only [Finset.mem_biUnion, Finset.mem_univ, _root_.true_and, iff_true]
  exact ⟨⟨own (i 1).val, own_lt⟩, by simp only [partS, Finset.mem_filter, Finset.mem_univ, _root_.true_and]⟩

theorem out_parts (f : Buf (Elt F) (oLoc d)) :
    (oLoc d ↦{fullShare} f : sProp 𝕄) = bigSep Finset.univ fun k : Fin (2 ^ 5) => oLoc d ↦[partS k.val]{fullShare} f := by
  rw [← pointsTo_biUnion Finset.univ (ℓ := oLoc d) (fun k : Fin (2 ^ 5) => partS k.val) parts_disjoint, parts_cover]; try rfl

theorem bigSep_tiles (Φ : Fin (2 ^ 5) → sProp 𝕄) :
    (bigSep Finset.univ fun c : Fin 2 => bigSep Finset.univ fun i : Fin 16 => Φ (kOf c i)) = bigSep Finset.univ Φ := by
  rw [bigSep_univ_equiv kEq Φ, bigSep_univ_prod, bigSep_univ_comm]
  rfl

/-- The three arrays whole are the tiles' shares together. -/
theorem shares_eq (X : Buf (Elt F) (xLoc d)) (tf : Buf (Elt F) (tLoc d)) (f : Buf (Elt F) (oLoc d)) :
    (bigSep Finset.univ fun c : Fin 2 => bigSep Finset.univ fun i : Fin 16 => tileSh d (kOf c i) X tf f)
      = (iprop((xLoc d ↦{fullShare} X) ∗ (tLoc d ↦{fullShare} tf) ∗ (oLoc d ↦{fullShare} f)) : sProp 𝕄) := by
  rw [bigSep_tiles (fun k => tileSh d k X tf f), bigSep_sep', bigSep_sep', out_parts, ← pointsTo_leaves Finset.univ X 5 fullShare,
    ← pointsTo_leaves Finset.univ tf 5 fullShare]

end Shares

/-! ## What the call carries -/

theorem nCore_zero : (K (F := F)).nCore 0 = 2 := rfl

variable [FloatOps F] (m : (ℓ : Loc nD τ sig) → Buf (Elt F) ℓ) (ρ : Dev nD → PrngReg)

/-- Tile `(c, i)`'s share before its task and after it. -/
abbrev goT (d : Dev nD) (c : Fin 2) (i : Fin 16) : sProp 𝕄 := tileSh d (kOf c i) (m (xLoc d)) (flat m d) (m (oLoc d))
abbrev tdT (d : Dev nD) (c : Fin 2) (i : Fin 16) : sProp 𝕄 := tileSh d (kOf c i) (m (xLoc d)) (flat m d) (outAll m d)

def P : (K (F := F)).Pay (nD := nD) (Val := Elt F) (Name := ℕ) (U := UU) where
  st := fun q d c => match q with | 0 => bigSep Finset.univ fun i : Fin 16 => goT m d (Fin.cast nCore_zero c) i
  dn := fun q d c => match q with | 0 => bigSep Finset.univ fun i : Fin 16 => tdT m d (Fin.cast nCore_zero c) i
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goT m d (Fin.cast nCore_zero c) i))
  dn q d c := match q with
    | 0 => (inferInstance : BI.Storable (upEmb : UEmb _ 𝕄) (bigSep Finset.univ fun i : Fin 16 => tdT m d (Fin.cast nCore_zero c) i))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

/-- Every word is below 128. -/
def PreOK : Prop := ∀ (d : Dev nD) (n : ℕ), (wordAt (m (xLoc d)) n).toNat < 128

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          xV (Memref.isWhole_whole _) tV (Memref.isWhole_whole _) oV (Memref.isWhole_whole _)
          bT (Memref.isWhole_whole _) bL (Memref.isWhole_whole _) bX0 (Memref.isWhole_whole _) bX1 (Memref.isWhole_whole _)
          bP0 (Memref.isWhole_whole _) bP1 (Memref.isWhole_whole _) bPt (Memref.isWhole_whole _) bXt (Memref.isWhole_whole _)
          cc0_scratch8 cc0_scratch9 cc0_scratch10 cc0_scratch11 cc0_scoped0 cc0_scoped1 cc0_scoped2) ⟨⟩ c s := rfl

theorem obl_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's share by its coordinates is its share by its number. -/
theorem share_tile (d : Dev nD) (c : Fin 2) (i : Fin 16) (X : Buf (Elt F) (xLoc d)) (tf : Buf (Elt F) (tLoc d)) (f : Buf (Elt F) (oLoc d)) :
    (share d (coordsV c i) (leaf 5 fullShare (kOf c i)) tf X f : sProp 𝕄) = tileSh d (kOf c i) X tf f := by
  have h : wid (coordsV c i) = (kOf c i).val := (kOf_val c i).symm
  unfold share tileSh
  rw [← h]

set_option maxRecDepth 100000 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := (tile_body (tf := flat m d) (fo := m (oLoc d)) d (coordsV ⟨_, hci.1⟩ ⟨_, hci.2⟩) hF (hpre d) (leaf 5 fullShare (kOf (Fin.cast nCore_zero c) (Fin.cast nSub_zero i))) O W hO).trans
    (wp_mono frame _ _ fun _ => obl_post (q := 0))
  have e := fun f => share_tile d (Fin.cast nCore_zero c) (Fin.cast nSub_zero i) (m (xLoc d)) (flat m d) f
  have e' : ∀ f, (share d (coordsV ⟨_, hci.1⟩ ⟨_, hci.2⟩) (leaf 5 fullShare (kOf (Fin.cast nCore_zero c) (Fin.cast nSub_zero i))) (flat m d) (m (xLoc d)) f : sProp 𝕄)
    = tileSh d (kOf (Fin.cast nCore_zero c) (Fin.cast nSub_zero i)) (m (xLoc d)) (flat m d) f := e
  rw [e', e'] at h
  exact h

/-! ## The call's shares -/

theorem bigSep_tasks (Φ : Fin 16 → sProp (MT nD τ sig (HIx 1) (Elt F) ℕ UU ℕ)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goT m d (Fin.cast nCore_zero c) i) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ (bigSep Finset.univ fun i : Fin 16 => tdT m d (Fin.cast nCore_zero c) i)))
  rw [bigSep_tasks (F := F) (fun i => goT m d (Fin.cast nCore_zero c) i), bigSep_tasks (F := F) (fun i => tdT m d (Fin.cast nCore_zero c) i)]
  iintro H; imodintro
  isplitl [H]; · iexact H
  iintro H; iexact H

theorem st0_eq (d : Dev nD) : (bigSep Finset.univ fun c : Fin ((K (F := F)).nCore 0) => (P m).st 0 d c)
    = iprop((xLoc d ↦{fullShare} m (xLoc d)) ∗ (tLoc d ↦{fullShare} flat m d) ∗ (oLoc d ↦{fullShare} m (oLoc d))) :=
  shares_eq d (m (xLoc d)) (flat m d) (m (oLoc d))
theorem dn0_eq (d : Dev nD) : (bigSep Finset.univ fun c : Fin ((K (F := F)).nCore 0) => (P m).dn 0 d c)
    = iprop((xLoc d ↦{fullShare} m (xLoc d)) ∗ (tLoc d ↦{fullShare} flat m d) ∗ (oLoc d ↦{fullShare} outAll m d)) :=
  shares_eq d (m (xLoc d)) (flat m d) (outAll m d)

/-! ## The ghost state at the launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

/-- What @main leaves: the arguments as they were, and the result. -/
abbrev FIN (d : Dev nD) : sProp (MT nD τ sig (HIx 1) (Elt F) ℕ UU ℕ) :=
  iprop((xLoc d ↦{fullShare} m (xLoc d)) ∗ (aLoc d ↦{fullShare} m (aLoc d)) ∗ rLoc d ↦{fullShare} resV m d)

theorem held_V1 (d : Dev nD) : (held (T d) S5 ((opFlat (F := F)).result (V0 m d)) : sProp 𝕄)
    = iprop((xLoc d ↦{fullShare} m (xLoc d)) ∗ (aLoc d ↦{fullShare} m (aLoc d)) ∗ (tLoc d ↦{fullShare} flat m d)
      ∗ (oLoc d ↦{fullShare} m (oLoc d)) ∗ rLoc d ↦{fullShare} m (rLoc d)) := by
  have e := held_S5 d (V1 m d)
  rw [V1_of m d (b := x') (by decide), V1_of m d (b := a') (by decide), V1_of m d (b := o') (by decide), V1_of m d (b := r') (by decide)] at e
  exact e

theorem held_V2 (d : Dev nD) : (held (T d) S5 (V2 m d) : sProp 𝕄)
    = iprop((xLoc d ↦{fullShare} m (xLoc d)) ∗ (aLoc d ↦{fullShare} m (aLoc d)) ∗ (tLoc d ↦{fullShare} flat m d)
      ∗ (oLoc d ↦{fullShare} outAll m d) ∗ rLoc d ↦{fullShare} m (rLoc d)) := by
  have e := held_S5 d (V2 m d)
  rw [V2_o, V2_of m d (b := x') (by decide), V2_of m d (b := a') (by decide), V2_of m d (b := t') (by decide), V2_of m d (b := r') (by decide),
    V1_of m d (b := x') (by decide), V1_of m d (b := a') (by decide), V1_of m d (b := r') (by decide)] at e
  exact e

theorem held_V3 (d : Dev nD) : (held (T d) S5 ((opTurn (F := F)).result (V2 m d)) : sProp 𝕄)
    = iprop((xLoc d ↦{fullShare} m (xLoc d)) ∗ (aLoc d ↦{fullShare} m (aLoc d)) ∗ (tLoc d ↦{fullShare} flat m d)
      ∗ (oLoc d ↦{fullShare} outAll m d) ∗ rLoc d ↦{fullShare} resV m d) := by
  have e := held_S5 d (V3 m d)
  rw [V3_of m d (b := x') (by decide), V3_of m d (b := a') (by decide), V3_of m d (b := t') (by decide), V3_of m d (b := o') (by decide),
    V2_o, V2_of m d (b := x') (by decide), V2_of m d (b := a') (by decide), V2_of m d (b := t') (by decide),
    V1_of m d (b := x') (by decide), V1_of m d (b := a') (by decide)] at e
  exact e

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the table flattened
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  ihave Hh := (Entails.of_eq (held_V1 (F := F) m d)) $$ Hheld
  icases Hh with ⟨Hx, Ha, Ht, Ho, Hr⟩
  rw [wp_ret]; imodintro
  -- the call
  iapply ((K (F := F)).wp_run (D (F := F)) 𝒱 (EH := EH) (P := P m) κ d 0) $$ [Hst Hx Ht Ho Hb Ha Hr Hts]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn' := (Entails.of_eq (dn0_eq m d)) $$ Hdn
  icases Hdn' with ⟨Hx, Ht, Ho⟩
  -- the output turned
  iapply (wp_hlo_within 𝒱 (SparseCore.T d) none Set.univ (op := opTurn) (S := S5) hTurn (V := V2 m d)) $$ [Hb Hx Ha Ht Ho Hr]
  · isplitl [Hb]; · iexact Hb
    rw [held_V2]
    isplitl [Hx]; · iexact Hx
    isplitl [Ha]; · iexact Ha
    isplitl [Ht]; · iexact Ht
    isplitl [Ho]; · iexact Ho
    iexact Hr
  iintro ⟨Hb, Hheld⟩
  ihave Hh := (Entails.of_eq (held_V3 (F := F) m d)) $$ Hheld
  icases Hh with ⟨Hx, Ha, -, -, Hr⟩
  rw [wp_ret]; imodintro; imodintro
  isplitl [Hst]; · iexact Hst
  isplitr [Hb Hts]
  · isplitl [Hx]; · iexact Hx
    isplitl [Ha]; · iexact Ha
    iexact Hr
  isplitl [Hb] <;> iassumption

def fq (d : Dev nD) (s' : Phys nD τ sig (Elt F)) : Prop :=
  s'.mem.mem (xLoc d) = m (xLoc d) ∧ s'.mem.mem (aLoc d) = m (aLoc d) ∧ s'.mem.mem (rLoc d) = resV m d

set_option maxRecDepth 16384 in
theorem hfin (d : Dev nD) (s' : Phys nD τ sig (Elt F)) : iprop(FIN m d ∗ SI s') ⊢ (⌜fq m d s'⌝ : sProp 𝕄) := by
  iintro ⟨⟨Hx, Ha, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := resV m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (xLoc c) = m (xLoc c) ∧ r.2.mem (aLoc c) = m (aLoc c) ∧ r.2.mem (rLoc c) = resV m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Frames.lean ====
/-
  The kernel's frames: its run, read at the arguments.
-/
module

public import proofs.«01_k».proof.Proof.Launch
public import Idealize.ShloMosaic.Lib.ReduceAll
public import proofs.«01_k».proof.Proof.Gen.Kernel

@[expose] public section

noncomputable section

namespace Cert.Proof.Run

open Cert.KernelIdeal Cert.KernelIdeal.Gen
open Idealize.ShloMosaic
open Idealize.SL Idealize.SL.Sem

/-- A word that tests as at least 0 and below 128 is its own value, below 128. -/
theorem word_of_test (v : BitVec 32) (e : IntOp.andi (IntOp.cmpi .sge v 0#32) (IntOp.cmpi .slt v 128#32) = 1#1) : v.toNat < 128 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_in_range.S_.Idx := ⟨fun a b => funext fun i => i.elim0⟩

/-- What the precondition says of the words. -/
theorem words_of_pre {F : FTy → Type} [FloatOps F] (X : IVec S1000000 32) (t : FVec F S10x20 .f32)
    (h : Cert.Pre_in_range.fn (F := F) X t = fun _ => 1#1) (n : ℕ) : (wordAt X n).toNat < 128 := by
  have e := Host.reduce_andi_all _ _ _ _ _ (congrFun h (fun a => a.elim0)) (fun a => ⟨n % 1000000, by obtain rfl : a = 0 := Subsingleton.elim _ _; exact Nat.mod_lt n (by norm_num)⟩)
  exact word_of_test _ e

theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d n => words_of_pre _ _ (hpre d) n)

set_option maxRecDepth 100000 in
theorem frame_kernel : Cert.quiescent_Kernel := fun m ρ hpre =>
  (θ_run (Cert.KernelIdeal.defs (F := Bits)) _ _).mono (fun _ h => ⟨fun c => ⟨(h.1 c).1, (h.1 c).2.1⟩, h.2⟩)
    (run_main (F := Bits) m ρ fun d n => words_of_pre _ _ (hpre d) n)

end Cert.Proof.Run

end
-- ==== Proof.Ref.lean ====
/-
  The reference: its run, and the contents of its result as one term of the arguments'.
-/
module

public import proofs.«01_k».proof.Proof.Frames
public import proofs.«01_k».proof.Proof.Gen.ReferenceIdeal
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- @main's operations, the two calls unfolded: the buckets by counting, -/
abbrev opsA : List (HloOp τ sig (Elt F)) :=
  [ nullary main_c (fun i => lit0 (S9.rowMajor i)),
    unary main_arg0 main_v0 (broadcastInDim S1000000x1 ![0] bcast_S1000000_S1000000x1_0),
    unary main_c main_v1 (broadcastInDim S1x9 ![1] bcast_S9_S1x9_1),
    unary main_v0 main_v2 (broadcastInDim S1000000x9 ![0, 1] bcast_S1000000x1_S1000000x9_0_1),
    unary main_v1 main_v3 (broadcastInDim S1000000x9 ![0, 1] bcast_S1x9_S1000000x9_0_1),
    binary main_v2 main_v3 main_v4 (cmpi .sge),
    unary main_v4 main_v5 (extui 32 · natLt_1_32),
    nullary main_c_0 (constantI S_ 32 0#32),
    binary main_v5 main_c_0 main_v6 (fun x v => Host.reduce IntOp.addi x v reducesTo_S1000000x9_S1000000_d1 h_S_) ]

/-- the row numbers, a negative one counted from the end, -/
abbrev opsB : List (HloOp τ sig (Elt F)) :=
  [ TRef.nullary main_call0.c (constantI S_ 32 0#32),
    TRef.unary main_call0.c main_call0.v0 (broadcastInDim S1000000 ![] bcast_S_S1000000),
    TRef.binary (.of main_v6) main_call0.v0 main_call0.v1 (cmpi .slt),
    TRef.nullary main_call0.c_0 (constantI S_ 32 10#32),
    TRef.unary main_call0.c_0 main_call0.v2 (broadcastInDim S1000000 ![] bcast_S_S1000000),
    TRef.binary (.of main_v6) main_call0.v2 main_call0.v3 addi,
    TRef.ternary main_call0.v1 main_call0.v3 (.of main_v6) main_call0.call0.v0 select,
    TRef.unary main_call0.call0.v0 main_call0.v5 (broadcastInDim S1000000x1 ![0] bcast_S1000000_S1000000x1_0) ]

/-- which of them are rows, -/
abbrev opsC : List (HloOp τ sig (Elt F)) :=
  [ TRef.nullary main_call0.c_1 (constantI S1 32 9#32),
    TRef.nullary main_call0.c_2 (constantI S_ 32 0#32),
    TRef.unary main_call0.c_2 main_call0.v6 (broadcastInDim S1000000x1 ![] bcast_S_S1000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000000x1 ![0, 1] bcast_S1x1_S1000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000000x1_S1000000_d1 h_S_) ]

/-- and the rows by their numbers. -/
abbrev opsD : List (HloOp τ sig (Elt F)) :=
  [ TRef.binary (.of main_arg1) main_call0.v5 main_call0.v13 (fun x i => Host.gather gather_S10x20_S1000000x1_S1000000x20_1_0_n_n_0_1_120 x i),
    TRef.unary main_call0.v12 main_call0.v14 (broadcastInDim S1000000x20 ![0] bcast_S1000000_S1000000x20_0),
    TRef.nullary main_call0.cst (constant S_ .f32 0x7FC00000#32),
    TRef.unary main_call0.cst main_call0.v15 (broadcastInDim S1000000x20 ![] bcast_S_S1000000x20),
    TRef.ternary main_call0.v14 main_call0.v13 main_call0.v15 main_call0.v16 select ]

abbrev ops : List (HloOp τ sig (Elt F)) := opsA ++ (opsB ++ (opsC ++ opsD))

theorem main_eq (c : Dev nD) : main (F := F) c = seq ops := by
  simp only [main, fn_take.body, fn_where.body, List.cons_append, List.nil_append, seq, bind_assoc, pure_bind]
  rfl

/-! ## The result's contents -/

/-- How many of the nine bounds each word has reached. -/
def counts (X : IVec S1000000 32) : IVec S1000000 32 :=
  Host.reduce IntOp.addi
    (extui 32 (cmpi .sge (broadcastInDim S1000000x9 ![0, 1] bcast_S1000000x1_S1000000x9_0_1 (broadcastInDim S1000000x1 ![0] bcast_S1000000_S1000000x1_0 X))
      (broadcastInDim S1000000x9 ![0, 1] bcast_S1x9_S1000000x9_0_1 (broadcastInDim S1x9 ![1] bcast_S9_S1x9_1 (fun i : S9.Idx => lit0 (S9.rowMajor i))))) natLt_1_32)
    (constantI S_ 32 0#32) reducesTo_S1000000x9_S1000000_d1 h_S_

/-- The row numbers as the rows' selection takes them: a negative one counted from the end. -/
def rowIx (I : IVec S1000000 32) : IVec S1000000x1 32 :=
  broadcastInDim S1000000x1 ![0] bcast_S1000000_S1000000x1_0
    (select (cmpi .slt I (broadcastInDim S1000000 ![] bcast_S_S1000000 (constantI S_ 32 0#32)))
      (addi I (broadcastInDim S1000000 ![] bcast_S_S1000000 (constantI S_ 32 10#32))) I)

/-- Which row numbers are rows. -/
def rowOk (J : IVec S1000000x1 32) : IVec S1000000 1 :=
  Host.reduce IntOp.andi
    (andi (cmpi .sge J (broadcastInDim S1000000x1 ![] bcast_S_S1000000x1 (constantI S_ 32 0#32)))
      (cmpi .sle J (broadcastInDim S1000000x1 ![0, 1] bcast_S1x1_S1000000x1_0_1 (broadcastInDim S1x1 ![1] bcast_S1_S1x1_1 (constantI S1 32 9#32)))))
    (constantI S_ 1 1#1) reducesTo_S1000000x1_S1000000_d1 h_S_

/-- The rows by their numbers, a row that is not there filled with one fixed word. -/
def rows (A : FVec F S10x20 .f32) (J : IVec S1000000x1 32) (K : IVec S1000000 1) : FVec F S1000000x20 .f32 :=
  select (broadcastInDim S1000000x20 ![0] bcast_S1000000_S1000000x20_0 K)
    (Host.gather gather_S10x20_S1000000x1_S1000000x20_1_0_n_n_0_1_120 A J)
    (broadcastInDim S1000000x20 ![] bcast_S_S1000000x20 (constant S_ .f32 0x7FC00000#32))

def out (X : IVec S1000000 32) (A : FVec F S10x20 .f32) : FVec F S1000000x20 .f32 :=
  rows A (rowIx (counts X)) (rowOk (rowIx (counts X)))

theorem counts_eq (V : Valuation τ sig (Elt F)) : after opsA V (main_v6 : DevRef τ sig) = counts (V (main_arg0 : DevRef τ sig)) := by
  after_results_simp
  rfl

theorem rowIx_eq (V : Valuation τ sig (Elt F)) : after opsB V (main_call0_v5 : DevRef τ sig) = rowIx (V (main_v6 : DevRef τ sig)) := by
  after_results_simp
  rfl

theorem rowOk_eq (V : Valuation τ sig (Elt F)) : after opsC V (main_call0_v12 : DevRef τ sig) = rowOk (V (main_call0_v5 : DevRef τ sig)) := by
  after_results_simp
  have h5 (v : IVec S1000000x1 32) : main_call0.v5.ofBuf (Val := Elt F) v = v := rfl
  have h12 (v : IVec S1000000 1) : main_call0.v12.toBuf (Val := Elt F) v = v := rfl
  simp only [TRef.ofBuf_toBuf]
  exact (h12 _).trans (congrArg (fun J : IVec S1000000x1 32 => rowOk J) (h5 (V (main_call0_v5 : DevRef τ sig))))

theorem rows_eq (V : Valuation τ sig (Elt F)) : after opsD V (main_v7 : DevRef τ sig) =
      rows (V (main_arg1 : DevRef τ sig)) (V (main_call0_v5 : DevRef τ sig)) (V (main_call0_v12 : DevRef τ sig)) := by
  after_results_simp
  rfl

theorem kept_ix (V : Valuation τ sig (Elt F)) : after opsC V (main_call0_v5 : DevRef τ sig) = V (main_call0_v5 : DevRef τ sig) := by
  simp only [after_cons, after_nil]
  rfl

theorem kept_0A (V : Valuation τ sig (Elt F)) : after opsA V (main_arg0 : DevRef τ sig) = V (main_arg0 : DevRef τ sig) := by
  simp only [after_cons, after_nil]
  rfl

theorem kept_1A (V : Valuation τ sig (Elt F)) : after opsA V (main_arg1 : DevRef τ sig) = V (main_arg1 : DevRef τ sig) := by
  simp only [after_cons, after_nil]
  rfl

theorem kept_0B (V : Valuation τ sig (Elt F)) : after opsB V (main_arg0 : DevRef τ sig) = V (main_arg0 : DevRef τ sig) := by
  simp only [after_cons, after_nil]
  rfl

theorem kept_1B (V : Valuation τ sig (Elt F)) : after opsB V (main_arg1 : DevRef τ sig) = V (main_arg1 : DevRef τ sig) := by
  simp only [after_cons, after_nil]
  rfl

theorem kept_0C (V : Valuation τ sig (Elt F)) : after opsC V (main_arg0 : DevRef τ sig) = V (main_arg0 : DevRef τ sig) := by
  simp only [after_cons, after_nil]
  rfl

theorem kept_1C (V : Valuation τ sig (Elt F)) : after opsC V (main_arg1 : DevRef τ sig) = V (main_arg1 : DevRef τ sig) := by
  simp only [after_cons, after_nil]
  rfl

theorem kept_0D (V : Valuation τ sig (Elt F)) : after opsD V (main_arg0 : DevRef τ sig) = V (main_arg0 : DevRef τ sig) := by
  simp only [after_cons, after_nil]
  rfl

theorem kept_1D (V : Valuation τ sig (Elt F)) : after opsD V (main_arg1 : DevRef τ sig) = V (main_arg1 : DevRef τ sig) := by
  simp only [after_cons, after_nil]
  rfl

theorem out_eq (V : Valuation τ sig (Elt F)) :
    after ops V (main_v7 : DevRef τ sig) = out (V (main_arg0 : DevRef τ sig)) (V (main_arg1 : DevRef τ sig)) := by
  rw [after_append, after_append, after_append, rows_eq, rowOk_eq, kept_ix, rowIx_eq, kept_1C, kept_1B, counts_eq, kept_1A]
  rfl

theorem arg0_eq (V : Valuation τ sig (Elt F)) : after ops V (main_arg0 : DevRef τ sig) = V (main_arg0 : DevRef τ sig) := by
  rw [after_append, after_append, after_append, kept_0D, kept_0C, kept_0B, kept_0A]

theorem arg1_eq (V : Valuation τ sig (Elt F)) : after ops V (main_arg1 : DevRef τ sig) = V (main_arg1 : DevRef τ sig) := by
  rw [after_append, after_append, after_append, kept_1D, kept_1C, kept_1B, kept_1A]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub ..,
    nullary_bufs_sub .., binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub .., binary_bufs_sub ..,
    unary_bufs_sub .., nullary_bufs_sub .., unary_bufs_sub .., ternary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem frame : Cert.quiescent_ReferenceIdeal := fun m ρ _ =>
  (θ_run Cert.ReferenceIdeal.defs _ _).mono
    (fun r h => ⟨fun c => ⟨(h c main_arg0).trans (arg0_eq _), (h c main_arg1).trans (arg1_eq _)⟩, sem_eq_zero_of_no_sems (by decide) r.2⟩)
    (run_main (F := Ideal) m ρ)

theorem frame_in_range : Cert.quiescent_ReferenceIdeal_pre_in_range := fun m ρ _ => frame m ρ trivial

end Cert.Proof.Ref

end
-- ==== Proof.Value.lean ====
/-
  The equation: the reference's result and the kernel's hold the same entries, each the table's row of its word's bucket.
-/
module

public import proofs.«01_k».proof.Proof.Ref
public import Idealize.ShloMosaic.Lib.Routing.Ops

@[expose] public section

noncomputable section

namespace Cert.Proof.Ref

open Cert.ReferenceIdeal Cert.ReferenceIdeal.Gen
open Idealize.ShloMosaic Idealize.ShloMosaic.ValueIdx Idealize.ShloMosaic.TcCoe Idealize.ShloMosaic.StableHlo Idealize.SL.Sem
open Cert.Proof.Run (bucket bucket_le tabAt tabAt_of wordAt wordAt_of lutV)

variable {F : FTy → Type} [FloatOps F]

/-! ## The row numbers -/

/-- A word below 128 has reached as many of the bounds as its bucket says. -/
theorem count_word : ∀ n : Fin 128,
    ∑ k : Fin 9, (IntOp.cmpi .sge (BitVec.ofNat 32 n.val) (lit0 k)).setWidth 32 = BitVec.ofNat 32 (bucket n.val) := by
  decide

/-- Whether word `n` has reached bound `k`, as a word. -/
theorem reached (X : IVec S1000000 32) (n : Fin 1000000) (k : Fin 9) :
    (cmpi .sge (broadcastInDim S1000000x9 ![0, 1] bcast_S1000000x1_S1000000x9_0_1 (broadcastInDim S1000000x1 ![0] bcast_S1000000_S1000000x1_0 X))
      (broadcastInDim S1000000x9 ![0, 1] bcast_S1x9_S1000000x9_0_1 (broadcastInDim S1x9 ![1] bcast_S9_S1x9_1 (fun i : S9.Idx => lit0 (S9.rowMajor i))))) (ix2 n k)
      = IntOp.cmpi .sge (wordAt X n.val) (lit0 k) := by
  have hX : broadcastInDim S1000000x9 ![0, 1] bcast_S1000000x1_S1000000x9_0_1 (broadcastInDim S1000000x1 ![0] bcast_S1000000_S1000000x1_0 X) (ix2 n k)
      = wordAt X n.val := by
    rw [broadcastInDim_apply _ _ _ _ (ix2 n (0 : Fin 1)) (fun a => match a with | ⟨0, _⟩ => rfl | ⟨1, _⟩ => rfl),
      broadcastInDim_apply _ _ _ _ (ix1 n) (fun a => match a with | ⟨0, _⟩ => rfl)]
    exact wordAt_of X _
  have hB : broadcastInDim S1000000x9 ![0, 1] bcast_S1x9_S1000000x9_0_1 (broadcastInDim S1x9 ![1] bcast_S9_S1x9_1 (fun i : S9.Idx => lit0 (S9.rowMajor i))) (ix2 n k)
      = lit0 k := by
    rw [broadcastInDim_apply _ _ _ _ (ix2 (0 : Fin 1) k) (fun a => match a with | ⟨0, _⟩ => rfl | ⟨1, _⟩ => rfl),
      broadcastInDim_apply _ _ _ _ (ix1 k) (fun a => match a with | ⟨0, _⟩ => rfl)]
    exact congrArg lit0 (Fin.ext (Shape.rowMajor_val_one _))
  show IntOp.cmpi .sge _ _ = _
  rw [hX, hB]

theorem counts_apply (X : IVec S1000000 32) (n : Fin 1000000) (hX : (wordAt X n.val).toNat < 128) :
    counts X (ix1 n) = BitVec.ofNat 32 (bucket (wordAt X n.val).toNat) := by
  have hR : S1000000x9.Reduces [1] S1000000 := by decide
  have hl (k : Fin 9) : hR.lift (ix1 n) k = ix2 n k := by
    funext a
    match a with
    | ⟨0, _⟩ => rfl
    | ⟨1, _⟩ => rfl
  unfold counts
  rw [Host.reduce_eq_fold_single IntOp.addi _ _ _ hR]
  refine Eq.trans (b := ∑ k : Fin 9, (IntOp.cmpi .sge (wordAt X n.val) (lit0 k)).setWidth 32) ?_ ?_
  · rw [Finset.sum_eq_fold]
    refine Finset.fold_congr fun k _ => ?_
    exact congrArg (BitVec.setWidth 32) (Eq.trans (congrArg _ (hl k)) (reached X n k))
  · have h := count_word ⟨_, hX⟩
    rwa [show BitVec.ofNat 32 (wordAt X n.val).toNat = wordAt X n.val by simp] at h

/-- A row number that is one of the ten rows' is not negative and passes both tests. -/
theorem row_word : ∀ b : Fin 10,
    Scalar.select (IntOp.cmpi .slt (BitVec.ofNat 32 b.val) 0#32) (IntOp.addi (BitVec.ofNat 32 b.val) 10#32) (BitVec.ofNat 32 b.val) = BitVec.ofNat 32 b.val
      ∧ IntOp.andi (IntOp.cmpi .sge (BitVec.ofNat 32 b.val) 0#32) (IntOp.cmpi .sle (BitVec.ofNat 32 b.val) 9#32) = 1#1 := by
  decide

/-- The bucket of word `n`, as a row of the table. -/
abbrev rowOf (X : IVec S1000000 32) (n : ℕ) : Fin 10 := ⟨bucket (wordAt X n).toNat, Nat.lt_succ_of_le (bucket_le _)⟩

theorem rowIx_apply (X : IVec S1000000 32) (n : Fin 1000000) (z : Fin 1) (hX : (wordAt X n.val).toNat < 128) :
    rowIx (counts X) (ix2 n z) = BitVec.ofNat 32 (rowOf X n.val).val := by
  unfold rowIx
  rw [broadcastInDim_apply _ _ _ _ (ix1 n) (fun a => match a with | ⟨0, _⟩ => rfl)]
  show Scalar.select (IntOp.cmpi .slt (counts X (ix1 n)) 0#32) (IntOp.addi (counts X (ix1 n)) 10#32) (counts X (ix1 n)) = _
  rw [counts_apply X n hX]
  exact (row_word (rowOf X n.val)).1

theorem rowOk_apply (X : IVec S1000000 32) (hX : ∀ n, (wordAt X n).toNat < 128) (i : S1000000.Idx) :
    rowOk (rowIx (counts X)) i = 1#1 := by
  unfold rowOk
  refine Host.reduce_andi_one _ _ _ _ _ rfl fun j => ?_
  obtain ⟨n, z, rfl⟩ : ∃ (n : Fin 1000000) (z : Fin 1), j = ix2 n z := ⟨j 0, j 1, eq_ix2 j⟩
  show IntOp.andi (IntOp.cmpi .sge (rowIx (counts X) (ix2 n z)) 0#32) (IntOp.cmpi .sle (rowIx (counts X) (ix2 n z)) 9#32) = 1#1
  rw [rowIx_apply X n z (hX _)]
  exact (row_word (rowOf X n.val)).2

/-- Entry `(n, j)` of the reference's result. -/
theorem out_apply (X : IVec S1000000 32) (A : FVec F S10x20 .f32) (hX : ∀ n, (wordAt X n).toNat < 128) (n : Fin 1000000) (j : Fin 20) :
    out X A (ix2 n j) = A (ix2 (rowOf X n.val) j) := by
  unfold out rows
  rw [select_apply, broadcastInDim_apply _ _ _ _ (ix1 n) (fun a => match a with | ⟨0, _⟩ => rfl), rowOk_apply X hX]
  show Host.gather _ A (rowIx (counts X)) (ix2 n j) = _
  exact Routing.gather_row gather_S10x20_S1000000x1_S1000000x20_1_0_n_n_0_1_120 rfl rfl rfl rfl rfl A _ n j (rowOf X n.val)
    (rowIx_apply X n 0 (hX _)) (by norm_num)

end Cert.Proof.Ref

namespace Cert.Proof.Run

open Cert.KernelIdeal Cert.KernelIdeal.Gen
open Idealize.ShloMosaic Idealize.ShloMosaic.ValueIdx

variable {F : FTy → Type} [FloatOps F]

/-- Entry `(n, j)` of the kernel's result. -/
theorem resV_apply (m : (ℓ : Loc nD τ sig) → Buf (Elt F) ℓ) (d : Dev nD) (hpre : PreOK m) (n : Fin 1000000) (j : Fin 20) :
    (resV m d : Vec F S1000000x20 .f32) (ix2 n j)
      = (m (aLoc d) : Vec F S10x20 .f32) (ix2 (Cert.Proof.Ref.rowOf (m (xLoc d)) n.val) j) := by
  rw [resV_eq, transpose_apply _ _ _ _ (ix2 j n) (fun b => match b with | ⟨0, _⟩ => rfl | ⟨1, _⟩ => rfl)]
  have hw := hpre d n.val
  have hb := bucket_le (wordAt (m (xLoc d)) n.val).toNat
  have hj := j.isLt
  show lutV (flat m d) ((wordAt (m (xLoc d)) n.val).toNat + 128 * j.val) = _
  unfold lutV
  rw [show ((wordAt (m (xLoc d)) n.val).toNat + 128 * j.val) % 128 = (wordAt (m (xLoc d)) n.val).toNat by omega,
    show ((wordAt (m (xLoc d)) n.val).toNat + 128 * j.val) / 128 = j.val by omega]
  unfold tabAt
  rw [flat_eq]
  refine shapeCast_apply _ _ _ _ ?_
  refine (Shape.rowMajor_val_two (d := ![10, 20]) _).trans (Eq.trans ?_ (Shape.rowMajor_val_one (d := ![200]) _).symm)
  show bucket (wordAt (m (xLoc d)) n.val).toNat * 20 + j.val = (bucket (wordAt (m (xLoc d)) n.val).toNat * 20 + j.val) % 200
  omega

/-- The two results are one. -/
theorem result_eq (m : (ℓ : Loc nD τ sig) → Buf (Elt F) ℓ) (d : Dev nD) (hpre : PreOK m) :
    Cert.Proof.Ref.out (m (xLoc d)) (m (aLoc d)) = (resV m d : Vec F S1000000x20 .f32) := by
  funext i
  obtain ⟨n, j, rfl⟩ : ∃ (n : Fin 1000000) (j : Fin 20), i = ix2 n j := ⟨i 0, i 1, eq_ix2 i⟩
  rw [resV_apply m d hpre]
  exact Cert.Proof.Ref.out_apply _ _ (hpre d) _ _

end Cert.Proof.Run

namespace Cert.Proof

open Idealize.ShloMosaic Idealize.SL.Sem

theorem equation : Cert.algebraic_KernelIdeal_ReferenceIdeal := fun m g m' g' hpre hm => by
  have hok : Run.PreOK m := fun d n => Run.words_of_pre _ _ (hpre d) n
  refine ⟨fun c => Run.resV m c,
    (θ_run Cert.KernelIdeal.defs _ _).mono (fun _ h c => ⟨(h.1 c).2.2, (h.1 c).1, (h.1 c).2.1⟩) (Run.run_main (F := Ideal) m g hok),
    (θ_run Cert.ReferenceIdeal.defs _ _).mono (fun r h c => ⟨?_, (h c _).trans (Ref.arg0_eq _), (h c _).trans (Ref.arg1_eq _)⟩)
      (Ref.run_main (F := Ideal) m' g')⟩
  refine ((h c Cert.ReferenceIdeal.main_v7).trans (Ref.out_eq _)).trans ?_
  refine Eq.trans ?_ (Run.result_eq m c hok)
  exact congr (congrArg Ref.out (hm c).1) (hm c).2

end Cert.Proof

end
-- ==== Proof.lean ====
/- The claims of this certificate, each from the module that proves it: the kernel's frames from its run (Frames.lean), the
   reference's from its own (Ref.lean), and that both leave the same result (Value.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Run.frame_kernel, Run.frame_kernelIdeal, Ref.frame, Ref.frame_in_range, trivial, equation⟩

end Cert.Proof

end
